-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_KeysIn (m : (ℓ : Loc Cert.KeysIn.nD Cert.KeysIn.τ Cert.KeysIn.sig) → Buf (Elt Bits) ℓ) : Prop :=
  True

def Pre_KeysInIdeal (m : (ℓ : Loc Cert.KeysInIdeal.nD Cert.KeysInIdeal.τ Cert.KeysInIdeal.sig) → Buf (Elt Ideal) ℓ) : Prop :=
  True

def Pre_KeysInRefIdeal (m : (ℓ : Loc Cert.KeysInRefIdeal.nD Cert.KeysInRefIdeal.τ Cert.KeysInRefIdeal.sig) → Buf (Elt Ideal) ℓ) : Prop :=
  True

def Pre_ValuesIn (m : (ℓ : Loc Cert.ValuesIn.nD Cert.ValuesIn.τ Cert.ValuesIn.sig) → Buf (Elt Bits) ℓ) : Prop :=
  True

def Pre_ValuesInIdeal (m : (ℓ : Loc Cert.ValuesInIdeal.nD Cert.ValuesInIdeal.τ Cert.ValuesInIdeal.sig) → Buf (Elt Ideal) ℓ) : Prop :=
  True

def Pre_ValuesInRefIdeal (m : (ℓ : Loc Cert.ValuesInRefIdeal.nD Cert.ValuesInRefIdeal.τ Cert.ValuesInRefIdeal.sig) → Buf (Elt Ideal) ℓ) : Prop :=
  True

def Pre_QueriesIn (m : (ℓ : Loc Cert.QueriesIn.nD Cert.QueriesIn.τ Cert.QueriesIn.sig) → Buf (Elt Bits) ℓ) : Prop :=
  True

def Pre_QueriesInIdeal (m : (ℓ : Loc Cert.QueriesInIdeal.nD Cert.QueriesInIdeal.τ Cert.QueriesInIdeal.sig) → Buf (Elt Ideal) ℓ) : Prop :=
  True

def Pre_QueriesInRefIdeal (m : (ℓ : Loc Cert.QueriesInRefIdeal.nD Cert.QueriesInRefIdeal.τ Cert.QueriesInRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def Pre_MixGateIn (m : (ℓ : Loc Cert.MixGateIn.nD Cert.MixGateIn.τ Cert.MixGateIn.sig) → Buf (Elt Bits) ℓ) : Prop :=
  True

def Pre_MixGateInIdeal (m : (ℓ : Loc Cert.MixGateInIdeal.nD Cert.MixGateInIdeal.τ Cert.MixGateInIdeal.sig) → Buf (Elt Ideal) ℓ) : Prop :=
  True

def Pre_MixGateInRefIdeal (m : (ℓ : Loc Cert.MixGateInRefIdeal.nD Cert.MixGateInRefIdeal.τ Cert.MixGateInRefIdeal.sig) → Buf (Elt Ideal) ℓ) : Prop :=
  True

def Pre_GeluIn (m : (ℓ : Loc Cert.GeluIn.nD Cert.GeluIn.τ Cert.GeluIn.sig) → Buf (Elt Bits) ℓ) : Prop :=
  True

def Pre_GeluInIdeal (m : (ℓ : Loc Cert.GeluInIdeal.nD Cert.GeluInIdeal.τ Cert.GeluInIdeal.sig) → Buf (Elt Ideal) ℓ) : Prop :=
  True

def Pre_GeluInRefIdeal (m : (ℓ : Loc Cert.GeluInRefIdeal.nD Cert.GeluInRefIdeal.τ Cert.GeluInRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_NormInSample (m : (ℓ : Loc Cert.NormInSample.nD Cert.NormInSample.τ Cert.NormInSample.sig) → Buf (Elt Bits) ℓ) : Prop :=
  True

def Pre_NormInSampleIdeal (m : (ℓ : Loc Cert.NormInSampleIdeal.nD Cert.NormInSampleIdeal.τ Cert.NormInSampleIdeal.sig) → Buf (Elt Ideal) ℓ) : Prop :=
  True

def Pre_NormInSampleRefIdeal (m : (ℓ : Loc Cert.NormInSampleRefIdeal.nD Cert.NormInSampleRefIdeal.τ Cert.NormInSampleRefIdeal.sig) → Buf (Elt Ideal) ℓ) : Prop :=
  True

def Pre_FinalNormSample (m : (ℓ : Loc Cert.FinalNormSample.nD Cert.FinalNormSample.τ Cert.FinalNormSample.sig) → Buf (Elt Bits) ℓ) : Prop :=
  True

def Pre_FinalNormSampleIdeal (m : (ℓ : Loc Cert.FinalNormSampleIdeal.nD Cert.FinalNormSampleIdeal.τ Cert.FinalNormSampleIdeal.sig) → Buf (Elt Ideal) ℓ) : Prop :=
  True

def Pre_FinalNormSampleRefIdeal (m : (ℓ : Loc Cert.FinalNormSampleRefIdeal.nD Cert.FinalNormSampleRefIdeal.τ Cert.FinalNormSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4))
      ∧ r.2.sem = fun _ => 0)

def quiescent_KeysIn [hKeysIn : Cert.KeysIn.Facts] : Prop :=
  ∀ (m : (ℓ : Loc Cert.KeysIn.nD Cert.KeysIn.τ Cert.KeysIn.sig) → Buf (Elt Bits) ℓ) (g : Dev Cert.KeysIn.nD → PrngReg), Pre_KeysIn m →
    θ_run (Cert.KeysIn.defs (F := Bits)) (onTc (τ := Cert.KeysIn.τ) (Cert.KeysIn.main (F := Bits))) ⟨m, fun _ => 0, g⟩ (fun r => (∀ c : Dev Cert.KeysIn.nD,
      r.2.mem ((c.tc : Thread Cert.KeysIn.nD Cert.KeysIn.τ).loc Cert.KeysIn.main_arg0) = m ((c.tc : Thread Cert.KeysIn.nD Cert.KeysIn.τ).loc Cert.KeysIn.main_arg0)
      ∧ r.2.mem ((c.tc : Thread Cert.KeysIn.nD Cert.KeysIn.τ).loc Cert.KeysIn.main_arg1) = m ((c.tc : Thread Cert.KeysIn.nD Cert.KeysIn.τ).loc Cert.KeysIn.main_arg1)
      ∧ r.2.mem ((c.tc : Thread Cert.KeysIn.nD Cert.KeysIn.τ).loc Cert.KeysIn.main_arg2) = m ((c.tc : Thread Cert.KeysIn.nD Cert.KeysIn.τ).loc Cert.KeysIn.main_arg2)
      ∧ r.2.mem ((c.tc : Thread Cert.KeysIn.nD Cert.KeysIn.τ).loc Cert.KeysIn.main_arg3) = m ((c.tc : Thread Cert.KeysIn.nD Cert.KeysIn.τ).loc Cert.KeysIn.main_arg3))
      ∧ r.2.sem = fun _ => 0)

def quiescent_KeysInIdeal [hKeysInIdeal : Cert.KeysInIdeal.Facts] : Prop :=
  ∀ (m : (ℓ : Loc Cert.KeysInIdeal.nD Cert.KeysInIdeal.τ Cert.KeysInIdeal.sig) → Buf (Elt Ideal) ℓ) (g : Dev Cert.KeysInIdeal.nD → PrngReg), Pre_KeysInIdeal m →
    θ_run (Cert.KeysInIdeal.defs (F := Ideal)) (onTc (τ := Cert.KeysInIdeal.τ) (Cert.KeysInIdeal.main (F := Ideal))) ⟨m, fun _ => 0, g⟩ (fun r => (∀ c : Dev Cert.KeysInIdeal.nD,
      r.2.mem ((c.tc : Thread Cert.KeysInIdeal.nD Cert.KeysInIdeal.τ).loc Cert.KeysInIdeal.main_arg0) = m ((c.tc : Thread Cert.KeysInIdeal.nD Cert.KeysInIdeal.τ).loc Cert.KeysInIdeal.main_arg0)
      ∧ r.2.mem ((c.tc : Thread Cert.KeysInIdeal.nD Cert.KeysInIdeal.τ).loc Cert.KeysInIdeal.main_arg1) = m ((c.tc : Thread Cert.KeysInIdeal.nD Cert.KeysInIdeal.τ).loc Cert.KeysInIdeal.main_arg1)
      ∧ r.2.mem ((c.tc : Thread Cert.KeysInIdeal.nD Cert.KeysInIdeal.τ).loc Cert.KeysInIdeal.main_arg2) = m ((c.tc : Thread Cert.KeysInIdeal.nD Cert.KeysInIdeal.τ).loc Cert.KeysInIdeal.main_arg2)
      ∧ r.2.mem ((c.tc : Thread Cert.KeysInIdeal.nD Cert.KeysInIdeal.τ).loc Cert.KeysInIdeal.main_arg3) = m ((c.tc : Thread Cert.KeysInIdeal.nD Cert.KeysInIdeal.τ).loc Cert.KeysInIdeal.main_arg3))
      ∧ r.2.sem = fun _ => 0)

def quiescent_KeysInRefIdeal [hKeysInRefIdeal : Cert.KeysInRefIdeal.Facts] : Prop :=
  ∀ (m : (ℓ : Loc Cert.KeysInRefIdeal.nD Cert.KeysInRefIdeal.τ Cert.KeysInRefIdeal.sig) → Buf (Elt Ideal) ℓ) (g : Dev Cert.KeysInRefIdeal.nD → PrngReg), Pre_KeysInRefIdeal m →
    θ_run (Cert.KeysInRefIdeal.defs (F := Ideal)) (onTc (τ := Cert.KeysInRefIdeal.τ) (Cert.KeysInRefIdeal.main (F := Ideal))) ⟨m, fun _ => 0, g⟩ (fun r => (∀ c : Dev Cert.KeysInRefIdeal.nD,
      r.2.mem ((c.tc : Thread Cert.KeysInRefIdeal.nD Cert.KeysInRefIdeal.τ).loc Cert.KeysInRefIdeal.main_arg0) = m ((c.tc : Thread Cert.KeysInRefIdeal.nD Cert.KeysInRefIdeal.τ).loc Cert.KeysInRefIdeal.main_arg0)
      ∧ r.2.mem ((c.tc : Thread Cert.KeysInRefIdeal.nD Cert.KeysInRefIdeal.τ).loc Cert.KeysInRefIdeal.main_arg1) = m ((c.tc : Thread Cert.KeysInRefIdeal.nD Cert.KeysInRefIdeal.τ).loc Cert.KeysInRefIdeal.main_arg1)
      ∧ r.2.mem ((c.tc : Thread Cert.KeysInRefIdeal.nD Cert.KeysInRefIdeal.τ).loc Cert.KeysInRefIdeal.main_arg2) = m ((c.tc : Thread Cert.KeysInRefIdeal.nD Cert.KeysInRefIdeal.τ).loc Cert.KeysInRefIdeal.main_arg2)
      ∧ r.2.mem ((c.tc : Thread Cert.KeysInRefIdeal.nD Cert.KeysInRefIdeal.τ).loc Cert.KeysInRefIdeal.main_arg3) = m ((c.tc : Thread Cert.KeysInRefIdeal.nD Cert.KeysInRefIdeal.τ).loc Cert.KeysInRefIdeal.main_arg3))
      ∧ r.2.sem = fun _ => 0)

def quiescent_ValuesIn [hValuesIn : Cert.ValuesIn.Facts] : Prop :=
  ∀ (m : (ℓ : Loc Cert.ValuesIn.nD Cert.ValuesIn.τ Cert.ValuesIn.sig) → Buf (Elt Bits) ℓ) (g : Dev Cert.ValuesIn.nD → PrngReg), Pre_ValuesIn m →
    θ_run (Cert.ValuesIn.defs (F := Bits)) (onTc (τ := Cert.ValuesIn.τ) (Cert.ValuesIn.main (F := Bits))) ⟨m, fun _ => 0, g⟩ (fun r => (∀ c : Dev Cert.ValuesIn.nD,
      r.2.mem ((c.tc : Thread Cert.ValuesIn.nD Cert.ValuesIn.τ).loc Cert.ValuesIn.main_arg0) = m ((c.tc : Thread Cert.ValuesIn.nD Cert.ValuesIn.τ).loc Cert.ValuesIn.main_arg0)
      ∧ r.2.mem ((c.tc : Thread Cert.ValuesIn.nD Cert.ValuesIn.τ).loc Cert.ValuesIn.main_arg1) = m ((c.tc : Thread Cert.ValuesIn.nD Cert.ValuesIn.τ).loc Cert.ValuesIn.main_arg1)
      ∧ r.2.mem ((c.tc : Thread Cert.ValuesIn.nD Cert.ValuesIn.τ).loc Cert.ValuesIn.main_arg2) = m ((c.tc : Thread Cert.ValuesIn.nD Cert.ValuesIn.τ).loc Cert.ValuesIn.main_arg2)
      ∧ r.2.mem ((c.tc : Thread Cert.ValuesIn.nD Cert.ValuesIn.τ).loc Cert.ValuesIn.main_arg3) = m ((c.tc : Thread Cert.ValuesIn.nD Cert.ValuesIn.τ).loc Cert.ValuesIn.main_arg3))
      ∧ r.2.sem = fun _ => 0)

def quiescent_ValuesInIdeal [hValuesInIdeal : Cert.ValuesInIdeal.Facts] : Prop :=
  ∀ (m : (ℓ : Loc Cert.ValuesInIdeal.nD Cert.ValuesInIdeal.τ Cert.ValuesInIdeal.sig) → Buf (Elt Ideal) ℓ) (g : Dev Cert.ValuesInIdeal.nD → PrngReg), Pre_ValuesInIdeal m →
    θ_run (Cert.ValuesInIdeal.defs (F := Ideal)) (onTc (τ := Cert.ValuesInIdeal.τ) (Cert.ValuesInIdeal.main (F := Ideal))) ⟨m, fun _ => 0, g⟩ (fun r => (∀ c : Dev Cert.ValuesInIdeal.nD,
      r.2.mem ((c.tc : Thread Cert.ValuesInIdeal.nD Cert.ValuesInIdeal.τ).loc Cert.ValuesInIdeal.main_arg0) = m ((c.tc : Thread Cert.ValuesInIdeal.nD Cert.ValuesInIdeal.τ).loc Cert.ValuesInIdeal.main_arg0)
      ∧ r.2.mem ((c.tc : Thread Cert.ValuesInIdeal.nD Cert.ValuesInIdeal.τ).loc Cert.ValuesInIdeal.main_arg1) = m ((c.tc : Thread Cert.ValuesInIdeal.nD Cert.ValuesInIdeal.τ).loc Cert.ValuesInIdeal.main_arg1)
      ∧ r.2.mem ((c.tc : Thread Cert.ValuesInIdeal.nD Cert.ValuesInIdeal.τ).loc Cert.ValuesInIdeal.main_arg2) = m ((c.tc : Thread Cert.ValuesInIdeal.nD Cert.ValuesInIdeal.τ).loc Cert.ValuesInIdeal.main_arg2)
      ∧ r.2.mem ((c.tc : Thread Cert.ValuesInIdeal.nD Cert.ValuesInIdeal.τ).loc Cert.ValuesInIdeal.main_arg3) = m ((c.tc : Thread Cert.ValuesInIdeal.nD Cert.ValuesInIdeal.τ).loc Cert.ValuesInIdeal.main_arg3))
      ∧ r.2.sem = fun _ => 0)

def quiescent_ValuesInRefIdeal [hValuesInRefIdeal : Cert.ValuesInRefIdeal.Facts] : Prop :=
  ∀ (m : (ℓ : Loc Cert.ValuesInRefIdeal.nD Cert.ValuesInRefIdeal.τ Cert.ValuesInRefIdeal.sig) → Buf (Elt Ideal) ℓ) (g : Dev Cert.ValuesInRefIdeal.nD → PrngReg), Pre_ValuesInRefIdeal m →
    θ_run (Cert.ValuesInRefIdeal.defs (F := Ideal)) (onTc (τ := Cert.ValuesInRefIdeal.τ) (Cert.ValuesInRefIdeal.main (F := Ideal))) ⟨m, fun _ => 0, g⟩ (fun r => (∀ c : Dev Cert.ValuesInRefIdeal.nD,
      r.2.mem ((c.tc : Thread Cert.ValuesInRefIdeal.nD Cert.ValuesInRefIdeal.τ).loc Cert.ValuesInRefIdeal.main_arg0) = m ((c.tc : Thread Cert.ValuesInRefIdeal.nD Cert.ValuesInRefIdeal.τ).loc Cert.ValuesInRefIdeal.main_arg0)
      ∧ r.2.mem ((c.tc : Thread Cert.ValuesInRefIdeal.nD Cert.ValuesInRefIdeal.τ).loc Cert.ValuesInRefIdeal.main_arg1) = m ((c.tc : Thread Cert.ValuesInRefIdeal.nD Cert.ValuesInRefIdeal.τ).loc Cert.ValuesInRefIdeal.main_arg1)
      ∧ r.2.mem ((c.tc : Thread Cert.ValuesInRefIdeal.nD Cert.ValuesInRefIdeal.τ).loc Cert.ValuesInRefIdeal.main_arg2) = m ((c.tc : Thread Cert.ValuesInRefIdeal.nD Cert.ValuesInRefIdeal.τ).loc Cert.ValuesInRefIdeal.main_arg2)
      ∧ r.2.mem ((c.tc : Thread Cert.ValuesInRefIdeal.nD Cert.ValuesInRefIdeal.τ).loc Cert.ValuesInRefIdeal.main_arg3) = m ((c.tc : Thread Cert.ValuesInRefIdeal.nD Cert.ValuesInRefIdeal.τ).loc Cert.ValuesInRefIdeal.main_arg3))
      ∧ r.2.sem = fun _ => 0)

def quiescent_QueriesIn [hQueriesIn : Cert.QueriesIn.Facts] : Prop :=
  ∀ (m : (ℓ : Loc Cert.QueriesIn.nD Cert.QueriesIn.τ Cert.QueriesIn.sig) → Buf (Elt Bits) ℓ) (g : Dev Cert.QueriesIn.nD → PrngReg), Pre_QueriesIn m →
    θ_run (Cert.QueriesIn.defs (F := Bits)) (onTc (τ := Cert.QueriesIn.τ) (Cert.QueriesIn.main (F := Bits))) ⟨m, fun _ => 0, g⟩ (fun r => (∀ c : Dev Cert.QueriesIn.nD,
      r.2.mem ((c.tc : Thread Cert.QueriesIn.nD Cert.QueriesIn.τ).loc Cert.QueriesIn.main_arg0) = m ((c.tc : Thread Cert.QueriesIn.nD Cert.QueriesIn.τ).loc Cert.QueriesIn.main_arg0)
      ∧ r.2.mem ((c.tc : Thread Cert.QueriesIn.nD Cert.QueriesIn.τ).loc Cert.QueriesIn.main_arg1) = m ((c.tc : Thread Cert.QueriesIn.nD Cert.QueriesIn.τ).loc Cert.QueriesIn.main_arg1)
      ∧ r.2.mem ((c.tc : Thread Cert.QueriesIn.nD Cert.QueriesIn.τ).loc Cert.QueriesIn.main_arg2) = m ((c.tc : Thread Cert.QueriesIn.nD Cert.QueriesIn.τ).loc Cert.QueriesIn.main_arg2)
      ∧ r.2.mem ((c.tc : Thread Cert.QueriesIn.nD Cert.QueriesIn.τ).loc Cert.QueriesIn.main_arg3) = m ((c.tc : Thread Cert.QueriesIn.nD Cert.QueriesIn.τ).loc Cert.QueriesIn.main_arg3))
      ∧ r.2.sem = fun _ => 0)

def quiescent_QueriesInIdeal [hQueriesInIdeal : Cert.QueriesInIdeal.Facts] : Prop :=
  ∀ (m : (ℓ : Loc Cert.QueriesInIdeal.nD Cert.QueriesInIdeal.τ Cert.QueriesInIdeal.sig) → Buf (Elt Ideal) ℓ) (g : Dev Cert.QueriesInIdeal.nD → PrngReg), Pre_QueriesInIdeal m →
    θ_run (Cert.QueriesInIdeal.defs (F := Ideal)) (onTc (τ := Cert.QueriesInIdeal.τ) (Cert.QueriesInIdeal.main (F := Ideal))) ⟨m, fun _ => 0, g⟩ (fun r => (∀ c : Dev Cert.QueriesInIdeal.nD,
      r.2.mem ((c.tc : Thread Cert.QueriesInIdeal.nD Cert.QueriesInIdeal.τ).loc Cert.QueriesInIdeal.main_arg0) = m ((c.tc : Thread Cert.QueriesInIdeal.nD Cert.QueriesInIdeal.τ).loc Cert.QueriesInIdeal.main_arg0)
      ∧ r.2.mem ((c.tc : Thread Cert.QueriesInIdeal.nD Cert.QueriesInIdeal.τ).loc Cert.QueriesInIdeal.main_arg1) = m ((c.tc : Thread Cert.QueriesInIdeal.nD Cert.QueriesInIdeal.τ).loc Cert.QueriesInIdeal.main_arg1)
      ∧ r.2.mem ((c.tc : Thread Cert.QueriesInIdeal.nD Cert.QueriesInIdeal.τ).loc Cert.QueriesInIdeal.main_arg2) = m ((c.tc : Thread Cert.QueriesInIdeal.nD Cert.QueriesInIdeal.τ).loc Cert.QueriesInIdeal.main_arg2)
      ∧ r.2.mem ((c.tc : Thread Cert.QueriesInIdeal.nD Cert.QueriesInIdeal.τ).loc Cert.QueriesInIdeal.main_arg3) = m ((c.tc : Thread Cert.QueriesInIdeal.nD Cert.QueriesInIdeal.τ).loc Cert.QueriesInIdeal.main_arg3))
      ∧ r.2.sem = fun _ => 0)

def quiescent_QueriesInRefIdeal [hQueriesInRefIdeal : Cert.QueriesInRefIdeal.Facts] : Prop :=
  ∀ (m : (ℓ : Loc Cert.QueriesInRefIdeal.nD Cert.QueriesInRefIdeal.τ Cert.QueriesInRefIdeal.sig) → Buf (Elt Ideal) ℓ) (g : Dev Cert.QueriesInRefIdeal.nD → PrngReg), Pre_QueriesInRefIdeal m →
    θ_run (Cert.QueriesInRefIdeal.defs (F := Ideal)) (onTc (τ := Cert.QueriesInRefIdeal.τ) (Cert.QueriesInRefIdeal.main (F := Ideal))) ⟨m, fun _ => 0, g⟩ (fun r => (∀ c : Dev Cert.QueriesInRefIdeal.nD,
      r.2.mem ((c.tc : Thread Cert.QueriesInRefIdeal.nD Cert.QueriesInRefIdeal.τ).loc Cert.QueriesInRefIdeal.main_arg0) = m ((c.tc : Thread Cert.QueriesInRefIdeal.nD Cert.QueriesInRefIdeal.τ).loc Cert.QueriesInRefIdeal.main_arg0)
      ∧ r.2.mem ((c.tc : Thread Cert.QueriesInRefIdeal.nD Cert.QueriesInRefIdeal.τ).loc Cert.QueriesInRefIdeal.main_arg1) = m ((c.tc : Thread Cert.QueriesInRefIdeal.nD Cert.QueriesInRefIdeal.τ).loc Cert.QueriesInRefIdeal.main_arg1)
      ∧ r.2.mem ((c.tc : Thread Cert.QueriesInRefIdeal.nD Cert.QueriesInRefIdeal.τ).loc Cert.QueriesInRefIdeal.main_arg2) = m ((c.tc : Thread Cert.QueriesInRefIdeal.nD Cert.QueriesInRefIdeal.τ).loc Cert.QueriesInRefIdeal.main_arg2)
      ∧ r.2.mem ((c.tc : Thread Cert.QueriesInRefIdeal.nD Cert.QueriesInRefIdeal.τ).loc Cert.QueriesInRefIdeal.main_arg3) = m ((c.tc : Thread Cert.QueriesInRefIdeal.nD Cert.QueriesInRefIdeal.τ).loc Cert.QueriesInRefIdeal.main_arg3))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1)
      ∧ r.2.mem ((c.tc : Thread Cert.GateIn.nD Cert.GateIn.τ).loc Cert.GateIn.main_arg2) = m ((c.tc : Thread Cert.GateIn.nD Cert.GateIn.τ).loc Cert.GateIn.main_arg2)
      ∧ r.2.mem ((c.tc : Thread Cert.GateIn.nD Cert.GateIn.τ).loc Cert.GateIn.main_arg3) = m ((c.tc : Thread Cert.GateIn.nD Cert.GateIn.τ).loc Cert.GateIn.main_arg3))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1)
      ∧ r.2.mem ((c.tc : Thread Cert.GateInIdeal.nD Cert.GateInIdeal.τ).loc Cert.GateInIdeal.main_arg2) = m ((c.tc : Thread Cert.GateInIdeal.nD Cert.GateInIdeal.τ).loc Cert.GateInIdeal.main_arg2)
      ∧ r.2.mem ((c.tc : Thread Cert.GateInIdeal.nD Cert.GateInIdeal.τ).loc Cert.GateInIdeal.main_arg3) = m ((c.tc : Thread Cert.GateInIdeal.nD Cert.GateInIdeal.τ).loc Cert.GateInIdeal.main_arg3))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1)
      ∧ r.2.mem ((c.tc : Thread Cert.GateInRefIdeal.nD Cert.GateInRefIdeal.τ).loc Cert.GateInRefIdeal.main_arg2) = m ((c.tc : Thread Cert.GateInRefIdeal.nD Cert.GateInRefIdeal.τ).loc Cert.GateInRefIdeal.main_arg2)
      ∧ r.2.mem ((c.tc : Thread Cert.GateInRefIdeal.nD Cert.GateInRefIdeal.τ).loc Cert.GateInRefIdeal.main_arg3) = m ((c.tc : Thread Cert.GateInRefIdeal.nD Cert.GateInRefIdeal.τ).loc Cert.GateInRefIdeal.main_arg3))
      ∧ r.2.sem = fun _ => 0)

def quiescent_MixGateIn [hMixGateIn : Cert.MixGateIn.Facts] : Prop :=
  ∀ (m : (ℓ : Loc Cert.MixGateIn.nD Cert.MixGateIn.τ Cert.MixGateIn.sig) → Buf (Elt Bits) ℓ) (g : Dev Cert.MixGateIn.nD → PrngReg), Pre_MixGateIn m →
    θ_run (Cert.MixGateIn.defs (F := Bits)) (onTc (τ := Cert.MixGateIn.τ) (Cert.MixGateIn.main (F := Bits))) ⟨m, fun _ => 0, g⟩ (fun r => (∀ c : Dev Cert.MixGateIn.nD,
      r.2.mem ((c.tc : Thread Cert.MixGateIn.nD Cert.MixGateIn.τ).loc Cert.MixGateIn.main_arg0) = m ((c.tc : Thread Cert.MixGateIn.nD Cert.MixGateIn.τ).loc Cert.MixGateIn.main_arg0)
      ∧ r.2.mem ((c.tc : Thread Cert.MixGateIn.nD Cert.MixGateIn.τ).loc Cert.MixGateIn.main_arg1) = m ((c.tc : Thread Cert.MixGateIn.nD Cert.MixGateIn.τ).loc Cert.MixGateIn.main_arg1)
      ∧ r.2.mem ((c.tc : Thread Cert.MixGateIn.nD Cert.MixGateIn.τ).loc Cert.MixGateIn.main_arg2) = m ((c.tc : Thread Cert.MixGateIn.nD Cert.MixGateIn.τ).loc Cert.MixGateIn.main_arg2)
      ∧ r.2.mem ((c.tc : Thread Cert.MixGateIn.nD Cert.MixGateIn.τ).loc Cert.MixGateIn.main_arg3) = m ((c.tc : Thread Cert.MixGateIn.nD Cert.MixGateIn.τ).loc Cert.MixGateIn.main_arg3))
      ∧ r.2.sem = fun _ => 0)

def quiescent_MixGateInIdeal [hMixGateInIdeal : Cert.MixGateInIdeal.Facts] : Prop :=
  ∀ (m : (ℓ : Loc Cert.MixGateInIdeal.nD Cert.MixGateInIdeal.τ Cert.MixGateInIdeal.sig) → Buf (Elt Ideal) ℓ) (g : Dev Cert.MixGateInIdeal.nD → PrngReg), Pre_MixGateInIdeal m →
    θ_run (Cert.MixGateInIdeal.defs (F := Ideal)) (onTc (τ := Cert.MixGateInIdeal.τ) (Cert.MixGateInIdeal.main (F := Ideal))) ⟨m, fun _ => 0, g⟩ (fun r => (∀ c : Dev Cert.MixGateInIdeal.nD,
      r.2.mem ((c.tc : Thread Cert.MixGateInIdeal.nD Cert.MixGateInIdeal.τ).loc Cert.MixGateInIdeal.main_arg0) = m ((c.tc : Thread Cert.MixGateInIdeal.nD Cert.MixGateInIdeal.τ).loc Cert.MixGateInIdeal.main_arg0)
      ∧ r.2.mem ((c.tc : Thread Cert.MixGateInIdeal.nD Cert.MixGateInIdeal.τ).loc Cert.MixGateInIdeal.main_arg1) = m ((c.tc : Thread Cert.MixGateInIdeal.nD Cert.MixGateInIdeal.τ).loc Cert.MixGateInIdeal.main_arg1)
      ∧ r.2.mem ((c.tc : Thread Cert.MixGateInIdeal.nD Cert.MixGateInIdeal.τ).loc Cert.MixGateInIdeal.main_arg2) = m ((c.tc : Thread Cert.MixGateInIdeal.nD Cert.MixGateInIdeal.τ).loc Cert.MixGateInIdeal.main_arg2)
      ∧ r.2.mem ((c.tc : Thread Cert.MixGateInIdeal.nD Cert.MixGateInIdeal.τ).loc Cert.MixGateInIdeal.main_arg3) = m ((c.tc : Thread Cert.MixGateInIdeal.nD Cert.MixGateInIdeal.τ).loc Cert.MixGateInIdeal.main_arg3))
      ∧ r.2.sem = fun _ => 0)

def quiescent_MixGateInRefIdeal [hMixGateInRefIdeal : Cert.MixGateInRefIdeal.Facts] : Prop :=
  ∀ (m : (ℓ : Loc Cert.MixGateInRefIdeal.nD Cert.MixGateInRefIdeal.τ Cert.MixGateInRefIdeal.sig) → Buf (Elt Ideal) ℓ) (g : Dev Cert.MixGateInRefIdeal.nD → PrngReg), Pre_MixGateInRefIdeal m →
    θ_run (Cert.MixGateInRefIdeal.defs (F := Ideal)) (onTc (τ := Cert.MixGateInRefIdeal.τ) (Cert.MixGateInRefIdeal.main (F := Ideal))) ⟨m, fun _ => 0, g⟩ (fun r => (∀ c : Dev Cert.MixGateInRefIdeal.nD,
      r.2.mem ((c.tc : Thread Cert.MixGateInRefIdeal.nD Cert.MixGateInRefIdeal.τ).loc Cert.MixGateInRefIdeal.main_arg0) = m ((c.tc : Thread Cert.MixGateInRefIdeal.nD Cert.MixGateInRefIdeal.τ).loc Cert.MixGateInRefIdeal.main_arg0)
      ∧ r.2.mem ((c.tc : Thread Cert.MixGateInRefIdeal.nD Cert.MixGateInRefIdeal.τ).loc Cert.MixGateInRefIdeal.main_arg1) = m ((c.tc : Thread Cert.MixGateInRefIdeal.nD Cert.MixGateInRefIdeal.τ).loc Cert.MixGateInRefIdeal.main_arg1)
      ∧ r.2.mem ((c.tc : Thread Cert.MixGateInRefIdeal.nD Cert.MixGateInRefIdeal.τ).loc Cert.MixGateInRefIdeal.main_arg2) = m ((c.tc : Thread Cert.MixGateInRefIdeal.nD Cert.MixGateInRefIdeal.τ).loc Cert.MixGateInRefIdeal.main_arg2)
      ∧ r.2.mem ((c.tc : Thread Cert.MixGateInRefIdeal.nD Cert.MixGateInRefIdeal.τ).loc Cert.MixGateInRefIdeal.main_arg3) = m ((c.tc : Thread Cert.MixGateInRefIdeal.nD Cert.MixGateInRefIdeal.τ).loc Cert.MixGateInRefIdeal.main_arg3))
      ∧ r.2.sem = fun _ => 0)

def quiescent_GeluIn [hGeluIn : Cert.GeluIn.Facts] : Prop :=
  ∀ (m : (ℓ : Loc Cert.GeluIn.nD Cert.GeluIn.τ Cert.GeluIn.sig) → Buf (Elt Bits) ℓ) (g : Dev Cert.GeluIn.nD → PrngReg), Pre_GeluIn m →
    θ_run (Cert.GeluIn.defs (F := Bits)) (onTc (τ := Cert.GeluIn.τ) (Cert.GeluIn.main (F := Bits))) ⟨m, fun _ => 0, g⟩ (fun r => (∀ c : Dev Cert.GeluIn.nD,
      r.2.mem ((c.tc : Thread Cert.GeluIn.nD Cert.GeluIn.τ).loc Cert.GeluIn.main_arg0) = m ((c.tc : Thread Cert.GeluIn.nD Cert.GeluIn.τ).loc Cert.GeluIn.main_arg0)
      ∧ r.2.mem ((c.tc : Thread Cert.GeluIn.nD Cert.GeluIn.τ).loc Cert.GeluIn.main_arg1) = m ((c.tc : Thread Cert.GeluIn.nD Cert.GeluIn.τ).loc Cert.GeluIn.main_arg1)
      ∧ r.2.mem ((c.tc : Thread Cert.GeluIn.nD Cert.GeluIn.τ).loc Cert.GeluIn.main_arg2) = m ((c.tc : Thread Cert.GeluIn.nD Cert.GeluIn.τ).loc Cert.GeluIn.main_arg2)
      ∧ r.2.mem ((c.tc : Thread Cert.GeluIn.nD Cert.GeluIn.τ).loc Cert.GeluIn.main_arg3) = m ((c.tc : Thread Cert.GeluIn.nD Cert.GeluIn.τ).loc Cert.GeluIn.main_arg3))
      ∧ r.2.sem = fun _ => 0)

def quiescent_GeluInIdeal [hGeluInIdeal : Cert.GeluInIdeal.Facts] : Prop :=
  ∀ (m : (ℓ : Loc Cert.GeluInIdeal.nD Cert.GeluInIdeal.τ Cert.GeluInIdeal.sig) → Buf (Elt Ideal) ℓ) (g : Dev Cert.GeluInIdeal.nD → PrngReg), Pre_GeluInIdeal m →
    θ_run (Cert.GeluInIdeal.defs (F := Ideal)) (onTc (τ := Cert.GeluInIdeal.τ) (Cert.GeluInIdeal.main (F := Ideal))) ⟨m, fun _ => 0, g⟩ (fun r => (∀ c : Dev Cert.GeluInIdeal.nD,
      r.2.mem ((c.tc : Thread Cert.GeluInIdeal.nD Cert.GeluInIdeal.τ).loc Cert.GeluInIdeal.main_arg0) = m ((c.tc : Thread Cert.GeluInIdeal.nD Cert.GeluInIdeal.τ).loc Cert.GeluInIdeal.main_arg0)
      ∧ r.2.mem ((c.tc : Thread Cert.GeluInIdeal.nD Cert.GeluInIdeal.τ).loc Cert.GeluInIdeal.main_arg1) = m ((c.tc : Thread Cert.GeluInIdeal.nD Cert.GeluInIdeal.τ).loc Cert.GeluInIdeal.main_arg1)
      ∧ r.2.mem ((c.tc : Thread Cert.GeluInIdeal.nD Cert.GeluInIdeal.τ).loc Cert.GeluInIdeal.main_arg2) = m ((c.tc : Thread Cert.GeluInIdeal.nD Cert.GeluInIdeal.τ).loc Cert.GeluInIdeal.main_arg2)
      ∧ r.2.mem ((c.tc : Thread Cert.GeluInIdeal.nD Cert.GeluInIdeal.τ).loc Cert.GeluInIdeal.main_arg3) = m ((c.tc : Thread Cert.GeluInIdeal.nD Cert.GeluInIdeal.τ).loc Cert.GeluInIdeal.main_arg3))
      ∧ r.2.sem = fun _ => 0)

def quiescent_GeluInRefIdeal [hGeluInRefIdeal : Cert.GeluInRefIdeal.Facts] : Prop :=
  ∀ (m : (ℓ : Loc Cert.GeluInRefIdeal.nD Cert.GeluInRefIdeal.τ Cert.GeluInRefIdeal.sig) → Buf (Elt Ideal) ℓ) (g : Dev Cert.GeluInRefIdeal.nD → PrngReg), Pre_GeluInRefIdeal m →
    θ_run (Cert.GeluInRefIdeal.defs (F := Ideal)) (onTc (τ := Cert.GeluInRefIdeal.τ) (Cert.GeluInRefIdeal.main (F := Ideal))) ⟨m, fun _ => 0, g⟩ (fun r => (∀ c : Dev Cert.GeluInRefIdeal.nD,
      r.2.mem ((c.tc : Thread Cert.GeluInRefIdeal.nD Cert.GeluInRefIdeal.τ).loc Cert.GeluInRefIdeal.main_arg0) = m ((c.tc : Thread Cert.GeluInRefIdeal.nD Cert.GeluInRefIdeal.τ).loc Cert.GeluInRefIdeal.main_arg0)
      ∧ r.2.mem ((c.tc : Thread Cert.GeluInRefIdeal.nD Cert.GeluInRefIdeal.τ).loc Cert.GeluInRefIdeal.main_arg1) = m ((c.tc : Thread Cert.GeluInRefIdeal.nD Cert.GeluInRefIdeal.τ).loc Cert.GeluInRefIdeal.main_arg1)
      ∧ r.2.mem ((c.tc : Thread Cert.GeluInRefIdeal.nD Cert.GeluInRefIdeal.τ).loc Cert.GeluInRefIdeal.main_arg2) = m ((c.tc : Thread Cert.GeluInRefIdeal.nD Cert.GeluInRefIdeal.τ).loc Cert.GeluInRefIdeal.main_arg2)
      ∧ r.2.mem ((c.tc : Thread Cert.GeluInRefIdeal.nD Cert.GeluInRefIdeal.τ).loc Cert.GeluInRefIdeal.main_arg3) = m ((c.tc : Thread Cert.GeluInRefIdeal.nD Cert.GeluInRefIdeal.τ).loc Cert.GeluInRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_NormInSample [hNormInSample : Cert.NormInSample.Facts] : Prop :=
  ∀ (m : (ℓ : Loc Cert.NormInSample.nD Cert.NormInSample.τ Cert.NormInSample.sig) → Buf (Elt Bits) ℓ) (g : Dev Cert.NormInSample.nD → PrngReg), Pre_NormInSample m →
    θ_run (Cert.NormInSample.defs (F := Bits)) (onTc (τ := Cert.NormInSample.τ) (Cert.NormInSample.main (F := Bits))) ⟨m, fun _ => 0, g⟩ (fun r => (∀ c : Dev Cert.NormInSample.nD,
      r.2.mem ((c.tc : Thread Cert.NormInSample.nD Cert.NormInSample.τ).loc Cert.NormInSample.main_arg0) = m ((c.tc : Thread Cert.NormInSample.nD Cert.NormInSample.τ).loc Cert.NormInSample.main_arg0)
      ∧ r.2.mem ((c.tc : Thread Cert.NormInSample.nD Cert.NormInSample.τ).loc Cert.NormInSample.main_arg1) = m ((c.tc : Thread Cert.NormInSample.nD Cert.NormInSample.τ).loc Cert.NormInSample.main_arg1)
      ∧ r.2.mem ((c.tc : Thread Cert.NormInSample.nD Cert.NormInSample.τ).loc Cert.NormInSample.main_arg2) = m ((c.tc : Thread Cert.NormInSample.nD Cert.NormInSample.τ).loc Cert.NormInSample.main_arg2)
      ∧ r.2.mem ((c.tc : Thread Cert.NormInSample.nD Cert.NormInSample.τ).loc Cert.NormInSample.main_arg3) = m ((c.tc : Thread Cert.NormInSample.nD Cert.NormInSample.τ).loc Cert.NormInSample.main_arg3))
      ∧ r.2.sem = fun _ => 0)

def quiescent_NormInSampleIdeal [hNormInSampleIdeal : Cert.NormInSampleIdeal.Facts] : Prop :=
  ∀ (m : (ℓ : Loc Cert.NormInSampleIdeal.nD Cert.NormInSampleIdeal.τ Cert.NormInSampleIdeal.sig) → Buf (Elt Ideal) ℓ) (g : Dev Cert.NormInSampleIdeal.nD → PrngReg), Pre_NormInSampleIdeal m →
    θ_run (Cert.NormInSampleIdeal.defs (F := Ideal)) (onTc (τ := Cert.NormInSampleIdeal.τ) (Cert.NormInSampleIdeal.main (F := Ideal))) ⟨m, fun _ => 0, g⟩ (fun r => (∀ c : Dev Cert.NormInSampleIdeal.nD,
      r.2.mem ((c.tc : Thread Cert.NormInSampleIdeal.nD Cert.NormInSampleIdeal.τ).loc Cert.NormInSampleIdeal.main_arg0) = m ((c.tc : Thread Cert.NormInSampleIdeal.nD Cert.NormInSampleIdeal.τ).loc Cert.NormInSampleIdeal.main_arg0)
      ∧ r.2.mem ((c.tc : Thread Cert.NormInSampleIdeal.nD Cert.NormInSampleIdeal.τ).loc Cert.NormInSampleIdeal.main_arg1) = m ((c.tc : Thread Cert.NormInSampleIdeal.nD Cert.NormInSampleIdeal.τ).loc Cert.NormInSampleIdeal.main_arg1)
      ∧ r.2.mem ((c.tc : Thread Cert.NormInSampleIdeal.nD Cert.NormInSampleIdeal.τ).loc Cert.NormInSampleIdeal.main_arg2) = m ((c.tc : Thread Cert.NormInSampleIdeal.nD Cert.NormInSampleIdeal.τ).loc Cert.NormInSampleIdeal.main_arg2)
      ∧ r.2.mem ((c.tc : Thread Cert.NormInSampleIdeal.nD Cert.NormInSampleIdeal.τ).loc Cert.NormInSampleIdeal.main_arg3) = m ((c.tc : Thread Cert.NormInSampleIdeal.nD Cert.NormInSampleIdeal.τ).loc Cert.NormInSampleIdeal.main_arg3))
      ∧ r.2.sem = fun _ => 0)

def quiescent_NormInSampleRefIdeal [hNormInSampleRefIdeal : Cert.NormInSampleRefIdeal.Facts] : Prop :=
  ∀ (m : (ℓ : Loc Cert.NormInSampleRefIdeal.nD Cert.NormInSampleRefIdeal.τ Cert.NormInSampleRefIdeal.sig) → Buf (Elt Ideal) ℓ) (g : Dev Cert.NormInSampleRefIdeal.nD → PrngReg), Pre_NormInSampleRefIdeal m →
    θ_run (Cert.NormInSampleRefIdeal.defs (F := Ideal)) (onTc (τ := Cert.NormInSampleRefIdeal.τ) (Cert.NormInSampleRefIdeal.main (F := Ideal))) ⟨m, fun _ => 0, g⟩ (fun r => (∀ c : Dev Cert.NormInSampleRefIdeal.nD,
      r.2.mem ((c.tc : Thread Cert.NormInSampleRefIdeal.nD Cert.NormInSampleRefIdeal.τ).loc Cert.NormInSampleRefIdeal.main_arg0) = m ((c.tc : Thread Cert.NormInSampleRefIdeal.nD Cert.NormInSampleRefIdeal.τ).loc Cert.NormInSampleRefIdeal.main_arg0)
      ∧ r.2.mem ((c.tc : Thread Cert.NormInSampleRefIdeal.nD Cert.NormInSampleRefIdeal.τ).loc Cert.NormInSampleRefIdeal.main_arg1) = m ((c.tc : Thread Cert.NormInSampleRefIdeal.nD Cert.NormInSampleRefIdeal.τ).loc Cert.NormInSampleRefIdeal.main_arg1)
      ∧ r.2.mem ((c.tc : Thread Cert.NormInSampleRefIdeal.nD Cert.NormInSampleRefIdeal.τ).loc Cert.NormInSampleRefIdeal.main_arg2) = m ((c.tc : Thread Cert.NormInSampleRefIdeal.nD Cert.NormInSampleRefIdeal.τ).loc Cert.NormInSampleRefIdeal.main_arg2)
      ∧ r.2.mem ((c.tc : Thread Cert.NormInSampleRefIdeal.nD Cert.NormInSampleRefIdeal.τ).loc Cert.NormInSampleRefIdeal.main_arg3) = m ((c.tc : Thread Cert.NormInSampleRefIdeal.nD Cert.NormInSampleRefIdeal.τ).loc Cert.NormInSampleRefIdeal.main_arg3))
      ∧ r.2.sem = fun _ => 0)

def quiescent_FinalNormSample [hFinalNormSample : Cert.FinalNormSample.Facts] : Prop :=
  ∀ (m : (ℓ : Loc Cert.FinalNormSample.nD Cert.FinalNormSample.τ Cert.FinalNormSample.sig) → Buf (Elt Bits) ℓ) (g : Dev Cert.FinalNormSample.nD → PrngReg), Pre_FinalNormSample m →
    θ_run (Cert.FinalNormSample.defs (F := Bits)) (onTc (τ := Cert.FinalNormSample.τ) (Cert.FinalNormSample.main (F := Bits))) ⟨m, fun _ => 0, g⟩ (fun r => (∀ c : Dev Cert.FinalNormSample.nD,
      r.2.mem ((c.tc : Thread Cert.FinalNormSample.nD Cert.FinalNormSample.τ).loc Cert.FinalNormSample.main_arg0) = m ((c.tc : Thread Cert.FinalNormSample.nD Cert.FinalNormSample.τ).loc Cert.FinalNormSample.main_arg0)
      ∧ r.2.mem ((c.tc : Thread Cert.FinalNormSample.nD Cert.FinalNormSample.τ).loc Cert.FinalNormSample.main_arg1) = m ((c.tc : Thread Cert.FinalNormSample.nD Cert.FinalNormSample.τ).loc Cert.FinalNormSample.main_arg1))
      ∧ r.2.sem = fun _ => 0)

def quiescent_FinalNormSampleIdeal [hFinalNormSampleIdeal : Cert.FinalNormSampleIdeal.Facts] : Prop :=
  ∀ (m : (ℓ : Loc Cert.FinalNormSampleIdeal.nD Cert.FinalNormSampleIdeal.τ Cert.FinalNormSampleIdeal.sig) → Buf (Elt Ideal) ℓ) (g : Dev Cert.FinalNormSampleIdeal.nD → PrngReg), Pre_FinalNormSampleIdeal m →
    θ_run (Cert.FinalNormSampleIdeal.defs (F := Ideal)) (onTc (τ := Cert.FinalNormSampleIdeal.τ) (Cert.FinalNormSampleIdeal.main (F := Ideal))) ⟨m, fun _ => 0, g⟩ (fun r => (∀ c : Dev Cert.FinalNormSampleIdeal.nD,
      r.2.mem ((c.tc : Thread Cert.FinalNormSampleIdeal.nD Cert.FinalNormSampleIdeal.τ).loc Cert.FinalNormSampleIdeal.main_arg0) = m ((c.tc : Thread Cert.FinalNormSampleIdeal.nD Cert.FinalNormSampleIdeal.τ).loc Cert.FinalNormSampleIdeal.main_arg0)
      ∧ r.2.mem ((c.tc : Thread Cert.FinalNormSampleIdeal.nD Cert.FinalNormSampleIdeal.τ).loc Cert.FinalNormSampleIdeal.main_arg1) = m ((c.tc : Thread Cert.FinalNormSampleIdeal.nD Cert.FinalNormSampleIdeal.τ).loc Cert.FinalNormSampleIdeal.main_arg1))
      ∧ r.2.sem = fun _ => 0)

def quiescent_FinalNormSampleRefIdeal [hFinalNormSampleRefIdeal : Cert.FinalNormSampleRefIdeal.Facts] : Prop :=
  ∀ (m : (ℓ : Loc Cert.FinalNormSampleRefIdeal.nD Cert.FinalNormSampleRefIdeal.τ Cert.FinalNormSampleRefIdeal.sig) → Buf (Elt Ideal) ℓ) (g : Dev Cert.FinalNormSampleRefIdeal.nD → PrngReg), Pre_FinalNormSampleRefIdeal m →
    θ_run (Cert.FinalNormSampleRefIdeal.defs (F := Ideal)) (onTc (τ := Cert.FinalNormSampleRefIdeal.τ) (Cert.FinalNormSampleRefIdeal.main (F := Ideal))) ⟨m, fun _ => 0, g⟩ (fun r => (∀ c : Dev Cert.FinalNormSampleRefIdeal.nD,
      r.2.mem ((c.tc : Thread Cert.FinalNormSampleRefIdeal.nD Cert.FinalNormSampleRefIdeal.τ).loc Cert.FinalNormSampleRefIdeal.main_arg0) = m ((c.tc : Thread Cert.FinalNormSampleRefIdeal.nD Cert.FinalNormSampleRefIdeal.τ).loc Cert.FinalNormSampleRefIdeal.main_arg0)
      ∧ r.2.mem ((c.tc : Thread Cert.FinalNormSampleRefIdeal.nD Cert.FinalNormSampleRefIdeal.τ).loc Cert.FinalNormSampleRefIdeal.main_arg1) = m ((c.tc : Thread Cert.FinalNormSampleRefIdeal.nD Cert.FinalNormSampleRefIdeal.τ).loc Cert.FinalNormSampleRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0_0)) (v1 : (c : Dev Cert.ConvInIdeal.nD) → Buf (Elt Ideal) ((c.tc : Thread Cert.ConvInIdeal.nD Cert.ConvInIdeal.τ).loc Cert.ConvInIdeal.main_v0_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0_0) = v0 c
          ∧ r.2.mem ((c.tc : Thread Cert.ConvInIdeal.nD Cert.ConvInIdeal.τ).loc Cert.ConvInIdeal.main_v0_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v11) = v0 c
          ∧ r.2.mem ((c.tc : Thread Cert.ConvInRefIdeal.nD Cert.ConvInRefIdeal.τ).loc Cert.ConvInRefIdeal.main_v12) = v1 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v9) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)) →
    ∃ (v0 : (c : Dev Cert.AbOutIdeal.nD) → Buf (Elt Ideal) ((c.tc : Thread Cert.AbOutIdeal.nD Cert.AbOutIdeal.τ).loc Cert.AbOutIdeal.main_v0)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v11) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4))

def preserves_KeysIn_KeysInIdeal : Prop :=
  True

def algebraic_KeysInIdeal_KeysInRefIdeal [hKeysInIdeal : Cert.KeysInIdeal.Facts] [hKeysInRefIdeal : Cert.KeysInRefIdeal.Facts] : Prop :=
  ∀ (m : (ℓ : Loc Cert.KeysInIdeal.nD Cert.KeysInIdeal.τ Cert.KeysInIdeal.sig) → Buf (Elt Ideal) ℓ) (g : Dev Cert.KeysInIdeal.nD → PrngReg)
    (m' : (ℓ : Loc Cert.KeysInRefIdeal.nD Cert.KeysInRefIdeal.τ Cert.KeysInRefIdeal.sig) → Buf (Elt Ideal) ℓ) (g' : Dev Cert.KeysInRefIdeal.nD → PrngReg), Pre_KeysInIdeal m →
    (∀ c : Dev Cert.KeysInIdeal.nD,
      m' ((c.tc : Thread Cert.KeysInRefIdeal.nD Cert.KeysInRefIdeal.τ).loc Cert.KeysInRefIdeal.main_arg0) = m ((c.tc : Thread Cert.KeysInIdeal.nD Cert.KeysInIdeal.τ).loc Cert.KeysInIdeal.main_arg0)
      ∧ m' ((c.tc : Thread Cert.KeysInRefIdeal.nD Cert.KeysInRefIdeal.τ).loc Cert.KeysInRefIdeal.main_arg1) = m ((c.tc : Thread Cert.KeysInIdeal.nD Cert.KeysInIdeal.τ).loc Cert.KeysInIdeal.main_arg1)
      ∧ m' ((c.tc : Thread Cert.KeysInRefIdeal.nD Cert.KeysInRefIdeal.τ).loc Cert.KeysInRefIdeal.main_arg2) = m ((c.tc : Thread Cert.KeysInIdeal.nD Cert.KeysInIdeal.τ).loc Cert.KeysInIdeal.main_arg2)
      ∧ m' ((c.tc : Thread Cert.KeysInRefIdeal.nD Cert.KeysInRefIdeal.τ).loc Cert.KeysInRefIdeal.main_arg3) = m ((c.tc : Thread Cert.KeysInIdeal.nD Cert.KeysInIdeal.τ).loc Cert.KeysInIdeal.main_arg3)) →
    ∃ (v0 : (c : Dev Cert.KeysInIdeal.nD) → Buf (Elt Ideal) ((c.tc : Thread Cert.KeysInIdeal.nD Cert.KeysInIdeal.τ).loc Cert.KeysInIdeal.main_v2_0)) (v1 : (c : Dev Cert.KeysInIdeal.nD) → Buf (Elt Ideal) ((c.tc : Thread Cert.KeysInIdeal.nD Cert.KeysInIdeal.τ).loc Cert.KeysInIdeal.main_v2_1)),
      θ_run (Cert.KeysInIdeal.defs (F := Ideal)) (onTc (τ := Cert.KeysInIdeal.τ) (Cert.KeysInIdeal.main (F := Ideal))) ⟨m, fun _ => 0, g⟩ (fun r => ∀ c : Dev Cert.KeysInIdeal.nD,
          r.2.mem ((c.tc : Thread Cert.KeysInIdeal.nD Cert.KeysInIdeal.τ).loc Cert.KeysInIdeal.main_v2_0) = v0 c
          ∧ r.2.mem ((c.tc : Thread Cert.KeysInIdeal.nD Cert.KeysInIdeal.τ).loc Cert.KeysInIdeal.main_v2_1) = v1 c
          ∧ r.2.mem ((c.tc : Thread Cert.KeysInIdeal.nD Cert.KeysInIdeal.τ).loc Cert.KeysInIdeal.main_arg0) = m ((c.tc : Thread Cert.KeysInIdeal.nD Cert.KeysInIdeal.τ).loc Cert.KeysInIdeal.main_arg0)
          ∧ r.2.mem ((c.tc : Thread Cert.KeysInIdeal.nD Cert.KeysInIdeal.τ).loc Cert.KeysInIdeal.main_arg1) = m ((c.tc : Thread Cert.KeysInIdeal.nD Cert.KeysInIdeal.τ).loc Cert.KeysInIdeal.main_arg1)
          ∧ r.2.mem ((c.tc : Thread Cert.KeysInIdeal.nD Cert.KeysInIdeal.τ).loc Cert.KeysInIdeal.main_arg2) = m ((c.tc : Thread Cert.KeysInIdeal.nD Cert.KeysInIdeal.τ).loc Cert.KeysInIdeal.main_arg2)
          ∧ r.2.mem ((c.tc : Thread Cert.KeysInIdeal.nD Cert.KeysInIdeal.τ).loc Cert.KeysInIdeal.main_arg3) = m ((c.tc : Thread Cert.KeysInIdeal.nD Cert.KeysInIdeal.τ).loc Cert.KeysInIdeal.main_arg3))
      ∧ θ_run (Cert.KeysInRefIdeal.defs (F := Ideal)) (onTc (τ := Cert.KeysInRefIdeal.τ) (Cert.KeysInRefIdeal.main (F := Ideal))) ⟨m', fun _ => 0, g'⟩ (fun r => ∀ c : Dev Cert.KeysInRefIdeal.nD,
          r.2.mem ((c.tc : Thread Cert.KeysInRefIdeal.nD Cert.KeysInRefIdeal.τ).loc Cert.KeysInRefIdeal.main_v6) = v0 c
          ∧ r.2.mem ((c.tc : Thread Cert.KeysInRefIdeal.nD Cert.KeysInRefIdeal.τ).loc Cert.KeysInRefIdeal.main_v9) = v1 c
          ∧ r.2.mem ((c.tc : Thread Cert.KeysInRefIdeal.nD Cert.KeysInRefIdeal.τ).loc Cert.KeysInRefIdeal.main_arg0) = m' ((c.tc : Thread Cert.KeysInRefIdeal.nD Cert.KeysInRefIdeal.τ).loc Cert.KeysInRefIdeal.main_arg0)
          ∧ r.2.mem ((c.tc : Thread Cert.KeysInRefIdeal.nD Cert.KeysInRefIdeal.τ).loc Cert.KeysInRefIdeal.main_arg1) = m' ((c.tc : Thread Cert.KeysInRefIdeal.nD Cert.KeysInRefIdeal.τ).loc Cert.KeysInRefIdeal.main_arg1)
          ∧ r.2.mem ((c.tc : Thread Cert.KeysInRefIdeal.nD Cert.KeysInRefIdeal.τ).loc Cert.KeysInRefIdeal.main_arg2) = m' ((c.tc : Thread Cert.KeysInRefIdeal.nD Cert.KeysInRefIdeal.τ).loc Cert.KeysInRefIdeal.main_arg2)
          ∧ r.2.mem ((c.tc : Thread Cert.KeysInRefIdeal.nD Cert.KeysInRefIdeal.τ).loc Cert.KeysInRefIdeal.main_arg3) = m' ((c.tc : Thread Cert.KeysInRefIdeal.nD Cert.KeysInRefIdeal.τ).loc Cert.KeysInRefIdeal.main_arg3))

def preserves_ValuesIn_ValuesInIdeal : Prop :=
  True

def algebraic_ValuesInIdeal_ValuesInRefIdeal [hValuesInIdeal : Cert.ValuesInIdeal.Facts] [hValuesInRefIdeal : Cert.ValuesInRefIdeal.Facts] : Prop :=
  ∀ (m : (ℓ : Loc Cert.ValuesInIdeal.nD Cert.ValuesInIdeal.τ Cert.ValuesInIdeal.sig) → Buf (Elt Ideal) ℓ) (g : Dev Cert.ValuesInIdeal.nD → PrngReg)
    (m' : (ℓ : Loc Cert.ValuesInRefIdeal.nD Cert.ValuesInRefIdeal.τ Cert.ValuesInRefIdeal.sig) → Buf (Elt Ideal) ℓ) (g' : Dev Cert.ValuesInRefIdeal.nD → PrngReg), Pre_ValuesInIdeal m →
    (∀ c : Dev Cert.ValuesInIdeal.nD,
      m' ((c.tc : Thread Cert.ValuesInRefIdeal.nD Cert.ValuesInRefIdeal.τ).loc Cert.ValuesInRefIdeal.main_arg0) = m ((c.tc : Thread Cert.ValuesInIdeal.nD Cert.ValuesInIdeal.τ).loc Cert.ValuesInIdeal.main_arg0)
      ∧ m' ((c.tc : Thread Cert.ValuesInRefIdeal.nD Cert.ValuesInRefIdeal.τ).loc Cert.ValuesInRefIdeal.main_arg1) = m ((c.tc : Thread Cert.ValuesInIdeal.nD Cert.ValuesInIdeal.τ).loc Cert.ValuesInIdeal.main_arg1)
      ∧ m' ((c.tc : Thread Cert.ValuesInRefIdeal.nD Cert.ValuesInRefIdeal.τ).loc Cert.ValuesInRefIdeal.main_arg2) = m ((c.tc : Thread Cert.ValuesInIdeal.nD Cert.ValuesInIdeal.τ).loc Cert.ValuesInIdeal.main_arg2)
      ∧ m' ((c.tc : Thread Cert.ValuesInRefIdeal.nD Cert.ValuesInRefIdeal.τ).loc Cert.ValuesInRefIdeal.main_arg3) = m ((c.tc : Thread Cert.ValuesInIdeal.nD Cert.ValuesInIdeal.τ).loc Cert.ValuesInIdeal.main_arg3)) →
    ∃ (v0 : (c : Dev Cert.ValuesInIdeal.nD) → Buf (Elt Ideal) ((c.tc : Thread Cert.ValuesInIdeal.nD Cert.ValuesInIdeal.τ).loc Cert.ValuesInIdeal.main_v2_0)) (v1 : (c : Dev Cert.ValuesInIdeal.nD) → Buf (Elt Ideal) ((c.tc : Thread Cert.ValuesInIdeal.nD Cert.ValuesInIdeal.τ).loc Cert.ValuesInIdeal.main_v2_1)),
      θ_run (Cert.ValuesInIdeal.defs (F := Ideal)) (onTc (τ := Cert.ValuesInIdeal.τ) (Cert.ValuesInIdeal.main (F := Ideal))) ⟨m, fun _ => 0, g⟩ (fun r => ∀ c : Dev Cert.ValuesInIdeal.nD,
          r.2.mem ((c.tc : Thread Cert.ValuesInIdeal.nD Cert.ValuesInIdeal.τ).loc Cert.ValuesInIdeal.main_v2_0) = v0 c
          ∧ r.2.mem ((c.tc : Thread Cert.ValuesInIdeal.nD Cert.ValuesInIdeal.τ).loc Cert.ValuesInIdeal.main_v2_1) = v1 c
          ∧ r.2.mem ((c.tc : Thread Cert.ValuesInIdeal.nD Cert.ValuesInIdeal.τ).loc Cert.ValuesInIdeal.main_arg0) = m ((c.tc : Thread Cert.ValuesInIdeal.nD Cert.ValuesInIdeal.τ).loc Cert.ValuesInIdeal.main_arg0)
          ∧ r.2.mem ((c.tc : Thread Cert.ValuesInIdeal.nD Cert.ValuesInIdeal.τ).loc Cert.ValuesInIdeal.main_arg1) = m ((c.tc : Thread Cert.ValuesInIdeal.nD Cert.ValuesInIdeal.τ).loc Cert.ValuesInIdeal.main_arg1)
          ∧ r.2.mem ((c.tc : Thread Cert.ValuesInIdeal.nD Cert.ValuesInIdeal.τ).loc Cert.ValuesInIdeal.main_arg2) = m ((c.tc : Thread Cert.ValuesInIdeal.nD Cert.ValuesInIdeal.τ).loc Cert.ValuesInIdeal.main_arg2)
          ∧ r.2.mem ((c.tc : Thread Cert.ValuesInIdeal.nD Cert.ValuesInIdeal.τ).loc Cert.ValuesInIdeal.main_arg3) = m ((c.tc : Thread Cert.ValuesInIdeal.nD Cert.ValuesInIdeal.τ).loc Cert.ValuesInIdeal.main_arg3))
      ∧ θ_run (Cert.ValuesInRefIdeal.defs (F := Ideal)) (onTc (τ := Cert.ValuesInRefIdeal.τ) (Cert.ValuesInRefIdeal.main (F := Ideal))) ⟨m', fun _ => 0, g'⟩ (fun r => ∀ c : Dev Cert.ValuesInRefIdeal.nD,
          r.2.mem ((c.tc : Thread Cert.ValuesInRefIdeal.nD Cert.ValuesInRefIdeal.τ).loc Cert.ValuesInRefIdeal.main_v7) = v0 c
          ∧ r.2.mem ((c.tc : Thread Cert.ValuesInRefIdeal.nD Cert.ValuesInRefIdeal.τ).loc Cert.ValuesInRefIdeal.main_v9) = v1 c
          ∧ r.2.mem ((c.tc : Thread Cert.ValuesInRefIdeal.nD Cert.ValuesInRefIdeal.τ).loc Cert.ValuesInRefIdeal.main_arg0) = m' ((c.tc : Thread Cert.ValuesInRefIdeal.nD Cert.ValuesInRefIdeal.τ).loc Cert.ValuesInRefIdeal.main_arg0)
          ∧ r.2.mem ((c.tc : Thread Cert.ValuesInRefIdeal.nD Cert.ValuesInRefIdeal.τ).loc Cert.ValuesInRefIdeal.main_arg1) = m' ((c.tc : Thread Cert.ValuesInRefIdeal.nD Cert.ValuesInRefIdeal.τ).loc Cert.ValuesInRefIdeal.main_arg1)
          ∧ r.2.mem ((c.tc : Thread Cert.ValuesInRefIdeal.nD Cert.ValuesInRefIdeal.τ).loc Cert.ValuesInRefIdeal.main_arg2) = m' ((c.tc : Thread Cert.ValuesInRefIdeal.nD Cert.ValuesInRefIdeal.τ).loc Cert.ValuesInRefIdeal.main_arg2)
          ∧ r.2.mem ((c.tc : Thread Cert.ValuesInRefIdeal.nD Cert.ValuesInRefIdeal.τ).loc Cert.ValuesInRefIdeal.main_arg3) = m' ((c.tc : Thread Cert.ValuesInRefIdeal.nD Cert.ValuesInRefIdeal.τ).loc Cert.ValuesInRefIdeal.main_arg3))

def preserves_QueriesIn_QueriesInIdeal : Prop :=
  True

def algebraic_QueriesInIdeal_QueriesInRefIdeal [hQueriesInIdeal : Cert.QueriesInIdeal.Facts] [hQueriesInRefIdeal : Cert.QueriesInRefIdeal.Facts] : Prop :=
  ∀ (m : (ℓ : Loc Cert.QueriesInIdeal.nD Cert.QueriesInIdeal.τ Cert.QueriesInIdeal.sig) → Buf (Elt Ideal) ℓ) (g : Dev Cert.QueriesInIdeal.nD → PrngReg)
    (m' : (ℓ : Loc Cert.QueriesInRefIdeal.nD Cert.QueriesInRefIdeal.τ Cert.QueriesInRefIdeal.sig) → Buf (Elt Ideal) ℓ) (g' : Dev Cert.QueriesInRefIdeal.nD → PrngReg), Pre_QueriesInIdeal m →
    (∀ c : Dev Cert.QueriesInIdeal.nD,
      m' ((c.tc : Thread Cert.QueriesInRefIdeal.nD Cert.QueriesInRefIdeal.τ).loc Cert.QueriesInRefIdeal.main_arg0) = m ((c.tc : Thread Cert.QueriesInIdeal.nD Cert.QueriesInIdeal.τ).loc Cert.QueriesInIdeal.main_arg0)
      ∧ m' ((c.tc : Thread Cert.QueriesInRefIdeal.nD Cert.QueriesInRefIdeal.τ).loc Cert.QueriesInRefIdeal.main_arg1) = m ((c.tc : Thread Cert.QueriesInIdeal.nD Cert.QueriesInIdeal.τ).loc Cert.QueriesInIdeal.main_arg1)
      ∧ m' ((c.tc : Thread Cert.QueriesInRefIdeal.nD Cert.QueriesInRefIdeal.τ).loc Cert.QueriesInRefIdeal.main_arg2) = m ((c.tc : Thread Cert.QueriesInIdeal.nD Cert.QueriesInIdeal.τ).loc Cert.QueriesInIdeal.main_arg2)
      ∧ m' ((c.tc : Thread Cert.QueriesInRefIdeal.nD Cert.QueriesInRefIdeal.τ).loc Cert.QueriesInRefIdeal.main_arg3) = m ((c.tc : Thread Cert.QueriesInIdeal.nD Cert.QueriesInIdeal.τ).loc Cert.QueriesInIdeal.main_arg3)) →
    ∃ (v0 : (c : Dev Cert.QueriesInIdeal.nD) → Buf (Elt Ideal) ((c.tc : Thread Cert.QueriesInIdeal.nD Cert.QueriesInIdeal.τ).loc Cert.QueriesInIdeal.main_v2)),
      θ_run (Cert.QueriesInIdeal.defs (F := Ideal)) (onTc (τ := Cert.QueriesInIdeal.τ) (Cert.QueriesInIdeal.main (F := Ideal))) ⟨m, fun _ => 0, g⟩ (fun r => ∀ c : Dev Cert.QueriesInIdeal.nD,
          r.2.mem ((c.tc : Thread Cert.QueriesInIdeal.nD Cert.QueriesInIdeal.τ).loc Cert.QueriesInIdeal.main_v2) = v0 c
          ∧ r.2.mem ((c.tc : Thread Cert.QueriesInIdeal.nD Cert.QueriesInIdeal.τ).loc Cert.QueriesInIdeal.main_arg0) = m ((c.tc : Thread Cert.QueriesInIdeal.nD Cert.QueriesInIdeal.τ).loc Cert.QueriesInIdeal.main_arg0)
          ∧ r.2.mem ((c.tc : Thread Cert.QueriesInIdeal.nD Cert.QueriesInIdeal.τ).loc Cert.QueriesInIdeal.main_arg1) = m ((c.tc : Thread Cert.QueriesInIdeal.nD Cert.QueriesInIdeal.τ).loc Cert.QueriesInIdeal.main_arg1)
          ∧ r.2.mem ((c.tc : Thread Cert.QueriesInIdeal.nD Cert.QueriesInIdeal.τ).loc Cert.QueriesInIdeal.main_arg2) = m ((c.tc : Thread Cert.QueriesInIdeal.nD Cert.QueriesInIdeal.τ).loc Cert.QueriesInIdeal.main_arg2)
          ∧ r.2.mem ((c.tc : Thread Cert.QueriesInIdeal.nD Cert.QueriesInIdeal.τ).loc Cert.QueriesInIdeal.main_arg3) = m ((c.tc : Thread Cert.QueriesInIdeal.nD Cert.QueriesInIdeal.τ).loc Cert.QueriesInIdeal.main_arg3))
      ∧ θ_run (Cert.QueriesInRefIdeal.defs (F := Ideal)) (onTc (τ := Cert.QueriesInRefIdeal.τ) (Cert.QueriesInRefIdeal.main (F := Ideal))) ⟨m', fun _ => 0, g'⟩ (fun r => ∀ c : Dev Cert.QueriesInRefIdeal.nD,
          r.2.mem ((c.tc : Thread Cert.QueriesInRefIdeal.nD Cert.QueriesInRefIdeal.τ).loc Cert.QueriesInRefIdeal.main_v5) = v0 c
          ∧ r.2.mem ((c.tc : Thread Cert.QueriesInRefIdeal.nD Cert.QueriesInRefIdeal.τ).loc Cert.QueriesInRefIdeal.main_arg0) = m' ((c.tc : Thread Cert.QueriesInRefIdeal.nD Cert.QueriesInRefIdeal.τ).loc Cert.QueriesInRefIdeal.main_arg0)
          ∧ r.2.mem ((c.tc : Thread Cert.QueriesInRefIdeal.nD Cert.QueriesInRefIdeal.τ).loc Cert.QueriesInRefIdeal.main_arg1) = m' ((c.tc : Thread Cert.QueriesInRefIdeal.nD Cert.QueriesInRefIdeal.τ).loc Cert.QueriesInRefIdeal.main_arg1)
          ∧ r.2.mem ((c.tc : Thread Cert.QueriesInRefIdeal.nD Cert.QueriesInRefIdeal.τ).loc Cert.QueriesInRefIdeal.main_arg2) = m' ((c.tc : Thread Cert.QueriesInRefIdeal.nD Cert.QueriesInRefIdeal.τ).loc Cert.QueriesInRefIdeal.main_arg2)
          ∧ r.2.mem ((c.tc : Thread Cert.QueriesInRefIdeal.nD Cert.QueriesInRefIdeal.τ).loc Cert.QueriesInRefIdeal.main_arg3) = m' ((c.tc : Thread Cert.QueriesInRefIdeal.nD Cert.QueriesInRefIdeal.τ).loc Cert.QueriesInRefIdeal.main_arg3))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)
      ∧ m' ((c.tc : Thread Cert.GateInRefIdeal.nD Cert.GateInRefIdeal.τ).loc Cert.GateInRefIdeal.main_arg2) = m ((c.tc : Thread Cert.GateInIdeal.nD Cert.GateInIdeal.τ).loc Cert.GateInIdeal.main_arg2)
      ∧ m' ((c.tc : Thread Cert.GateInRefIdeal.nD Cert.GateInRefIdeal.τ).loc Cert.GateInRefIdeal.main_arg3) = m ((c.tc : Thread Cert.GateInIdeal.nD Cert.GateInIdeal.τ).loc Cert.GateInIdeal.main_arg3)) →
    ∃ (v0 : (c : Dev Cert.GateInIdeal.nD) → Buf (Elt Ideal) ((c.tc : Thread Cert.GateInIdeal.nD Cert.GateInIdeal.τ).loc Cert.GateInIdeal.main_v2)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v2) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1)
          ∧ r.2.mem ((c.tc : Thread Cert.GateInIdeal.nD Cert.GateInIdeal.τ).loc Cert.GateInIdeal.main_arg2) = m ((c.tc : Thread Cert.GateInIdeal.nD Cert.GateInIdeal.τ).loc Cert.GateInIdeal.main_arg2)
          ∧ r.2.mem ((c.tc : Thread Cert.GateInIdeal.nD Cert.GateInIdeal.τ).loc Cert.GateInIdeal.main_arg3) = m ((c.tc : Thread Cert.GateInIdeal.nD Cert.GateInIdeal.τ).loc Cert.GateInIdeal.main_arg3))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v9) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1)
          ∧ r.2.mem ((c.tc : Thread Cert.GateInRefIdeal.nD Cert.GateInRefIdeal.τ).loc Cert.GateInRefIdeal.main_arg2) = m' ((c.tc : Thread Cert.GateInRefIdeal.nD Cert.GateInRefIdeal.τ).loc Cert.GateInRefIdeal.main_arg2)
          ∧ r.2.mem ((c.tc : Thread Cert.GateInRefIdeal.nD Cert.GateInRefIdeal.τ).loc Cert.GateInRefIdeal.main_arg3) = m' ((c.tc : Thread Cert.GateInRefIdeal.nD Cert.GateInRefIdeal.τ).loc Cert.GateInRefIdeal.main_arg3))

def preserves_MixGateIn_MixGateInIdeal : Prop :=
  True

def algebraic_MixGateInIdeal_MixGateInRefIdeal [hMixGateInIdeal : Cert.MixGateInIdeal.Facts] [hMixGateInRefIdeal : Cert.MixGateInRefIdeal.Facts] : Prop :=
  ∀ (m : (ℓ : Loc Cert.MixGateInIdeal.nD Cert.MixGateInIdeal.τ Cert.MixGateInIdeal.sig) → Buf (Elt Ideal) ℓ) (g : Dev Cert.MixGateInIdeal.nD → PrngReg)
    (m' : (ℓ : Loc Cert.MixGateInRefIdeal.nD Cert.MixGateInRefIdeal.τ Cert.MixGateInRefIdeal.sig) → Buf (Elt Ideal) ℓ) (g' : Dev Cert.MixGateInRefIdeal.nD → PrngReg), Pre_MixGateInIdeal m →
    (∀ c : Dev Cert.MixGateInIdeal.nD,
      m' ((c.tc : Thread Cert.MixGateInRefIdeal.nD Cert.MixGateInRefIdeal.τ).loc Cert.MixGateInRefIdeal.main_arg0) = m ((c.tc : Thread Cert.MixGateInIdeal.nD Cert.MixGateInIdeal.τ).loc Cert.MixGateInIdeal.main_arg0)
      ∧ m' ((c.tc : Thread Cert.MixGateInRefIdeal.nD Cert.MixGateInRefIdeal.τ).loc Cert.MixGateInRefIdeal.main_arg1) = m ((c.tc : Thread Cert.MixGateInIdeal.nD Cert.MixGateInIdeal.τ).loc Cert.MixGateInIdeal.main_arg1)
      ∧ m' ((c.tc : Thread Cert.MixGateInRefIdeal.nD Cert.MixGateInRefIdeal.τ).loc Cert.MixGateInRefIdeal.main_arg2) = m ((c.tc : Thread Cert.MixGateInIdeal.nD Cert.MixGateInIdeal.τ).loc Cert.MixGateInIdeal.main_arg2)
      ∧ m' ((c.tc : Thread Cert.MixGateInRefIdeal.nD Cert.MixGateInRefIdeal.τ).loc Cert.MixGateInRefIdeal.main_arg3) = m ((c.tc : Thread Cert.MixGateInIdeal.nD Cert.MixGateInIdeal.τ).loc Cert.MixGateInIdeal.main_arg3)) →
    ∃ (v0 : (c : Dev Cert.MixGateInIdeal.nD) → Buf (Elt Ideal) ((c.tc : Thread Cert.MixGateInIdeal.nD Cert.MixGateInIdeal.τ).loc Cert.MixGateInIdeal.main_v2)),
      θ_run (Cert.MixGateInIdeal.defs (F := Ideal)) (onTc (τ := Cert.MixGateInIdeal.τ) (Cert.MixGateInIdeal.main (F := Ideal))) ⟨m, fun _ => 0, g⟩ (fun r => ∀ c : Dev Cert.MixGateInIdeal.nD,
          r.2.mem ((c.tc : Thread Cert.MixGateInIdeal.nD Cert.MixGateInIdeal.τ).loc Cert.MixGateInIdeal.main_v2) = v0 c
          ∧ r.2.mem ((c.tc : Thread Cert.MixGateInIdeal.nD Cert.MixGateInIdeal.τ).loc Cert.MixGateInIdeal.main_arg0) = m ((c.tc : Thread Cert.MixGateInIdeal.nD Cert.MixGateInIdeal.τ).loc Cert.MixGateInIdeal.main_arg0)
          ∧ r.2.mem ((c.tc : Thread Cert.MixGateInIdeal.nD Cert.MixGateInIdeal.τ).loc Cert.MixGateInIdeal.main_arg1) = m ((c.tc : Thread Cert.MixGateInIdeal.nD Cert.MixGateInIdeal.τ).loc Cert.MixGateInIdeal.main_arg1)
          ∧ r.2.mem ((c.tc : Thread Cert.MixGateInIdeal.nD Cert.MixGateInIdeal.τ).loc Cert.MixGateInIdeal.main_arg2) = m ((c.tc : Thread Cert.MixGateInIdeal.nD Cert.MixGateInIdeal.τ).loc Cert.MixGateInIdeal.main_arg2)
          ∧ r.2.mem ((c.tc : Thread Cert.MixGateInIdeal.nD Cert.MixGateInIdeal.τ).loc Cert.MixGateInIdeal.main_arg3) = m ((c.tc : Thread Cert.MixGateInIdeal.nD Cert.MixGateInIdeal.τ).loc Cert.MixGateInIdeal.main_arg3))
      ∧ θ_run (Cert.MixGateInRefIdeal.defs (F := Ideal)) (onTc (τ := Cert.MixGateInRefIdeal.τ) (Cert.MixGateInRefIdeal.main (F := Ideal))) ⟨m', fun _ => 0, g'⟩ (fun r => ∀ c : Dev Cert.MixGateInRefIdeal.nD,
          r.2.mem ((c.tc : Thread Cert.MixGateInRefIdeal.nD Cert.MixGateInRefIdeal.τ).loc Cert.MixGateInRefIdeal.main_v9) = v0 c
          ∧ r.2.mem ((c.tc : Thread Cert.MixGateInRefIdeal.nD Cert.MixGateInRefIdeal.τ).loc Cert.MixGateInRefIdeal.main_arg0) = m' ((c.tc : Thread Cert.MixGateInRefIdeal.nD Cert.MixGateInRefIdeal.τ).loc Cert.MixGateInRefIdeal.main_arg0)
          ∧ r.2.mem ((c.tc : Thread Cert.MixGateInRefIdeal.nD Cert.MixGateInRefIdeal.τ).loc Cert.MixGateInRefIdeal.main_arg1) = m' ((c.tc : Thread Cert.MixGateInRefIdeal.nD Cert.MixGateInRefIdeal.τ).loc Cert.MixGateInRefIdeal.main_arg1)
          ∧ r.2.mem ((c.tc : Thread Cert.MixGateInRefIdeal.nD Cert.MixGateInRefIdeal.τ).loc Cert.MixGateInRefIdeal.main_arg2) = m' ((c.tc : Thread Cert.MixGateInRefIdeal.nD Cert.MixGateInRefIdeal.τ).loc Cert.MixGateInRefIdeal.main_arg2)
          ∧ r.2.mem ((c.tc : Thread Cert.MixGateInRefIdeal.nD Cert.MixGateInRefIdeal.τ).loc Cert.MixGateInRefIdeal.main_arg3) = m' ((c.tc : Thread Cert.MixGateInRefIdeal.nD Cert.MixGateInRefIdeal.τ).loc Cert.MixGateInRefIdeal.main_arg3))

def preserves_GeluIn_GeluInIdeal : Prop :=
  True

def algebraic_GeluInIdeal_GeluInRefIdeal [hGeluInIdeal : Cert.GeluInIdeal.Facts] [hGeluInRefIdeal : Cert.GeluInRefIdeal.Facts] : Prop :=
  ∀ (m : (ℓ : Loc Cert.GeluInIdeal.nD Cert.GeluInIdeal.τ Cert.GeluInIdeal.sig) → Buf (Elt Ideal) ℓ) (g : Dev Cert.GeluInIdeal.nD → PrngReg)
    (m' : (ℓ : Loc Cert.GeluInRefIdeal.nD Cert.GeluInRefIdeal.τ Cert.GeluInRefIdeal.sig) → Buf (Elt Ideal) ℓ) (g' : Dev Cert.GeluInRefIdeal.nD → PrngReg), Pre_GeluInIdeal m →
    (∀ c : Dev Cert.GeluInIdeal.nD,
      m' ((c.tc : Thread Cert.GeluInRefIdeal.nD Cert.GeluInRefIdeal.τ).loc Cert.GeluInRefIdeal.main_arg0) = m ((c.tc : Thread Cert.GeluInIdeal.nD Cert.GeluInIdeal.τ).loc Cert.GeluInIdeal.main_arg0)
      ∧ m' ((c.tc : Thread Cert.GeluInRefIdeal.nD Cert.GeluInRefIdeal.τ).loc Cert.GeluInRefIdeal.main_arg1) = m ((c.tc : Thread Cert.GeluInIdeal.nD Cert.GeluInIdeal.τ).loc Cert.GeluInIdeal.main_arg1)
      ∧ m' ((c.tc : Thread Cert.GeluInRefIdeal.nD Cert.GeluInRefIdeal.τ).loc Cert.GeluInRefIdeal.main_arg2) = m ((c.tc : Thread Cert.GeluInIdeal.nD Cert.GeluInIdeal.τ).loc Cert.GeluInIdeal.main_arg2)
      ∧ m' ((c.tc : Thread Cert.GeluInRefIdeal.nD Cert.GeluInRefIdeal.τ).loc Cert.GeluInRefIdeal.main_arg3) = m ((c.tc : Thread Cert.GeluInIdeal.nD Cert.GeluInIdeal.τ).loc Cert.GeluInIdeal.main_arg3)) →
    ∃ (v0 : (c : Dev Cert.GeluInIdeal.nD) → Buf (Elt Ideal) ((c.tc : Thread Cert.GeluInIdeal.nD Cert.GeluInIdeal.τ).loc Cert.GeluInIdeal.main_v2)),
      θ_run (Cert.GeluInIdeal.defs (F := Ideal)) (onTc (τ := Cert.GeluInIdeal.τ) (Cert.GeluInIdeal.main (F := Ideal))) ⟨m, fun _ => 0, g⟩ (fun r => ∀ c : Dev Cert.GeluInIdeal.nD,
          r.2.mem ((c.tc : Thread Cert.GeluInIdeal.nD Cert.GeluInIdeal.τ).loc Cert.GeluInIdeal.main_v2) = v0 c
          ∧ r.2.mem ((c.tc : Thread Cert.GeluInIdeal.nD Cert.GeluInIdeal.τ).loc Cert.GeluInIdeal.main_arg0) = m ((c.tc : Thread Cert.GeluInIdeal.nD Cert.GeluInIdeal.τ).loc Cert.GeluInIdeal.main_arg0)
          ∧ r.2.mem ((c.tc : Thread Cert.GeluInIdeal.nD Cert.GeluInIdeal.τ).loc Cert.GeluInIdeal.main_arg1) = m ((c.tc : Thread Cert.GeluInIdeal.nD Cert.GeluInIdeal.τ).loc Cert.GeluInIdeal.main_arg1)
          ∧ r.2.mem ((c.tc : Thread Cert.GeluInIdeal.nD Cert.GeluInIdeal.τ).loc Cert.GeluInIdeal.main_arg2) = m ((c.tc : Thread Cert.GeluInIdeal.nD Cert.GeluInIdeal.τ).loc Cert.GeluInIdeal.main_arg2)
          ∧ r.2.mem ((c.tc : Thread Cert.GeluInIdeal.nD Cert.GeluInIdeal.τ).loc Cert.GeluInIdeal.main_arg3) = m ((c.tc : Thread Cert.GeluInIdeal.nD Cert.GeluInIdeal.τ).loc Cert.GeluInIdeal.main_arg3))
      ∧ θ_run (Cert.GeluInRefIdeal.defs (F := Ideal)) (onTc (τ := Cert.GeluInRefIdeal.τ) (Cert.GeluInRefIdeal.main (F := Ideal))) ⟨m', fun _ => 0, g'⟩ (fun r => ∀ c : Dev Cert.GeluInRefIdeal.nD,
          r.2.mem ((c.tc : Thread Cert.GeluInRefIdeal.nD Cert.GeluInRefIdeal.τ).loc Cert.GeluInRefIdeal.main_v21) = v0 c
          ∧ r.2.mem ((c.tc : Thread Cert.GeluInRefIdeal.nD Cert.GeluInRefIdeal.τ).loc Cert.GeluInRefIdeal.main_arg0) = m' ((c.tc : Thread Cert.GeluInRefIdeal.nD Cert.GeluInRefIdeal.τ).loc Cert.GeluInRefIdeal.main_arg0)
          ∧ r.2.mem ((c.tc : Thread Cert.GeluInRefIdeal.nD Cert.GeluInRefIdeal.τ).loc Cert.GeluInRefIdeal.main_arg1) = m' ((c.tc : Thread Cert.GeluInRefIdeal.nD Cert.GeluInRefIdeal.τ).loc Cert.GeluInRefIdeal.main_arg1)
          ∧ r.2.mem ((c.tc : Thread Cert.GeluInRefIdeal.nD Cert.GeluInRefIdeal.τ).loc Cert.GeluInRefIdeal.main_arg2) = m' ((c.tc : Thread Cert.GeluInRefIdeal.nD Cert.GeluInRefIdeal.τ).loc Cert.GeluInRefIdeal.main_arg2)
          ∧ r.2.mem ((c.tc : Thread Cert.GeluInRefIdeal.nD Cert.GeluInRefIdeal.τ).loc Cert.GeluInRefIdeal.main_arg3) = m' ((c.tc : Thread Cert.GeluInRefIdeal.nD Cert.GeluInRefIdeal.τ).loc Cert.GeluInRefIdeal.main_arg3))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v2) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v45) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)) →
    ∃ (v0 : (c : Dev Cert.NormModIdeal.nD) → Buf (Elt Ideal) ((c.tc : Thread Cert.NormModIdeal.nD Cert.NormModIdeal.τ).loc Cert.NormModIdeal.main_v1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v24) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_NormInSample_NormInSampleIdeal : Prop :=
  True

def algebraic_NormInSampleIdeal_NormInSampleRefIdeal [hNormInSampleIdeal : Cert.NormInSampleIdeal.Facts] [hNormInSampleRefIdeal : Cert.NormInSampleRefIdeal.Facts] : Prop :=
  ∀ (m : (ℓ : Loc Cert.NormInSampleIdeal.nD Cert.NormInSampleIdeal.τ Cert.NormInSampleIdeal.sig) → Buf (Elt Ideal) ℓ) (g : Dev Cert.NormInSampleIdeal.nD → PrngReg)
    (m' : (ℓ : Loc Cert.NormInSampleRefIdeal.nD Cert.NormInSampleRefIdeal.τ Cert.NormInSampleRefIdeal.sig) → Buf (Elt Ideal) ℓ) (g' : Dev Cert.NormInSampleRefIdeal.nD → PrngReg), Pre_NormInSampleIdeal m →
    (∀ c : Dev Cert.NormInSampleIdeal.nD,
      m' ((c.tc : Thread Cert.NormInSampleRefIdeal.nD Cert.NormInSampleRefIdeal.τ).loc Cert.NormInSampleRefIdeal.main_arg0) = m ((c.tc : Thread Cert.NormInSampleIdeal.nD Cert.NormInSampleIdeal.τ).loc Cert.NormInSampleIdeal.main_arg0)
      ∧ m' ((c.tc : Thread Cert.NormInSampleRefIdeal.nD Cert.NormInSampleRefIdeal.τ).loc Cert.NormInSampleRefIdeal.main_arg1) = m ((c.tc : Thread Cert.NormInSampleIdeal.nD Cert.NormInSampleIdeal.τ).loc Cert.NormInSampleIdeal.main_arg1)
      ∧ m' ((c.tc : Thread Cert.NormInSampleRefIdeal.nD Cert.NormInSampleRefIdeal.τ).loc Cert.NormInSampleRefIdeal.main_arg2) = m ((c.tc : Thread Cert.NormInSampleIdeal.nD Cert.NormInSampleIdeal.τ).loc Cert.NormInSampleIdeal.main_arg2)
      ∧ m' ((c.tc : Thread Cert.NormInSampleRefIdeal.nD Cert.NormInSampleRefIdeal.τ).loc Cert.NormInSampleRefIdeal.main_arg3) = m ((c.tc : Thread Cert.NormInSampleIdeal.nD Cert.NormInSampleIdeal.τ).loc Cert.NormInSampleIdeal.main_arg3)) →
    ∃ (v0 : (c : Dev Cert.NormInSampleIdeal.nD) → Buf (Elt Ideal) ((c.tc : Thread Cert.NormInSampleIdeal.nD Cert.NormInSampleIdeal.τ).loc Cert.NormInSampleIdeal.main_v2)),
      θ_run (Cert.NormInSampleIdeal.defs (F := Ideal)) (onTc (τ := Cert.NormInSampleIdeal.τ) (Cert.NormInSampleIdeal.main (F := Ideal))) ⟨m, fun _ => 0, g⟩ (fun r => ∀ c : Dev Cert.NormInSampleIdeal.nD,
          r.2.mem ((c.tc : Thread Cert.NormInSampleIdeal.nD Cert.NormInSampleIdeal.τ).loc Cert.NormInSampleIdeal.main_v2) = v0 c
          ∧ r.2.mem ((c.tc : Thread Cert.NormInSampleIdeal.nD Cert.NormInSampleIdeal.τ).loc Cert.NormInSampleIdeal.main_arg0) = m ((c.tc : Thread Cert.NormInSampleIdeal.nD Cert.NormInSampleIdeal.τ).loc Cert.NormInSampleIdeal.main_arg0)
          ∧ r.2.mem ((c.tc : Thread Cert.NormInSampleIdeal.nD Cert.NormInSampleIdeal.τ).loc Cert.NormInSampleIdeal.main_arg1) = m ((c.tc : Thread Cert.NormInSampleIdeal.nD Cert.NormInSampleIdeal.τ).loc Cert.NormInSampleIdeal.main_arg1)
          ∧ r.2.mem ((c.tc : Thread Cert.NormInSampleIdeal.nD Cert.NormInSampleIdeal.τ).loc Cert.NormInSampleIdeal.main_arg2) = m ((c.tc : Thread Cert.NormInSampleIdeal.nD Cert.NormInSampleIdeal.τ).loc Cert.NormInSampleIdeal.main_arg2)
          ∧ r.2.mem ((c.tc : Thread Cert.NormInSampleIdeal.nD Cert.NormInSampleIdeal.τ).loc Cert.NormInSampleIdeal.main_arg3) = m ((c.tc : Thread Cert.NormInSampleIdeal.nD Cert.NormInSampleIdeal.τ).loc Cert.NormInSampleIdeal.main_arg3))
      ∧ θ_run (Cert.NormInSampleRefIdeal.defs (F := Ideal)) (onTc (τ := Cert.NormInSampleRefIdeal.τ) (Cert.NormInSampleRefIdeal.main (F := Ideal))) ⟨m', fun _ => 0, g'⟩ (fun r => ∀ c : Dev Cert.NormInSampleRefIdeal.nD,
          r.2.mem ((c.tc : Thread Cert.NormInSampleRefIdeal.nD Cert.NormInSampleRefIdeal.τ).loc Cert.NormInSampleRefIdeal.main_v45) = v0 c
          ∧ r.2.mem ((c.tc : Thread Cert.NormInSampleRefIdeal.nD Cert.NormInSampleRefIdeal.τ).loc Cert.NormInSampleRefIdeal.main_arg0) = m' ((c.tc : Thread Cert.NormInSampleRefIdeal.nD Cert.NormInSampleRefIdeal.τ).loc Cert.NormInSampleRefIdeal.main_arg0)
          ∧ r.2.mem ((c.tc : Thread Cert.NormInSampleRefIdeal.nD Cert.NormInSampleRefIdeal.τ).loc Cert.NormInSampleRefIdeal.main_arg1) = m' ((c.tc : Thread Cert.NormInSampleRefIdeal.nD Cert.NormInSampleRefIdeal.τ).loc Cert.NormInSampleRefIdeal.main_arg1)
          ∧ r.2.mem ((c.tc : Thread Cert.NormInSampleRefIdeal.nD Cert.NormInSampleRefIdeal.τ).loc Cert.NormInSampleRefIdeal.main_arg2) = m' ((c.tc : Thread Cert.NormInSampleRefIdeal.nD Cert.NormInSampleRefIdeal.τ).loc Cert.NormInSampleRefIdeal.main_arg2)
          ∧ r.2.mem ((c.tc : Thread Cert.NormInSampleRefIdeal.nD Cert.NormInSampleRefIdeal.τ).loc Cert.NormInSampleRefIdeal.main_arg3) = m' ((c.tc : Thread Cert.NormInSampleRefIdeal.nD Cert.NormInSampleRefIdeal.τ).loc Cert.NormInSampleRefIdeal.main_arg3))

def preserves_FinalNormSample_FinalNormSampleIdeal : Prop :=
  True

def algebraic_FinalNormSampleIdeal_FinalNormSampleRefIdeal [hFinalNormSampleIdeal : Cert.FinalNormSampleIdeal.Facts] [hFinalNormSampleRefIdeal : Cert.FinalNormSampleRefIdeal.Facts] : Prop :=
  ∀ (m : (ℓ : Loc Cert.FinalNormSampleIdeal.nD Cert.FinalNormSampleIdeal.τ Cert.FinalNormSampleIdeal.sig) → Buf (Elt Ideal) ℓ) (g : Dev Cert.FinalNormSampleIdeal.nD → PrngReg)
    (m' : (ℓ : Loc Cert.FinalNormSampleRefIdeal.nD Cert.FinalNormSampleRefIdeal.τ Cert.FinalNormSampleRefIdeal.sig) → Buf (Elt Ideal) ℓ) (g' : Dev Cert.FinalNormSampleRefIdeal.nD → PrngReg), Pre_FinalNormSampleIdeal m →
    (∀ c : Dev Cert.FinalNormSampleIdeal.nD,
      m' ((c.tc : Thread Cert.FinalNormSampleRefIdeal.nD Cert.FinalNormSampleRefIdeal.τ).loc Cert.FinalNormSampleRefIdeal.main_arg0) = m ((c.tc : Thread Cert.FinalNormSampleIdeal.nD Cert.FinalNormSampleIdeal.τ).loc Cert.FinalNormSampleIdeal.main_arg0)
      ∧ m' ((c.tc : Thread Cert.FinalNormSampleRefIdeal.nD Cert.FinalNormSampleRefIdeal.τ).loc Cert.FinalNormSampleRefIdeal.main_arg1) = m ((c.tc : Thread Cert.FinalNormSampleIdeal.nD Cert.FinalNormSampleIdeal.τ).loc Cert.FinalNormSampleIdeal.main_arg1)) →
    ∃ (v0 : (c : Dev Cert.FinalNormSampleIdeal.nD) → Buf (Elt Ideal) ((c.tc : Thread Cert.FinalNormSampleIdeal.nD Cert.FinalNormSampleIdeal.τ).loc Cert.FinalNormSampleIdeal.main_v1)),
      θ_run (Cert.FinalNormSampleIdeal.defs (F := Ideal)) (onTc (τ := Cert.FinalNormSampleIdeal.τ) (Cert.FinalNormSampleIdeal.main (F := Ideal))) ⟨m, fun _ => 0, g⟩ (fun r => ∀ c : Dev Cert.FinalNormSampleIdeal.nD,
          r.2.mem ((c.tc : Thread Cert.FinalNormSampleIdeal.nD Cert.FinalNormSampleIdeal.τ).loc Cert.FinalNormSampleIdeal.main_v1) = v0 c
          ∧ r.2.mem ((c.tc : Thread Cert.FinalNormSampleIdeal.nD Cert.FinalNormSampleIdeal.τ).loc Cert.FinalNormSampleIdeal.main_arg0) = m ((c.tc : Thread Cert.FinalNormSampleIdeal.nD Cert.FinalNormSampleIdeal.τ).loc Cert.FinalNormSampleIdeal.main_arg0)
          ∧ r.2.mem ((c.tc : Thread Cert.FinalNormSampleIdeal.nD Cert.FinalNormSampleIdeal.τ).loc Cert.FinalNormSampleIdeal.main_arg1) = m ((c.tc : Thread Cert.FinalNormSampleIdeal.nD Cert.FinalNormSampleIdeal.τ).loc Cert.FinalNormSampleIdeal.main_arg1))
      ∧ θ_run (Cert.FinalNormSampleRefIdeal.defs (F := Ideal)) (onTc (τ := Cert.FinalNormSampleRefIdeal.τ) (Cert.FinalNormSampleRefIdeal.main (F := Ideal))) ⟨m', fun _ => 0, g'⟩ (fun r => ∀ c : Dev Cert.FinalNormSampleRefIdeal.nD,
          r.2.mem ((c.tc : Thread Cert.FinalNormSampleRefIdeal.nD Cert.FinalNormSampleRefIdeal.τ).loc Cert.FinalNormSampleRefIdeal.main_v12) = v0 c
          ∧ r.2.mem ((c.tc : Thread Cert.FinalNormSampleRefIdeal.nD Cert.FinalNormSampleRefIdeal.τ).loc Cert.FinalNormSampleRefIdeal.main_arg0) = m' ((c.tc : Thread Cert.FinalNormSampleRefIdeal.nD Cert.FinalNormSampleRefIdeal.τ).loc Cert.FinalNormSampleRefIdeal.main_arg0)
          ∧ r.2.mem ((c.tc : Thread Cert.FinalNormSampleRefIdeal.nD Cert.FinalNormSampleRefIdeal.τ).loc Cert.FinalNormSampleRefIdeal.main_arg1) = m' ((c.tc : Thread Cert.FinalNormSampleRefIdeal.nD Cert.FinalNormSampleRefIdeal.τ).loc Cert.FinalNormSampleRefIdeal.main_arg1))

def Claim : Prop :=
  ∃ (hKernel : Cert.Kernel.Facts) (hKernelIdeal : Cert.KernelIdeal.Facts) (hReferenceIdeal : Cert.ReferenceIdeal.Facts) (hConvIn : Cert.ConvIn.Facts) (hConvInIdeal : Cert.ConvInIdeal.Facts) (hConvInRefIdeal : Cert.ConvInRefIdeal.Facts) (hConvOut : Cert.ConvOut.Facts) (hConvOutIdeal : Cert.ConvOutIdeal.Facts) (hConvOutRefIdeal : Cert.ConvOutRefIdeal.Facts) (hAbOut : Cert.AbOut.Facts) (hAbOutIdeal : Cert.AbOutIdeal.Facts) (hAbOutRefIdeal : Cert.AbOutRefIdeal.Facts) (hKeysIn : Cert.KeysIn.Facts) (hKeysInIdeal : Cert.KeysInIdeal.Facts) (hKeysInRefIdeal : Cert.KeysInRefIdeal.Facts) (hValuesIn : Cert.ValuesIn.Facts) (hValuesInIdeal : Cert.ValuesInIdeal.Facts) (hValuesInRefIdeal : Cert.ValuesInRefIdeal.Facts) (hQueriesIn : Cert.QueriesIn.Facts) (hQueriesInIdeal : Cert.QueriesInIdeal.Facts) (hQueriesInRefIdeal : Cert.QueriesInRefIdeal.Facts) (hGateIn : Cert.GateIn.Facts) (hGateInIdeal : Cert.GateInIdeal.Facts) (hGateInRefIdeal : Cert.GateInRefIdeal.Facts) (hMixGateIn : Cert.MixGateIn.Facts) (hMixGateInIdeal : Cert.MixGateInIdeal.Facts) (hMixGateInRefIdeal : Cert.MixGateInRefIdeal.Facts) (hGeluIn : Cert.GeluIn.Facts) (hGeluInIdeal : Cert.GeluInIdeal.Facts) (hGeluInRefIdeal : Cert.GeluInRefIdeal.Facts) (hNormIn : Cert.NormIn.Facts) (hNormInIdeal : Cert.NormInIdeal.Facts) (hNormInRefIdeal : Cert.NormInRefIdeal.Facts) (hNormMod : Cert.NormMod.Facts) (hNormModIdeal : Cert.NormModIdeal.Facts) (hNormModRefIdeal : Cert.NormModRefIdeal.Facts) (hFinalNorm : Cert.FinalNorm.Facts) (hFinalNormIdeal : Cert.FinalNormIdeal.Facts) (hFinalNormRefIdeal : Cert.FinalNormRefIdeal.Facts) (hNormInSample : Cert.NormInSample.Facts) (hNormInSampleIdeal : Cert.NormInSampleIdeal.Facts) (hNormInSampleRefIdeal : Cert.NormInSampleRefIdeal.Facts) (hFinalNormSample : Cert.FinalNormSample.Facts) (hFinalNormSampleIdeal : Cert.FinalNormSampleIdeal.Facts) (hFinalNormSampleRefIdeal : Cert.FinalNormSampleRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_KeysIn (hKeysIn := hKeysIn)
    ∧ quiescent_KeysInIdeal (hKeysInIdeal := hKeysInIdeal)
    ∧ quiescent_KeysInRefIdeal (hKeysInRefIdeal := hKeysInRefIdeal)
    ∧ quiescent_ValuesIn (hValuesIn := hValuesIn)
    ∧ quiescent_ValuesInIdeal (hValuesInIdeal := hValuesInIdeal)
    ∧ quiescent_ValuesInRefIdeal (hValuesInRefIdeal := hValuesInRefIdeal)
    ∧ quiescent_QueriesIn (hQueriesIn := hQueriesIn)
    ∧ quiescent_QueriesInIdeal (hQueriesInIdeal := hQueriesInIdeal)
    ∧ quiescent_QueriesInRefIdeal (hQueriesInRefIdeal := hQueriesInRefIdeal)
    ∧ quiescent_GateIn (hGateIn := hGateIn)
    ∧ quiescent_GateInIdeal (hGateInIdeal := hGateInIdeal)
    ∧ quiescent_GateInRefIdeal (hGateInRefIdeal := hGateInRefIdeal)
    ∧ quiescent_MixGateIn (hMixGateIn := hMixGateIn)
    ∧ quiescent_MixGateInIdeal (hMixGateInIdeal := hMixGateInIdeal)
    ∧ quiescent_MixGateInRefIdeal (hMixGateInRefIdeal := hMixGateInRefIdeal)
    ∧ quiescent_GeluIn (hGeluIn := hGeluIn)
    ∧ quiescent_GeluInIdeal (hGeluInIdeal := hGeluInIdeal)
    ∧ quiescent_GeluInRefIdeal (hGeluInRefIdeal := hGeluInRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_NormInSample (hNormInSample := hNormInSample)
    ∧ quiescent_NormInSampleIdeal (hNormInSampleIdeal := hNormInSampleIdeal)
    ∧ quiescent_NormInSampleRefIdeal (hNormInSampleRefIdeal := hNormInSampleRefIdeal)
    ∧ quiescent_FinalNormSample (hFinalNormSample := hFinalNormSample)
    ∧ quiescent_FinalNormSampleIdeal (hFinalNormSampleIdeal := hFinalNormSampleIdeal)
    ∧ quiescent_FinalNormSampleRefIdeal (hFinalNormSampleRefIdeal := hFinalNormSampleRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_ConvIn_ConvInIdeal
    ∧ algebraic_ConvInIdeal_ConvInRefIdeal (hConvInIdeal := hConvInIdeal) (hConvInRefIdeal := hConvInRefIdeal)
    ∧ preserves_ConvOut_ConvOutIdeal
    ∧ algebraic_ConvOutIdeal_ConvOutRefIdeal (hConvOutIdeal := hConvOutIdeal) (hConvOutRefIdeal := hConvOutRefIdeal)
    ∧ preserves_AbOut_AbOutIdeal
    ∧ algebraic_AbOutIdeal_AbOutRefIdeal (hAbOutIdeal := hAbOutIdeal) (hAbOutRefIdeal := hAbOutRefIdeal)
    ∧ preserves_KeysIn_KeysInIdeal
    ∧ algebraic_KeysInIdeal_KeysInRefIdeal (hKeysInIdeal := hKeysInIdeal) (hKeysInRefIdeal := hKeysInRefIdeal)
    ∧ preserves_ValuesIn_ValuesInIdeal
    ∧ algebraic_ValuesInIdeal_ValuesInRefIdeal (hValuesInIdeal := hValuesInIdeal) (hValuesInRefIdeal := hValuesInRefIdeal)
    ∧ preserves_QueriesIn_QueriesInIdeal
    ∧ algebraic_QueriesInIdeal_QueriesInRefIdeal (hQueriesInIdeal := hQueriesInIdeal) (hQueriesInRefIdeal := hQueriesInRefIdeal)
    ∧ preserves_GateIn_GateInIdeal
    ∧ algebraic_GateInIdeal_GateInRefIdeal (hGateInIdeal := hGateInIdeal) (hGateInRefIdeal := hGateInRefIdeal)
    ∧ preserves_MixGateIn_MixGateInIdeal
    ∧ algebraic_MixGateInIdeal_MixGateInRefIdeal (hMixGateInIdeal := hMixGateInIdeal) (hMixGateInRefIdeal := hMixGateInRefIdeal)
    ∧ preserves_GeluIn_GeluInIdeal
    ∧ algebraic_GeluInIdeal_GeluInRefIdeal (hGeluInIdeal := hGeluInIdeal) (hGeluInRefIdeal := hGeluInRefIdeal)
    ∧ preserves_NormIn_NormInIdeal
    ∧ algebraic_NormInIdeal_NormInRefIdeal (hNormInIdeal := hNormInIdeal) (hNormInRefIdeal := hNormInRefIdeal)
    ∧ preserves_NormMod_NormModIdeal
    ∧ algebraic_NormModIdeal_NormModRefIdeal (hNormModIdeal := hNormModIdeal) (hNormModRefIdeal := hNormModRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_NormInSample_NormInSampleIdeal
    ∧ algebraic_NormInSampleIdeal_NormInSampleRefIdeal (hNormInSampleIdeal := hNormInSampleIdeal) (hNormInSampleRefIdeal := hNormInSampleRefIdeal)
    ∧ preserves_FinalNormSample_FinalNormSampleIdeal
    ∧ algebraic_FinalNormSampleIdeal_FinalNormSampleRefIdeal (hFinalNormSampleIdeal := hFinalNormSampleIdeal) (hFinalNormSampleRefIdeal := hFinalNormSampleRefIdeal)
-- ==== Pre_finite_qk.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) (main_arg2 : FVec F S8x2048x1024 .f32) (main_arg3 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8 : Shape := ⟨1, ![8]⟩
abbrev S1x2048x128 : Shape := ⟨3, ![1, 2048, 128]⟩
abbrev S2048x128 : Shape := ⟨2, ![2048, 128]⟩
abbrev S256x2048 : Shape := ⟨2, ![256, 2048]⟩
abbrev S1 : Shape := ⟨1, ![1]⟩
abbrev S8x256x128 : Shape := ⟨3, ![8, 256, 128]⟩
abbrev S8x128 : Shape := ⟨2, ![8, 128]⟩
abbrev S120x128 : Shape := ⟨2, ![120, 128]⟩
abbrev S128x128 : Shape := ⟨2, ![128, 128]⟩
abbrev S128x2048 : Shape := ⟨2, ![128, 2048]⟩
abbrev S8x2048 : Shape := ⟨2, ![8, 2048]⟩
abbrev S1x2048 : Shape := ⟨2, ![1, 2048]⟩
abbrev S120x2048 : Shape := ⟨2, ![120, 2048]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩

abbrev nBuf : Space → Nat
  | .hbm => 6
  | .vmem => 14
  | .smem => 1
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8, .f32⟩
  | .hbm, ⟨5, _⟩ => ⟨S8x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .bf16⟩
  | .local _ .vmem, ⟨9, _⟩ => ⟨S1x2048x128, .bf16⟩
  | .local _ .vmem, ⟨10, _⟩ => ⟨S2048x128, .bf16⟩
  | .local _ .vmem, ⟨11, _⟩ => ⟨S2048x128, .bf16⟩
  | .local _ .vmem, ⟨12, _⟩ => ⟨S256x2048, .f32⟩
  | .local _ .vmem, ⟨13, _⟩ => ⟨S2048x128, .f32⟩
  | .local _ .smem, ⟨0, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S8 : Shape := ⟨1, ![8]⟩
abbrev S8x8x256x8x128 : Shape := ⟨5, ![8, 8, 256, 8, 128]⟩
abbrev S8x8x8x256x128 : Shape := ⟨5, ![8, 8, 8, 256, 128]⟩
abbrev S8x2048x8x128 : Shape := ⟨4, ![8, 2048, 8, 128]⟩
abbrev S8x8x2048x128 : Shape := ⟨4, ![8, 8, 2048, 128]⟩
abbrev S2048 : Shape := ⟨1, ![2048]⟩
abbrev S_ : Shape := ⟨0, ![]⟩
abbrev S8x8x8x128 : Shape := ⟨4, ![8, 8, 8, 128]⟩
abbrev S8x8x2048x8 : Shape := ⟨4, ![8, 8, 2048, 8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S1x1x2048x1 : Shape := ⟨4, ![1, 1, 2048, 1]⟩
abbrev S8x8x2048x1 : Shape := ⟨4, ![8, 8, 2048, 1]⟩
abbrev S8x8x2048x4 : Shape := ⟨4, ![8, 8, 2048, 4]⟩
abbrev S8x8x2048x4x1 : Shape := ⟨5, ![8, 8, 2048, 4, 1]⟩
abbrev S8x8x2048x4x256x128 : Shape := ⟨6, ![8, 8, 2048, 4, 256, 128]⟩
abbrev S256 : Shape := ⟨1, ![256]⟩
abbrev S1x1x1x1x256 : Shape := ⟨5, ![1, 1, 1, 1, 256]⟩
abbrev S8x8x2048x4x256 : Shape := ⟨5, ![8, 8, 2048, 4, 256]⟩
abbrev S1x1x2048x1x1 : Shape := ⟨5, ![1, 1, 2048, 1, 1]⟩
abbrev S1x8x1x1x1 : Shape := ⟨5, ![1, 8, 1, 1, 1]⟩
abbrev S8x8x2048x1024 : Shape := ⟨4, ![8, 8, 2048, 1024]⟩
abbrev S8x8x2048 : Shape := ⟨3, ![8, 8, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8, .f32⟩
  | .hbm, ⟨5, _⟩ => ⟨S8x8x256x8x128, .f32⟩
  | .hbm, ⟨6, _⟩ => ⟨S8x8x8x256x128, .f32⟩
  | .hbm, ⟨7, _⟩ => ⟨S8x8x256x8x128, .f32⟩
  | .hbm, ⟨8, _⟩ => ⟨S8x8x8x256x128, .f32⟩
  | .hbm, ⟨9, _⟩ => ⟨S8x2048x8x128, .f32⟩
  | .hbm, ⟨10, _⟩ => ⟨S8x8x2048x128, .f32⟩
  | .hbm, ⟨11, _⟩ => ⟨S2048, .i32⟩
  | .hbm, ⟨12, _⟩ => ⟨S_, .f32⟩
  | .hbm, ⟨13, _⟩ => ⟨S8x8x2048x128, .f32⟩
  | .hbm, ⟨14, _⟩ => ⟨S8x8x2048x128, .f32⟩
  | .hbm, ⟨15, _⟩ => ⟨S_, .f32⟩
  | .hbm, ⟨16, _⟩ => ⟨S8x8x8x128, .f32⟩
  | .hbm, ⟨17, _⟩ => ⟨S_, .f32⟩
  | .hbm, ⟨18, _⟩ => ⟨S8x8x8x128, .f32⟩
  | .hbm, ⟨19, _⟩ => ⟨S8x8x8x128, .f32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S8x8x2048x8, .f32⟩
  | .hbm, ⟨24, _⟩ => ⟨S8, .i32⟩
  | .hbm, ⟨25, _⟩ => ⟨S1x8, .i32⟩
  | .hbm, ⟨26, _⟩ => ⟨S2048x1, .i32⟩
  | .hbm, ⟨27, _⟩ => ⟨S2048x8, .i32⟩
  | .hbm, ⟨28, _⟩ => ⟨S2048x8, .i32⟩
  | .hbm, ⟨29, _⟩ => ⟨S2048x8, .i1⟩
  | .hbm, ⟨30, _⟩ => ⟨S_, .f32⟩
  | .hbm, ⟨31, _⟩ => ⟨S_, .f32⟩
  | .hbm, ⟨32, _⟩ => ⟨S8x8x2048x8, .i1⟩
  | .hbm, ⟨33, _⟩ => ⟨S8x8x2048x8, .f32⟩
  | .hbm, ⟨34, _⟩ => ⟨S8x8x2048x8, .f32⟩
  | .hbm, ⟨35, _⟩ => ⟨S8x8x2048x3, .f32⟩
  | .hbm, ⟨36, _⟩ => ⟨S8x8x2048x3, .i32⟩
  | .hbm, ⟨37, _⟩ => ⟨S1x1x2048x1, .i32⟩
  | .hbm, ⟨38, _⟩ => ⟨S8x8x2048x3, .i32⟩
  | .hbm, ⟨39, _⟩ => ⟨S8x8x2048x3, .i1⟩
  | .hbm, ⟨40, _⟩ => ⟨S1x1x2048x1, .i32⟩
  | .hbm, ⟨41, _⟩ => ⟨S8x8x2048x1, .i32⟩
  | .hbm, ⟨42, _⟩ => ⟨S8x8x2048x4, .i32⟩
  | .hbm, ⟨43, _⟩ => ⟨S_, .i1⟩
  | .hbm, ⟨44, _⟩ => ⟨S8x8x2048x1, .i1⟩
  | .hbm, ⟨45, _⟩ => ⟨S8x8x2048x4, .i1⟩
  | .hbm, ⟨46, _⟩ => ⟨S8x8x2048x4x1, .i32⟩
  | .hbm, ⟨47, _⟩ => ⟨S8x8x2048x4x256x128, .f32⟩
  | .hbm, ⟨48, _⟩ => ⟨S8x8x2048x4x1, .i32⟩
  | .hbm, ⟨49, _⟩ => ⟨S8x8x2048x4x256x128, .f32⟩
  | .hbm, ⟨50, _⟩ => ⟨S8x8x2048x4x1, .i32⟩
  | .hbm, ⟨51, _⟩ => ⟨S_, .i32⟩
  | .hbm, ⟨52, _⟩ => ⟨S8x8x2048x4x1, .i32⟩
  | .hbm, ⟨53, _⟩ => ⟨S8x8x2048x4x1, .i32⟩
  | .hbm, ⟨54, _⟩ => ⟨S256, .i32⟩
  | .hbm, ⟨55, _⟩ => ⟨S1x1x1x1x256, .i32⟩
  | .hbm, ⟨56, _⟩ => ⟨S8x8x2048x4x256, .i32⟩
  | .hbm, ⟨57, _⟩ => ⟨S8x8x2048x4x256, .i32⟩
  | .hbm, ⟨58, _⟩ => ⟨S8x8x2048x4x256, .i32⟩
  | .hbm, ⟨59, _⟩ => ⟨S1x1x2048x1x1, .i32⟩
  | .hbm, ⟨60, _⟩ => ⟨S8x8x2048x4x256, .i32⟩
  | .hbm, ⟨61, _⟩ => ⟨S8x8x2048x4x256, .i32⟩
  | .hbm, ⟨62, _⟩ => ⟨S8x8x2048x4x256, .f32⟩
  | .hbm, ⟨63, _⟩ => ⟨S8x8x2048x4x256, .f32⟩
  | .hbm, ⟨64, _⟩ => ⟨S1x8x1x1x1, .f32⟩
  | .hbm, ⟨65, _⟩ => ⟨S8x8x2048x4x256, .f32⟩
  | .hbm, ⟨66, _⟩ => ⟨S8x8x2048x4x256, .f32⟩
  | .hbm, ⟨67, _⟩ => ⟨S8x8x2048x4x256, .f32⟩
  | .hbm, ⟨68, _⟩ => ⟨S8x8x2048x4x1, .i1⟩
  | .hbm, ⟨69, _⟩ => ⟨S_, .f32⟩
  | .hbm, ⟨70, _⟩ => ⟨S8x8x2048x4x256, .f32⟩
  | .hbm, ⟨71, _⟩ => ⟨S8x8x2048x4x256, .i1⟩
  | .hbm, ⟨72, _⟩ => ⟨S8x8x2048x4x256, .i1⟩
  | .hbm, ⟨73, _⟩ => ⟨S8x8x2048x4x256, .i1⟩
  | .hbm, ⟨74, _⟩ => ⟨S_, .f32⟩
  | .hbm, ⟨75, _⟩ => ⟨S_, .f32⟩
  | .hbm, ⟨76, _⟩ => ⟨S8x8x2048x4x256, .f32⟩
  | .hbm, ⟨77, _⟩ => ⟨S8x8x2048x4x256, .f32⟩
  | .hbm, ⟨78, _⟩ => ⟨S8x8x2048x1024, .f32⟩
  | .hbm, ⟨79, _⟩ => ⟨S_, .f32⟩
  | .hbm, ⟨80, _⟩ => ⟨S8x8x2048, .f32⟩
  | .hbm, ⟨81, _⟩ => ⟨S_, .f32⟩
  | .hbm, ⟨82, _⟩ => ⟨S8x8x2048, .f32⟩
  | .hbm, ⟨83, _⟩ => ⟨S8x8x2048, .f32⟩
  | .hbm, ⟨84, _⟩ => ⟨S8x8x2048x1, .f32⟩
  | .hbm, ⟨85, _⟩ => ⟨S8x8x2048x1024, .f32⟩
  | .hbm, ⟨86, _⟩ => ⟨S8x8x2048x1024, .f32⟩
  | .hbm, ⟨87, _⟩ => ⟨S8x8x2048x1024, .f32⟩
  | .hbm, ⟨88, _⟩ => ⟨S_, .f32⟩
  | .hbm, ⟨89, _⟩ => ⟨S8x8x2048, .f32⟩
  | .hbm, ⟨90, _⟩ => ⟨S8x8x2048x1, .f32⟩
  | .hbm, ⟨91, _⟩ => ⟨S8x8x2048x1024, .f32⟩
  | .hbm, ⟨92, _⟩ => ⟨S8x8x2048x1024, .f32⟩
  | .hbm, ⟨93, _⟩ => ⟨S8x8x2048x4x256, .f32⟩
  | .hbm, ⟨94, _⟩ => ⟨S8x8x2048x128, .f32⟩
  | .hbm, ⟨95, _⟩ => ⟨S8x2048x8x128, .f32⟩
  | .hbm, ⟨96, _⟩ => ⟨S8x2048x1024, .f32⟩
  | .hbm, ⟨97, _⟩ => ⟨S8x2048x1024, .f32⟩
  | .hbm, ⟨98, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_values : Ref sig .tc := ⟨.hbm, 35, rfl⟩
abbrev main_indices : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_call1_v0 : Ref sig .tc := ⟨.hbm, 75, rfl⟩
abbrev main_call1_v1 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== ConvIn.lean ====
abbrev S16384x2048 : Shape := ⟨2, ![16384, 2048]⟩
abbrev S2048x6144 : Shape := ⟨2, ![2048, 6144]⟩
abbrev S512x2048 : Shape := ⟨2, ![512, 2048]⟩
abbrev S2048x512 : Shape := ⟨2, ![2048, 512]⟩
abbrev S512x512 : Shape := ⟨2, ![512, 512]⟩
abbrev S3x2048x512 : Shape := ⟨3, ![3, 2048, 512]⟩
abbrev S1x2048x512 : Shape := ⟨3, ![1, 2048, 512]⟩

abbrev nBuf : Space → Nat
  | .hbm => 4
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S3x2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvInRefIdeal.lean ====
abbrev S16384x2048 : Shape := ⟨2, ![16384, 2048]⟩
abbrev S2048x6144 : Shape := ⟨2, ![2048, 6144]⟩
abbrev S16384x6144 : Shape := ⟨2, ![16384, 6144]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S16384x6144, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== ConvOut.lean ====
abbrev S16384x2048 : Shape := ⟨2, ![16384, 2048]⟩
abbrev S2048x2048 : Shape := ⟨2, ![2048, 2048]⟩
abbrev S24x1x2048 : Shape := ⟨3, ![24, 1, 2048]⟩
abbrev S512x1024 : Shape := ⟨2, ![512, 1024]⟩
abbrev S2048x1024 : Shape := ⟨2, ![2048, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 5
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S24x1x2048, .f32⟩
  | .hbm, ⟨4, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32 : BitVec 32 := 2#32
  let v18 : BitVec 32 := Scalar.addi v17 c2_i32
  let c0_i32_4 : BitVec 32 := 0#32
  let c0_i32_5 : BitVec 32 := 0#32
  ![v18.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvOutRefIdeal.lean ====
abbrev S16384x2048 : Shape := ⟨2, ![16384, 2048]⟩
abbrev S2048x2048 : Shape := ⟨2, ![2048, 2048]⟩
abbrev S24x1x2048 : Shape := ⟨3, ![24, 1, 2048]⟩
abbrev S8x3x2048 : Shape := ⟨3, ![8, 3, 2048]⟩
abbrev S8x1x2048 : Shape := ⟨3, ![8, 1, 2048]⟩
abbrev S8x2048x2048 : Shape := ⟨3, ![8, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S24x1x2048, .f32⟩
  | .hbm, ⟨4, _⟩ => ⟨S8x3x2048, .f32⟩
  | .hbm, ⟨5, _⟩ => ⟨S8x1x2048, .f32⟩
  | .hbm, ⟨6, _⟩ => ⟨S8x2048x2048, .f32⟩
  | .hbm, ⟨7, _⟩ => ⟨S16384x2048, .f32⟩
  | .hbm, ⟨8, _⟩ => ⟨S16384x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AbOut.lean ====
abbrev S16384x1024 : Shape := ⟨2, ![16384, 1024]⟩
abbrev S2048x2048 : Shape := ⟨2, ![2048, 2048]⟩
abbrev S16384x2048 : Shape := ⟨2, ![16384, 2048]⟩
abbrev S24x1x2048 : Shape := ⟨3, ![24, 1, 2048]⟩
abbrev S512x1024 : Shape := ⟨2, ![512, 1024]⟩
abbrev S2048x1024 : Shape := ⟨2, ![2048, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S24x1x2048, .f32⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32 : BitVec 32 := 2#32
  let v18 : BitVec 32 := Scalar.addi v17 c2_i32
  let c0_i32_4 : BitVec 32 := 0#32
  let c0_i32_5 : BitVec 32 := 0#32
  ![v18.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AbOutRefIdeal.lean ====
abbrev S16384x1024 : Shape := ⟨2, ![16384, 1024]⟩
abbrev S2048x2048 : Shape := ⟨2, ![2048, 2048]⟩
abbrev S16384x2048 : Shape := ⟨2, ![16384, 2048]⟩
abbrev S24x1x2048 : Shape := ⟨3, ![24, 1, 2048]⟩
abbrev S8x3x2048 : Shape := ⟨3, ![8, 3, 2048]⟩
abbrev S8x1x2048 : Shape := ⟨3, ![8, 1, 2048]⟩
abbrev S8x2048x2048 : Shape := ⟨3, ![8, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S24x1x2048, .f32⟩
  | .hbm, ⟨5, _⟩ => ⟨S8x3x2048, .f32⟩
  | .hbm, ⟨6, _⟩ => ⟨S8x1x2048, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KeysIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S131072x128 : Shape := ⟨2, ![131072, 128]⟩
abbrev S512x2048 : Shape := ⟨2, ![512, 2048]⟩
abbrev S2048x1024 : Shape := ⟨2, ![2048, 1024]⟩
abbrev S512x1024 : Shape := ⟨2, ![512, 1024]⟩
abbrev S4096x128 : Shape := ⟨2, ![4096, 128]⟩
abbrev S512x128 : Shape := ⟨2, ![512, 128]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S131072x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S4096x128, .f32⟩
  | .local _ .vmem, ⟨8, _⟩ => ⟨S4096x128, .f32⟩
  | .local _ .vmem, ⟨9, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KeysInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩
abbrev S131072x128 : Shape := ⟨2, ![131072, 128]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S131072x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ValuesIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S131072x128 : Shape := ⟨2, ![131072, 128]⟩
abbrev S512x2048 : Shape := ⟨2, ![512, 2048]⟩
abbrev S2048x1024 : Shape := ⟨2, ![2048, 1024]⟩
abbrev S512x1024 : Shape := ⟨2, ![512, 1024]⟩
abbrev S4096x128 : Shape := ⟨2, ![4096, 128]⟩
abbrev S512x128 : Shape := ⟨2, ![512, 128]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S131072x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S4096x128, .f32⟩
  | .local _ .vmem, ⟨8, _⟩ => ⟨S4096x128, .f32⟩
  | .local _ .vmem, ⟨9, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ValuesInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩
abbrev S131072x128 : Shape := ⟨2, ![131072, 128]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S131072x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== QueriesIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QueriesInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GateIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== MixGateIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixGateInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== GeluIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GeluInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== NormIn.lean ====
abbrev S16384x2048 : Shape := ⟨2, ![16384, 2048]⟩
abbrev S2048x7168 : Shape := ⟨2, ![2048, 7168]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInRefIdeal.lean ====
abbrev S16384x2048 : Shape := ⟨2, ![16384, 2048]⟩
abbrev S2048x7168 : Shape := ⟨2, ![2048, 7168]⟩
abbrev S1024 : Shape := ⟨1, ![1024]⟩
abbrev S16384x7168 : Shape := ⟨2, ![16384, 7168]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S16384x2048, .f32⟩
  | .hbm, ⟨5, _⟩ => ⟨S16384x7168, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== NormMod.lean ====
abbrev S16384x2048 : Shape := ⟨2, ![16384, 2048]⟩
abbrev S2048 : Shape := ⟨1, ![2048]⟩
abbrev S24x1x2048 : Shape := ⟨3, ![24, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S24x1x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S16384x2048 : Shape := ⟨2, ![16384, 2048]⟩
abbrev S2048 : Shape := ⟨1, ![2048]⟩
abbrev S24x1x2048 : Shape := ⟨3, ![24, 1, 2048]⟩
abbrev S8x3x2048 : Shape := ⟨3, ![8, 3, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S24x1x2048, .f32⟩
  | .hbm, ⟨3, _⟩ => ⟨S8x3x2048, .f32⟩
  | .hbm, ⟨4, _⟩ => ⟨S8x1x2048, .f32⟩
  | .hbm, ⟨5, _⟩ => ⟨S8x1x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S16384x2048, .f32⟩
  | .hbm, ⟨31, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== FinalNorm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormInSample.lean ====
abbrev S128x2048 : Shape := ⟨2, ![128, 2048]⟩
abbrev S2048x7168 : Shape := ⟨2, ![2048, 7168]⟩
abbrev S1024 : Shape := ⟨1, ![1024]⟩
abbrev S1x1024 : Shape := ⟨2, ![1, 1024]⟩
abbrev S128x1024 : Shape := ⟨2, ![128, 1024]⟩
abbrev S2048x1024 : Shape := ⟨2, ![2048, 1024]⟩
abbrev S128 : Shape := ⟨1, ![128]⟩
abbrev S128x1 : Shape := ⟨2, ![128, 1]⟩

abbrev nBuf : Space → Nat
  | .hbm => 7
  | .vmem => 6
  | .smem => 0
  | _ => 0

abbrev bufTy : (tb : Table) → Fin (tcTables nBuf tb) → BufTy
  | .hbm, ⟨0, _⟩ => ⟨S128x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S128x1024, .f32⟩
  | .local _ .vmem, ⟨0, _⟩ => ⟨S128x2048, .bf16⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S128x1024, .f32⟩
  | .local _ .vmem, ⟨5, _⟩ => ⟨S2048x1024, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== NormInSampleRefIdeal.lean ====
abbrev S128x2048 : Shape := ⟨2, ![128, 2048]⟩
abbrev S2048x7168 : Shape := ⟨2, ![2048, 7168]⟩
abbrev S1024 : Shape := ⟨1, ![1024]⟩
abbrev S128x7168 : Shape := ⟨2, ![128, 7168]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x7168, .f32⟩
  | .hbm, ⟨2, _⟩ => ⟨S1024, .f32⟩
  | .hbm, ⟨3, _⟩ => ⟨S1024, .f32⟩
  | .hbm, ⟨4, _⟩ => ⟨S128x2048, .f32⟩
  | .hbm, ⟨5, _⟩ => ⟨S128x7168, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128, .f32⟩
  | .hbm, ⟨32, _⟩ => ⟨S128x1, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S128x1024, .f32⟩
  | .hbm, ⟨52, _⟩ => ⟨S128x1024, .f32⟩
  | .hbm, ⟨53, _⟩ => ⟨S1x1024, .f32⟩
  | .hbm, ⟨54, _⟩ => ⟨S128x1024, .f32⟩
  | .hbm, ⟨55, _⟩ => ⟨S128x1024, .f32⟩
  | .hbm, ⟨56, _⟩ => ⟨S1x1024, .f32⟩
  | .hbm, ⟨57, _⟩ => ⟨S128x1024, .f32⟩
  | .hbm, ⟨58, _⟩ => ⟨S128x1024, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== FinalNormSample.lean ====
abbrev S128x2048 : Shape := ⟨2, ![128, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048, .f32⟩
  | .hbm, ⟨3, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalNormSampleRefIdeal.lean ====
abbrev S128x2048 : Shape := ⟨2, ![128, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S128x2048, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x2048, .f32⟩
  | .hbm, ⟨14, _⟩ => ⟨S128x2048, .f32⟩
  | .hbm, ⟨15, _⟩ => ⟨S1x2048, .f32⟩
  | .hbm, ⟨16, _⟩ => ⟨S128x2048, .f32⟩
  | .hbm, ⟨17, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Scores.lean ====
module

public import proofs.«01_k».proof.Proof.Gen.KernelIdeal.Value
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (c : Dev nD) (i : grid0.Coords) (arg2 : Memref sig .tc .smem S8 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x2048 .f32) (harg10 : arg10.IsWhole) (arg11 : Memref sig .tc .vmem S2048x128 .f32) (harg11 : arg11.IsWhole)
    (x0 : Vec Ideal S8 .f32) (x1 x2 x3 x4 : Vec Ideal S1x2048x128 .f32)

/-- The f32 word of minus infinity. -/
theorem word_negInf : Ideal.ofBits .f32 4286578688#32 = (⊥ : EReal) := by
  simp [Ideal.ofBits, Ideal.ieee]
theorem word_256 : Ideal.ofBits .f32 1132462080#32 = ((256 : ℝ) : EReal) := by
  simp [Ideal.ofBits, Ideal.ieee, -EReal.coe_mul]; norm_num
theorem word_512 : Ideal.ofBits .f32 1140850688#32 = ((512 : ℝ) : EReal) := by
  simp [Ideal.ofBits, Ideal.ieee, -EReal.coe_mul]; norm_num
theorem word_768 : Ideal.ofBits .f32 1145044992#32 = ((768 : ℝ) : EReal) := by
  simp [Ideal.ofBits, Ideal.ieee, -EReal.coe_mul]; norm_num
theorem word_1024 : Ideal.ofBits .f32 1149239296#32 = ((1024 : ℝ) : EReal) := by
  simp [Ideal.ofBits, Ideal.ieee, -EReal.coe_mul]; norm_num
theorem word_1280 : Ideal.ofBits .f32 1151336448#32 = ((1280 : ℝ) : EReal) := by
  simp [Ideal.ofBits, Ideal.ieee, -EReal.coe_mul]; norm_num
theorem word_1536 : Ideal.ofBits .f32 1153433600#32 = ((1536 : ℝ) : EReal) := by
  simp [Ideal.ofBits, Ideal.ieee, -EReal.coe_mul]; norm_num
theorem word_1792 : Ideal.ofBits .f32 1155530752#32 = ((1792 : ℝ) : EReal) := by
  simp [Ideal.ofBits, Ideal.ieee, -EReal.coe_mul]; norm_num

/-- The kernel's name for minus infinity. -/
theorem mask_eq : (Named.named κ "mask" (4048155338#32 : BitVec (FTy.bits .f32)) : Ideal .f32) = (⊥ : EReal) := by
  simp [Named.named, κ]

/-- The difference of two positions of a block, as the kernel forms it in words. -/
theorem diff_eq (r d : Fin 256) : (FloatOps.sitofp .f32 (IntOp.subi (BitVec.ofNat 32 ↑r) (BitVec.ofNat 32 ↑d)) : Ideal .f32)
    = (((r : ℕ) : ℝ) - ((d : ℕ) : ℝ) : ℝ) := by
  have h : (IntOp.subi (BitVec.ofNat 32 ↑r) (BitVec.ofNat 32 ↑d)).toInt = (r : ℤ) - (d : ℤ) := by
    revert r d; intro r d
    have hr := r.isLt; have hd := d.isLt
    have e : ∀ n : ℕ, n < 256 → (BitVec.ofNat 32 n).toInt = (n : ℤ) := fun n hn => by
      rw [BitVec.toInt_eq_toNat_of_lt (by rw [BitVec.toNat_ofNat]; omega), BitVec.toNat_ofNat]; omega
    rw [IntOp.subi, BitVec.toInt_sub, e _ hr, e _ hd]
    simp only [Int.bmod]
    omega
  show ((((IntOp.subi (BitVec.ofNat 32 ↑r) (BitVec.ofNat 32 ↑d)).toInt : ℤ) : ℝ) : EReal) = _
  rw [h]; push_cast; rfl

/-- A query row times the scale against a key row. -/
def dotS (q k : FVec Ideal S1x2048x128 .f32) (t c : Fin 2048) : EReal :=
  ∑ x : Fin 128, q (ix3 0 t x) * Ideal.ofBits FTy.f32 1035273459#32 * k (ix3 0 c x)

/-- The score of query `t` against key `c`: the scaled product less the slope times the distance where the key is
    seen (its block is chosen, or it is in the query's block and not after it), and minus infinity elsewhere. -/
def score (S : FVec Ideal S2048x128 .f32) (sl : EReal) (q k : FVec Ideal S1x2048x128 .f32) (t c : Fin 2048) : EReal :=
  if (c : ℕ) / 256 < (t : ℕ) / 256 then
    (if Ideal.ofBits FTy.f32 1056964608#32 < S (ix2 t ⟨(c : ℕ) / 256, by have := c.isLt; omega⟩) then
      dotS q k t c - sl * ((((t : ℕ) : ℝ) - ((c : ℕ) : ℝ) : ℝ) : EReal) else ⊥)
  else (if (c : ℕ) ≤ (t : ℕ) then dotS q k t c - sl * ((((t : ℕ) : ℝ) - ((c : ℕ) : ℝ) : ℝ) : EReal) else ⊥)

/-- The largest score of a query. -/
def smax (S : FVec Ideal S2048x128 .f32) (sl : EReal) (q k : FVec Ideal S1x2048x128 .f32) (t : Fin 2048) : EReal :=
  Finset.univ.sup (fun c => score S sl q k t c)

/-- The attention of query `t` at column `d`. -/
def attend (S : FVec Ideal S2048x128 .f32) (sl : EReal) (q k v : FVec Ideal S1x2048x128 .f32) (t : Fin 2048) (d : Fin 128) : EReal :=
  Ideal.div (∑ c : Fin 2048, Ideal.exp (score S sl q k t c - smax S sl q k t) * v (ix3 0 c d))
    (∑ c : Fin 2048, Ideal.exp (score S sl q k t c - smax S sl q k t))

variable (S : FVec Ideal S2048x128 .f32) (sl : EReal) (q k v : FVec Ideal S1x2048x128 .f32)

/-- A block before the query's, as the kernel writes it: `K` is the word of the distance of the two blocks. -/
theorem past_eq (w : BitVec 32) (K : ℕ) (hw : Ideal.ofBits .f32 w = (((K : ℕ) : ℝ) : EReal)) (t cc : Fin 2048) (n : Fin 128) (r d : Fin 256)
    (h : (t : ℕ) + d = r + cc + K) (hn : (cc : ℕ) / 256 = n) (hb : (n : ℕ) < (t : ℕ) / 256) :
    (if Ideal.ofBits FTy.f32 1056964608#32 < S (ix2 t n) then
      ∑ x, q (ix3 0 t x) * Ideal.ofBits FTy.f32 1035273459#32 * k (ix3 0 cc x) -
        sl * (FloatOps.sitofp FTy.f32 (IntOp.subi (BitVec.ofNat 32 ↑r) (BitVec.ofNat 32 ↑d)) + Ideal.ofBits FTy.f32 w)
      else Named.named κ "mask" 4048155338#32) = score S sl q k t cc := by
  have e : (⟨(cc : ℕ) / 256, by have := cc.isLt; omega⟩ : Fin 128) = n := Fin.ext hn
  unfold score
  rw [if_pos (c := (cc : ℕ) / 256 < (t : ℕ) / 256) (by omega), e, mask_eq, diff_eq, hw, ← EReal.coe_add]
  have h' : ((t : ℕ) : ℝ) + ((d : ℕ) : ℝ) = ((r : ℕ) : ℝ) + ((cc : ℕ) : ℝ) + (K : ℝ) := by exact_mod_cast h
  rw [show ((r : ℕ) : ℝ) - ((d : ℕ) : ℝ) + ((K : ℕ) : ℝ) = ((t : ℕ) : ℝ) - ((cc : ℕ) : ℝ) by linarith]
  rfl

/-- The query's own block, as the kernel writes it. -/
theorem own_eq (t cc : Fin 2048) (r d : Fin 256) (h : (t : ℕ) + d = r + cc) (hb : (cc : ℕ) / 256 = (t : ℕ) / 256) :
    (if 0 ≤ (FloatOps.sitofp FTy.f32 (IntOp.subi (BitVec.ofNat 32 ↑r) (BitVec.ofNat 32 ↑d)) : Ideal .f32) then
      ∑ x, q (ix3 0 t x) * Ideal.ofBits FTy.f32 1035273459#32 * k (ix3 0 cc x) -
        sl * (FloatOps.sitofp FTy.f32 (IntOp.subi (BitVec.ofNat 32 ↑r) (BitVec.ofNat 32 ↑d)))
      else Named.named κ "mask" 4048155338#32) = score S sl q k t cc := by
  unfold score
  rw [if_neg (c := (cc : ℕ) / 256 < (t : ℕ) / 256) (by omega), mask_eq, diff_eq]
  have h' : ((t : ℕ) : ℝ) + ((d : ℕ) : ℝ) = ((r : ℕ) : ℝ) + ((cc : ℕ) : ℝ) := by exact_mod_cast h
  rw [show ((r : ℕ) : ℝ) - ((d : ℕ) : ℝ) = ((t : ℕ) : ℝ) - ((cc : ℕ) : ℝ) by linarith]
  have : ((0 : EReal) ≤ ((((t : ℕ) : ℝ) - ((cc : ℕ) : ℝ) : ℝ) : EReal)) ↔ (cc : ℕ) ≤ t := by
    rw [EReal.coe_nonneg, sub_nonneg, Nat.cast_le]
  simp only [this]
  rfl

theorem fold_sup {n : ℕ} (f : Fin n → EReal) : Finset.fold max (Ideal.ofBits FTy.f32 4286578688#32) f Finset.univ = Finset.univ.sup f := by
  rw [word_negInf]; rfl

/-- Keys after the query have score minus infinity. -/
theorem score_after (t c : Fin 2048) (h : (t : ℕ) < c) : score S sl q k t c = ⊥ := by
  unfold score; rw [if_neg (by omega), if_neg (by omega)]

/-- The scores of one block of keys. -/
def bmax (t : Fin 2048) (n : ℕ) : EReal := if h : n < 8 then Finset.univ.sup (fun d : Fin 256 => score S sl q k t ⟨256 * n + d, by have := d.isLt; omega⟩) else ⊥

theorem bmax_after (t : Fin 2048) (n : ℕ) (h : (t : ℕ) / 256 < n) : bmax S sl q k t n = ⊥ := by
  unfold bmax; split
  · rw [Finset.sup_eq_bot_iff]; intro d _; apply score_after; show _ < 256 * n + (d : ℕ); omega
  · rfl

theorem bmax_eq (t : Fin 2048) (n : ℕ) (hn : n < 8) (f : Fin 256 → Fin 2048) (hf : ∀ d, (f d : ℕ) = 256 * n + d) :
    Finset.univ.sup (fun d : Fin 256 => score S sl q k t (f d)) = bmax S sl q k t n := by
  unfold bmax; rw [dif_pos hn]; congr 1; funext d; congr 1; exact Fin.ext (hf d)

/-- The largest score is the largest of the blocks' largest scores. -/
theorem smax_blocks (t : Fin 2048) : smax S sl q k t = (Finset.range 8).sup (bmax S sl q k t) := by
  apply le_antisymm
  · apply Finset.sup_le; intro c _
    have hc := c.isLt
    have h8 : (c : ℕ) / 256 < 8 := by omega
    refine le_trans ?_ (Finset.le_sup (f := bmax S sl q k t) (b := (c : ℕ) / 256) (Finset.mem_range.2 h8))
    unfold bmax; rw [dif_pos h8]
    have := Finset.le_sup (f := fun d : Fin 256 => score S sl q k t ⟨256 * ((c : ℕ) / 256) + d, by have := d.isLt; omega⟩) (b := ⟨(c : ℕ) % 256, by omega⟩) (Finset.mem_univ _)
    refine le_trans (le_of_eq ?_) this
    congr 1; apply Fin.ext; show _ = 256 * ((c : ℕ) / 256) + (c : ℕ) % 256; omega
  · apply Finset.sup_le; intro n _
    unfold bmax; split
    · apply Finset.sup_le; intro d _
      exact Finset.le_sup (f := fun c => score S sl q k t c) (Finset.mem_univ _)
    · exact bot_le

/-- The largest score from the blocks up to the query's. -/
theorem smax_upto (t : Fin 2048) (j : ℕ) (hj : (t : ℕ) / 256 = j) : smax S sl q k t = (Finset.range (j + 1)).sup (bmax S sl q k t) := by
  have ht := t.isLt
  rw [smax_blocks]
  apply le_antisymm
  · apply Finset.sup_le; intro n hn
    by_cases h : n ≤ j
    · exact Finset.le_sup (f := bmax S sl q k t) (Finset.mem_range.2 (by omega))
    · rw [bmax_after _ _ _ _ _ _ (by omega)]; exact bot_le
  · exact Finset.sup_mono (Finset.range_subset_range.2 (by omega))

/-- The largest score of a block before the query's, as the kernel writes it. -/
theorem past_block (w : BitVec 32) (K : ℕ) (hw : Ideal.ofBits .f32 w = (((K : ℕ) : ℝ) : EReal)) (t : Fin 2048) (m : ℕ) (n : Fin 128) (r : Fin 256) (f : Fin 256 → Fin 2048)
    (hm : m < 8) (hn : (n : ℕ) = m) (hf : ∀ d, (f d : ℕ) = 256 * m + d) (h : (t : ℕ) = r + 256 * m + K) (hb : m < (t : ℕ) / 256) :
    bmax S sl q k t m = Finset.fold max (Ideal.ofBits FTy.f32 4286578688#32) (fun d : Fin 256 =>
      if Ideal.ofBits FTy.f32 1056964608#32 < S (ix2 t n) then
      ∑ x, q (ix3 0 t x) * Ideal.ofBits FTy.f32 1035273459#32 * k (ix3 0 (f d) x) -
        sl * (FloatOps.sitofp FTy.f32 (IntOp.subi (BitVec.ofNat 32 ↑r) (BitVec.ofNat 32 ↑d)) + Ideal.ofBits FTy.f32 w)
      else Named.named κ "mask" 4048155338#32) Finset.univ := by
  rw [fold_sup, ← bmax_eq S sl q k t m hm f hf]
  refine congrArg _ (funext fun d => ?_)
  have := d.isLt; have := hf d
  exact (past_eq S sl q k w K hw t (f d) n r d (by omega) (by omega) (by omega)).symm

/-- The largest score of the query's own block, as the kernel writes it. -/
theorem own_block (t : Fin 2048) (m : ℕ) (r : Fin 256) (f : Fin 256 → Fin 2048)
    (hm : m < 8) (hf : ∀ d, (f d : ℕ) = 256 * m + d) (h : (t : ℕ) = 256 * m + r) :
    bmax S sl q k t m = Finset.fold max (Ideal.ofBits FTy.f32 4286578688#32) (fun d : Fin 256 =>
      if 0 ≤ (FloatOps.sitofp FTy.f32 (IntOp.subi (BitVec.ofNat 32 ↑r) (BitVec.ofNat 32 ↑d)) : Ideal .f32) then
      ∑ x, q (ix3 0 t x) * Ideal.ofBits FTy.f32 1035273459#32 * k (ix3 0 (f d) x) -
        sl * (FloatOps.sitofp FTy.f32 (IntOp.subi (BitVec.ofNat 32 ↑r) (BitVec.ofNat 32 ↑d)))
      else Named.named κ "mask" 4048155338#32) Finset.univ := by
  rw [fold_sup, ← bmax_eq S sl q k t m hm f hf]
  refine congrArg _ (funext fun d => ?_)
  have := d.isLt; have := hf d; have := r.isLt
  exact (own_eq S sl q k t (f d) r d (by omega) (by omega)).symm

theorem sup_range_succ (f : ℕ → EReal) (n : ℕ) : (Finset.range (n + 1 + 1)).sup f = max ((Finset.range (n + 1)).sup f) (f (n + 1)) := by
  rw [Finset.range_add_one, Finset.sup_insert, sup_comm]

theorem sup_range_one (f : ℕ → EReal) : (Finset.range (0 + 1)).sup f = f 0 := by
  simp

theorem exp_bot_sub (x : EReal) : Ideal.exp (⊥ - x) = 0 := by
  rw [EReal.bot_sub]; rfl

/-- The sums over the keys up to the end of the query's block are the sums over all the keys. -/
theorem attend_upto (t : Fin 2048) (d : Fin 128) (W : ℕ) (hW : (t : ℕ) < W) (hW' : W ≤ 2048) (g : Fin W → EReal) (hg : ∀ c, g c = score S sl q k t ⟨c, by have := c.isLt; omega⟩)
    (u : Fin W → EReal) (hu : ∀ c, u c = v (ix3 0 ⟨c, by have := c.isLt; omega⟩ d)) :
    Ideal.div (∑ c, Ideal.exp (g c - smax S sl q k t) * u c) (∑ c, Ideal.exp (g c - smax S sl q k t)) = attend S sl q k v t d := by
  have key : ∀ F : Fin 2048 → EReal, (∀ c : Fin 2048, W ≤ (c : ℕ) → F c = 0) → ∑ c : Fin W, F ⟨c, by have := c.isLt; omega⟩ = ∑ c : Fin 2048, F c := by
    intro F hF
    obtain ⟨n, hn⟩ : ∃ n, 2048 = W + n := ⟨2048 - W, by omega⟩
    rw [← Fintype.sum_equiv (finCongr hn.symm) (fun c => F (finCongr hn.symm c)) F (fun _ => rfl), Fin.sum_univ_add]
    rw [Finset.sum_eq_zero (s := Finset.univ) (f := fun i : Fin n => F (finCongr hn.symm (Fin.natAdd W i))), add_zero]
    · rfl
    · intro i _; apply hF; show W ≤ W + (i : ℕ); omega
  unfold attend
  congr 1
  · rw [← key]
    · refine Finset.sum_congr rfl fun c _ => ?_; rw [hg, hu]
    · intro c hc; rw [score_after _ _ _ _ _ _ (by omega), exp_bot_sub, zero_mul]
  · rw [← key]
    · refine Finset.sum_congr rfl fun c _ => ?_; rw [hg]
    · intro c hc; rw [score_after _ _ _ _ _ _ (by omega), exp_bot_sub]

end Cert.KernelIdeal.Value
end
-- ==== Proof.ScoreReads.lean ====
module

public import proofs.«01_k».proof.Proof.Gen.KernelIdeal.Value
public import Idealize.ShloMosaic.Lib.Pipeline.ValueKit
public import Idealize.ShloMosaic.Lib.Pipeline.ReadBack
public import proofs.«01_k».proof.Proof.Scores
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (c : Dev nD) (i : grid0.Coords) (arg2 : Memref sig .tc .smem S8 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x2048 .f32) (harg10 : arg10.IsWhole) (arg11 : Memref sig .tc .vmem S2048x128 .f32) (harg11 : arg11.IsWhole)
    (x0 : Vec Ideal S8 .f32) (x1 x2 x3 x4 : Vec Ideal S1x2048x128 .f32)

/-- A piece of the score buffer, read at a place: the place is in the piece, or the earlier pieces are read. -/
theorem canon_step (o : ℕ) (ho : o + 256 ≤ 2048) (inb : ∀ a, (![0, o] : Fin 2 → ℕ) a + S256x256.size a ≤ S256x2048.size a) (w : S256x256.Idx → EReal) (L : List (View.Piece (Elt Ideal) S256x2048 .f32))
    (r : Fin 256) (d : Fin 2048) (g : Fin 2048 → EReal) (h1 : ∀ b : Fin 256, w (ix2 r b) = g ⟨o + b, by have := b.isLt; omega⟩)
    (h2 : ¬ (o ≤ (d : ℕ) ∧ (d : ℕ) < o + 256) → View.canon L (ix2 r d) = g d) :
    View.canon ((⟨Rect.unit ![0, o] S256x256.size inb, w⟩ : View.Piece (Elt Ideal) S256x2048 .f32) :: L) (ix2 r d) = g d := by
  by_cases hm : o ≤ (d : ℕ) ∧ (d : ℕ) < o + 256
  · have hd : (⟨o + ((⟨(d : ℕ) - o, by omega⟩ : Fin 256) : ℕ), by show o + ((d : ℕ) - o) < 2048; omega⟩ : Fin 2048) = d := Fin.ext (by show o + ((d : ℕ) - o) = d; omega)
    have e : (ix2 r d : S256x2048.Idx) = (Rect.unit (s := S256x2048) ![0, o] S256x256.size inb).emb (ix2 r (⟨(d : ℕ) - o, by omega⟩ : Fin 256)) := by
      funext a
      apply Fin.ext
      show _ = ((Rect.unit (s := S256x2048) ![0, o] S256x256.size inb).idx (ix2 r (⟨(d : ℕ) - o, by omega⟩ : Fin 256)) a : ℕ)
      rw [Rect.idx_unit_val]
      match a with
      | 0 => show (r : ℕ) = 0 + (r : ℕ); omega
      | 1 => show (d : ℕ) = o + ((d : ℕ) - o); omega
    rw [e, View.canon_cons_emb]
    rw [h1, hd]
  · rw [View.canon_cons_of_not_mem]
    · exact h2 hm
    · intro hmem
      obtain ⟨x, hx⟩ := (Rect.unit (s := S256x2048) ![0, o] S256x256.size inb).exists_idx_of_mem hmem
      apply hm
      have h := congrArg (fun z : S256x2048.Idx => (z 1 : ℕ)) hx
      have h' : ((Rect.unit (s := S256x2048) ![0, o] S256x256.size inb).idx x 1 : ℕ) = o + (x 1 : ℕ) := Rect.idx_unit_val _ _ _ _ _
      have hx1 : (x 1 : ℕ) < 256 := (x 1).isLt
      have h2 : ((ix2 r d : S256x2048.Idx) 1 : ℕ) = (d : ℕ) := rfl
      simp only [h', h2] at h
      omega

/-- The place of the score buffer a corner window reads. -/
theorem corner_idx (W : ℕ) (inb : ∀ a, (![0, 0] : Fin 2 → ℕ) a + (![256, W] : Fin 2 → ℕ) a ≤ S256x2048.size a) (hW : W ≤ 2048) (r : Fin 256) (d : Fin W) :
    (Rect.unit (s := S256x2048) ![0, 0] ![256, W] inb).idx (ix2 r d) = (ix2 r (⟨d, by have := d.isLt; omega⟩ : Fin 2048) : S256x2048.Idx) := by
  funext a
  apply Fin.ext
  rw [Rect.idx_unit_val]
  match a with
  | 0 => show 0 + (r : ℕ) = r; omega
  | 1 => show 0 + (d : ℕ) = d; omega

set_option maxHeartbeats 4000000 in
/-- Row `r` of the query block 0: the score buffer as it is read. -/
theorem read_0 (r : Fin 256) (d : Fin 256) : kernelRun0_A.sl.v192 (F := Ideal) c i arg2 harg2 arg3 harg3 arg4 harg4 arg8 arg10 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨0 + r, by have := r.isLt; omega⟩ ⟨d, by have := d.isLt; omega⟩ := by
  unfold kernelRun0_A.sl.v192 kernelRun0_A.sl.HS2_1
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 256] _).toLoadRect.idx (ix2 r d)) = _ from corner_idx 256 _ (by decide) r d]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨0 + r, by have := r.isLt; omega⟩ cc) (fun b => ?_) (fun h0 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨0 + r, by have := r.isLt; omega⟩ ⟨0 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 1: the score buffer as it is read. -/
theorem read_1 (r : Fin 256) (d : Fin 512) : kernelRun0_A.sl.v251 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨256 + r, by have := r.isLt; omega⟩ ⟨d, by have := d.isLt; omega⟩ := by
  unfold kernelRun0_A.sl.v251 kernelRun0_A.sl.HS2_3
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 512] _).toLoadRect.idx (ix2 r d)) = _ from corner_idx 512 _ (by decide) r d]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨256 + r, by have := r.isLt; omega⟩ cc) (fun b => ?_) (fun h1 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨256 + r, by have := r.isLt; omega⟩ ⟨256 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨256 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨256 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 2: the score buffer as it is read. -/
theorem read_2 (r : Fin 256) (d : Fin 768) : kernelRun0_A.sl.v329 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨512 + r, by have := r.isLt; omega⟩ ⟨d, by have := d.isLt; omega⟩ := by
  unfold kernelRun0_A.sl.v329 kernelRun0_A.sl.HS2_6
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 768] _).toLoadRect.idx (ix2 r d)) = _ from corner_idx 768 _ (by decide) r d]
  refine canon_step 512 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨512 + r, by have := r.isLt; omega⟩ cc) (fun b => ?_) (fun h2 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨512 + r, by have := r.isLt; omega⟩ ⟨512 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨512 + r, by have := r.isLt; omega⟩ cc) (fun b => ?_) (fun h1 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨512 + r, by have := r.isLt; omega⟩ ⟨256 + b, by have := b.isLt; omega⟩ ⟨1, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨512 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1140850688#32 512 (by rw [word_512]; norm_num) ⟨512 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 3: the score buffer as it is read. -/
theorem read_3 (r : Fin 256) (d : Fin 1024) : kernelRun0_A.sl.v426 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ ⟨d, by have := d.isLt; omega⟩ := by
  unfold kernelRun0_A.sl.v426 kernelRun0_A.sl.HS2_10
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 1024] _).toLoadRect.idx (ix2 r d)) = _ from corner_idx 1024 _ (by decide) r d]
  refine canon_step 768 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ cc) (fun b => ?_) (fun h3 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ ⟨768 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 512 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ cc) (fun b => ?_) (fun h2 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨768 + r, by have := r.isLt; omega⟩ ⟨512 + b, by have := b.isLt; omega⟩ ⟨2, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ cc) (fun b => ?_) (fun h1 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1140850688#32 512 (by rw [word_512]; norm_num) ⟨768 + r, by have := r.isLt; omega⟩ ⟨256 + b, by have := b.isLt; omega⟩ ⟨1, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1145044992#32 768 (by rw [word_768]; norm_num) ⟨768 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 4: the score buffer as it is read. -/
theorem read_4 (r : Fin 256) (d : Fin 1280) : kernelRun0_A.sl.v542 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ ⟨d, by have := d.isLt; omega⟩ := by
  unfold kernelRun0_A.sl.v542 kernelRun0_A.sl.HS2_15
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 1280] _).toLoadRect.idx (ix2 r d)) = _ from corner_idx 1280 _ (by decide) r d]
  refine canon_step 1024 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ cc) (fun b => ?_) (fun h4 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ ⟨1024 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 768 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ cc) (fun b => ?_) (fun h3 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨1024 + r, by have := r.isLt; omega⟩ ⟨768 + b, by have := b.isLt; omega⟩ ⟨3, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 512 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ cc) (fun b => ?_) (fun h2 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1140850688#32 512 (by rw [word_512]; norm_num) ⟨1024 + r, by have := r.isLt; omega⟩ ⟨512 + b, by have := b.isLt; omega⟩ ⟨2, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ cc) (fun b => ?_) (fun h1 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1145044992#32 768 (by rw [word_768]; norm_num) ⟨1024 + r, by have := r.isLt; omega⟩ ⟨256 + b, by have := b.isLt; omega⟩ ⟨1, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1149239296#32 1024 (by rw [word_1024]; norm_num) ⟨1024 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 5: the score buffer as it is read. -/
theorem read_5 (r : Fin 256) (d : Fin 1536) : kernelRun0_A.sl.v677 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ ⟨d, by have := d.isLt; omega⟩ := by
  unfold kernelRun0_A.sl.v677 kernelRun0_A.sl.HS2_21
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 1536] _).toLoadRect.idx (ix2 r d)) = _ from corner_idx 1536 _ (by decide) r d]
  refine canon_step 1280 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ cc) (fun b => ?_) (fun h5 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ ⟨1280 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 1024 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ cc) (fun b => ?_) (fun h4 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨1280 + r, by have := r.isLt; omega⟩ ⟨1024 + b, by have := b.isLt; omega⟩ ⟨4, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 768 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ cc) (fun b => ?_) (fun h3 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1140850688#32 512 (by rw [word_512]; norm_num) ⟨1280 + r, by have := r.isLt; omega⟩ ⟨768 + b, by have := b.isLt; omega⟩ ⟨3, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 512 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ cc) (fun b => ?_) (fun h2 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1145044992#32 768 (by rw [word_768]; norm_num) ⟨1280 + r, by have := r.isLt; omega⟩ ⟨512 + b, by have := b.isLt; omega⟩ ⟨2, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ cc) (fun b => ?_) (fun h1 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1149239296#32 1024 (by rw [word_1024]; norm_num) ⟨1280 + r, by have := r.isLt; omega⟩ ⟨256 + b, by have := b.isLt; omega⟩ ⟨1, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1151336448#32 1280 (by rw [word_1280]; norm_num) ⟨1280 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 6: the score buffer as it is read. -/
theorem read_6 (r : Fin 256) (d : Fin 1792) : kernelRun0_A.sl.v831 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ ⟨d, by have := d.isLt; omega⟩ := by
  unfold kernelRun0_A.sl.v831 kernelRun0_A.sl.HS2_28
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 1792] _).toLoadRect.idx (ix2 r d)) = _ from corner_idx 1792 _ (by decide) r d]
  refine canon_step 1536 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h6 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ ⟨1536 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 1280 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h5 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨1536 + r, by have := r.isLt; omega⟩ ⟨1280 + b, by have := b.isLt; omega⟩ ⟨5, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 1024 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h4 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1140850688#32 512 (by rw [word_512]; norm_num) ⟨1536 + r, by have := r.isLt; omega⟩ ⟨1024 + b, by have := b.isLt; omega⟩ ⟨4, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 768 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h3 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1145044992#32 768 (by rw [word_768]; norm_num) ⟨1536 + r, by have := r.isLt; omega⟩ ⟨768 + b, by have := b.isLt; omega⟩ ⟨3, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 512 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h2 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1149239296#32 1024 (by rw [word_1024]; norm_num) ⟨1536 + r, by have := r.isLt; omega⟩ ⟨512 + b, by have := b.isLt; omega⟩ ⟨2, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h1 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1151336448#32 1280 (by rw [word_1280]; norm_num) ⟨1536 + r, by have := r.isLt; omega⟩ ⟨256 + b, by have := b.isLt; omega⟩ ⟨1, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1153433600#32 1536 (by rw [word_1536]; norm_num) ⟨1536 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

set_option maxHeartbeats 4000000 in
/-- Row `r` of the query block 7: the score buffer as it is read. -/
theorem read_7 (r : Fin 256) (d : Fin 2048) : kernelRun0_A.sl.v1004 (F := Ideal) c i arg2 harg2 arg3 harg3 arg4 harg4 arg8 arg10 arg11 x0 x1 x2 (ix2 r d)
    = score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ ⟨d, by have := d.isLt; omega⟩ := by
  unfold kernelRun0_A.sl.v1004 kernelRun0_A.sl.HS2_36
  rw [View.readCov_eq_canon']
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  rw [show ((Rect.unit (s := S256x2048) ![0, 0] ![256, 2048] _).toLoadRect.idx (ix2 r d)) = _ from corner_idx 2048 _ (by decide) r d]
  refine canon_step 1792 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h7 => ?_)
  · refine Eq.trans ?_ (own_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ ⟨1792 + b, by have := b.isLt; omega⟩ r b (by dsimp only; omega) (by have := r.isLt; have := b.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 1536 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h6 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1132462080#32 256 (by rw [word_256]; norm_num) ⟨1792 + r, by have := r.isLt; omega⟩ ⟨1536 + b, by have := b.isLt; omega⟩ ⟨6, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 1280 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h5 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1140850688#32 512 (by rw [word_512]; norm_num) ⟨1792 + r, by have := r.isLt; omega⟩ ⟨1280 + b, by have := b.isLt; omega⟩ ⟨5, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 1024 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h4 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1145044992#32 768 (by rw [word_768]; norm_num) ⟨1792 + r, by have := r.isLt; omega⟩ ⟨1024 + b, by have := b.isLt; omega⟩ ⟨4, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 768 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h3 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1149239296#32 1024 (by rw [word_1024]; norm_num) ⟨1792 + r, by have := r.isLt; omega⟩ ⟨768 + b, by have := b.isLt; omega⟩ ⟨3, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 512 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h2 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1151336448#32 1280 (by rw [word_1280]; norm_num) ⟨1792 + r, by have := r.isLt; omega⟩ ⟨512 + b, by have := b.isLt; omega⟩ ⟨2, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 256 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h1 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1153433600#32 1536 (by rw [word_1536]; norm_num) ⟨1792 + r, by have := r.isLt; omega⟩ ⟨256 + b, by have := b.isLt; omega⟩ ⟨1, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  refine canon_step 0 (by decide) _ _ _ r _ (fun cc => score (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ cc) (fun b => ?_) (fun h0 => ?_)
  · refine Eq.trans ?_ (past_eq (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 1155530752#32 1792 (by rw [word_1792]; norm_num) ⟨1792 + r, by have := r.isLt; omega⟩ ⟨0 + b, by have := b.isLt; omega⟩ ⟨0, by decide⟩ r b (by dsimp only; omega) (by have := b.isLt; dsimp only; omega) (by have := r.isLt; dsimp only; omega))
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]
  · exfalso
    have := d.isLt
    dsimp only at *
    omega

end Cert.KernelIdeal.Value
end
-- ==== Proof.Blocks.lean ====
module

public import proofs.«01_k».proof.Proof.Gen.KernelIdeal.Value
public import Idealize.ShloMosaic.Lib.Pipeline.ValueKit
public import Idealize.ShloMosaic.Lib.Pipeline.ReadBack
public import proofs.«01_k».proof.Proof.ScoreReads
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (c : Dev nD) (i : grid0.Coords) (arg2 : Memref sig .tc .smem S8 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x2048 .f32) (harg10 : arg10.IsWhole) (arg11 : Memref sig .tc .vmem S2048x128 .f32) (harg11 : arg11.IsWhole)
    (x0 : Vec Ideal S8 .f32) (x1 x2 x3 x4 : Vec Ideal S1x2048x128 .f32)

set_option maxHeartbeats 8000000 in
/-- What is stored for the query block 0, at row `r` and column `d`. -/
theorem piece_0 (r : Fin 256) (d : Fin 128) : k0_pay18 (F := Ideal) (kernelRun0_A.sl.r_7 c i arg2 harg2 arg3 harg3 arg4 harg4 arg5 harg5 arg8 arg9 arg10 x0 x1 x2 x3) (kernelRun0_A.sl.r_8 c arg6 harg6 x4) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨0 + r, by have := r.isLt; omega⟩ d * x4 (ix3 0 ⟨0 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨0 + r, by have := r.isLt; omega⟩ 0 (by have := r.isLt; first | (dsimp only; omega) | omega | rfl)
  rw [sup_range_one,
      own_block _ _ _ _ _ 0 r (fun x => ⟨x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨0 + r, by have := r.isLt; omega⟩ d 256 (by have := r.isLt; first | (dsimp only; omega) | omega | rfl) (by decide)
    (fun cc => kernelRun0_A.sl.v192 (F := Ideal) c i arg2 harg2 arg3 harg3 arg4 harg4 arg8 arg10 x0 x1 x2 (ix2 r cc)) (fun cc => read_0 c i arg2 harg2 arg3 harg3 arg4 harg4 arg8 arg10 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 1, at row `r` and column `d`. -/
theorem piece_1 (r : Fin 256) (d : Fin 128) : k0_pay27 (F := Ideal) k0_pay14 (kernelRun0_A.sl.r_9 c i arg2 harg2 arg3 harg3 arg4 harg4 arg8 arg11 x0 x1 x2) (kernelRun0_A.sl.r_10 c i arg2 harg2 arg3 harg3 arg4 harg4 arg8 x0 x1 x2) k0_pay24 (kernelRun0_A.sl.v251 c i arg2 harg2 arg3 harg3 arg4 harg4 arg8 arg10 arg11 x0 x1 x2) (kernelRun0_A.sl.v258 c arg5 harg5 arg9 x3) (View.readAt (Elt Ideal) arg6.view (Rect.unit (s := S1x2048x128) ![0, 256, 0] S1x256x128.size inb_S1x2048x128_S1x256x128_0_256_0).toLoadRect (harg6.unread x4)) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨256 + r, by have := r.isLt; omega⟩ d * x4 (ix3 0 ⟨256 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨256 + r, by have := r.isLt; omega⟩ 1 (by have := r.isLt; first | (dsimp only; omega) | omega | rfl)
  rw [sup_range_succ _ 0, sup_range_one,
      past_block _ _ _ _ 1132462080#32 256 (by rw [word_256]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      own_block _ _ _ _ _ 1 r (fun x => ⟨256 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨256 + r, by have := r.isLt; omega⟩ d 512 (by have := r.isLt; first | (dsimp only; omega) | omega | rfl) (by decide)
    (fun cc => kernelRun0_A.sl.v251 (F := Ideal) c i arg2 harg2 arg3 harg3 arg4 harg4 arg8 arg10 arg11 x0 x1 x2 (ix2 r cc)) (fun cc => read_1 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 2, at row `r` and column `d`. -/
theorem piece_2 (r : Fin 256) (d : Fin 128) : k0_pay38 (F := Ideal) k0_pay14 (kernelRun0_A.sl.r_12 c i arg2 harg2 arg3 harg3 arg4 harg4 arg8 arg11 x0 x1 x2) (kernelRun0_A.sl.r_13 c arg3 harg3 arg4 harg4 arg8 x1 x2) (kernelRun0_A.sl.r_14 c i arg2 harg2 x0) (kernelRun0_A.sl.v329 c i arg2 harg2 arg3 harg3 arg4 harg4 arg8 arg10 arg11 x0 x1 x2) (kernelRun0_A.sl.v336 c arg5 harg5 arg9 x3) (View.readAt (Elt Ideal) arg6.view (Rect.unit (s := S1x2048x128) ![0, 512, 0] S1x256x128.size inb_S1x2048x128_S1x256x128_0_512_0).toLoadRect (harg6.unread x4)) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨512 + r, by have := r.isLt; omega⟩ d * x4 (ix3 0 ⟨512 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨512 + r, by have := r.isLt; omega⟩ 2 (by have := r.isLt; first | (dsimp only; omega) | omega | rfl)
  rw [sup_range_succ _ 1, sup_range_succ _ 0, sup_range_one,
      past_block _ _ _ _ 1140850688#32 512 (by rw [word_512]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      past_block _ _ _ _ 1132462080#32 256 (by rw [word_256]; norm_num) _ 1 1 r (fun x => ⟨256 + x, by have := x.isLt; omega⟩) (by decide) rfl (fun x => by first | (dsimp only; omega) | omega | rfl) (by first | (dsimp only; omega) | omega | rfl) (by have := r.isLt; first | (dsimp only; omega) | omega | rfl),
      own_block _ _ _ _ _ 2 r (fun x => ⟨512 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨512 + r, by have := r.isLt; omega⟩ d 768 (by have := r.isLt; first | (dsimp only; omega) | omega | rfl) (by decide)
    (fun cc => kernelRun0_A.sl.v329 (F := Ideal) c i arg2 harg2 arg3 harg3 arg4 harg4 arg8 arg10 arg11 x0 x1 x2 (ix2 r cc)) (fun cc => read_2 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 3, at row `r` and column `d`. -/
theorem piece_3 (r : Fin 256) (d : Fin 128) : k0_pay54 (F := Ideal) (kernelRun0_A.sl.r_19 c i arg2 harg2 arg3 harg3 arg4 harg4 arg8 arg10 arg11 x0 x1 x2) (kernelRun0_A.sl.r_20 c i arg2 harg2 arg3 harg3 arg4 harg4 arg8 arg10 arg11 x0 x1 x2) (kernelRun0_A.sl.v433 c arg5 harg5 arg9 x3) (View.readAt (Elt Ideal) arg6.view (Rect.unit (s := S1x2048x128) ![0, 768, 0] S1x256x128.size inb_S1x2048x128_S1x256x128_0_768_0).toLoadRect (harg6.unread x4)) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨768 + r, by have := r.isLt; omega⟩ d * x4 (ix3 0 ⟨768 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨768 + r, by have := r.isLt; omega⟩ 3 (by have := r.isLt; first | (dsimp only; omega) | omega | rfl)
  rw [sup_range_succ _ 2, sup_range_succ _ 1, sup_range_succ _ 0, sup_range_one,
      past_block _ _ _ _ 1145044992#32 768 (by rw [word_768]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      past_block _ _ _ _ 1140850688#32 512 (by rw [word_512]; norm_num) _ 1 1 r (fun x => ⟨256 + x, by have := x.isLt; omega⟩) (by decide) rfl (fun x => by first | (dsimp only; omega) | omega | rfl) (by first | (dsimp only; omega) | omega | rfl) (by have := r.isLt; first | (dsimp only; omega) | omega | rfl),
      past_block _ _ _ _ 1132462080#32 256 (by rw [word_256]; norm_num) _ 2 2 r (fun x => ⟨512 + x, by have := x.isLt; omega⟩) (by decide) rfl (fun x => by first | (dsimp only; omega) | omega | rfl) (by first | (dsimp only; omega) | omega | rfl) (by have := r.isLt; first | (dsimp only; omega) | omega | rfl),
      own_block _ _ _ _ _ 3 r (fun x => ⟨768 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨768 + r, by have := r.isLt; omega⟩ d 1024 (by have := r.isLt; first | (dsimp only; omega) | omega | rfl) (by decide)
    (fun cc => kernelRun0_A.sl.v426 (F := Ideal) c i arg2 harg2 arg3 harg3 arg4 harg4 arg8 arg10 arg11 x0 x1 x2 (ix2 r cc)) (fun cc => read_3 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 4, at row `r` and column `d`. -/
theorem piece_4 (r : Fin 256) (d : Fin 128) : k0_pay73 (F := Ideal) (kernelRun0_A.sl.r_26 c i arg2 harg2 arg3 harg3 arg4 harg4 arg8 arg10 arg11 x0 x1 x2) (kernelRun0_A.sl.r_27 c i arg2 harg2 arg3 harg3 arg4 harg4 arg8 arg10 arg11 x0 x1 x2) (kernelRun0_A.sl.v549 c arg5 harg5 arg9 x3) (View.readAt (Elt Ideal) arg6.view (Rect.unit (s := S1x2048x128) ![0, 1024, 0] S1x256x128.size inb_S1x2048x128_S1x256x128_0_1024_0).toLoadRect (harg6.unread x4)) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1024 + r, by have := r.isLt; omega⟩ d * x4 (ix3 0 ⟨1024 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1024 + r, by have := r.isLt; omega⟩ 4 (by have := r.isLt; first | (dsimp only; omega) | omega | rfl)
  rw [sup_range_succ _ 3, sup_range_succ _ 2, sup_range_succ _ 1, sup_range_succ _ 0, sup_range_one,
      past_block _ _ _ _ 1149239296#32 1024 (by rw [word_1024]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      past_block _ _ _ _ 1145044992#32 768 (by rw [word_768]; norm_num) _ 1 1 r (fun x => ⟨256 + x, by have := x.isLt; omega⟩) (by decide) rfl (fun x => by first | (dsimp only; omega) | omega | rfl) (by first | (dsimp only; omega) | omega | rfl) (by have := r.isLt; first | (dsimp only; omega) | omega | rfl),
      past_block _ _ _ _ 1140850688#32 512 (by rw [word_512]; norm_num) _ 2 2 r (fun x => ⟨512 + x, by have := x.isLt; omega⟩) (by decide) rfl (fun x => by first | (dsimp only; omega) | omega | rfl) (by first | (dsimp only; omega) | omega | rfl) (by have := r.isLt; first | (dsimp only; omega) | omega | rfl),
      past_block _ _ _ _ 1132462080#32 256 (by rw [word_256]; norm_num) _ 3 3 r (fun x => ⟨768 + x, by have := x.isLt; omega⟩) (by decide) rfl (fun x => by first | (dsimp only; omega) | omega | rfl) (by first | (dsimp only; omega) | omega | rfl) (by have := r.isLt; first | (dsimp only; omega) | omega | rfl),
      own_block _ _ _ _ _ 4 r (fun x => ⟨1024 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1024 + r, by have := r.isLt; omega⟩ d 1280 (by have := r.isLt; first | (dsimp only; omega) | omega | rfl) (by decide)
    (fun cc => kernelRun0_A.sl.v542 (F := Ideal) c i arg2 harg2 arg3 harg3 arg4 harg4 arg8 arg10 arg11 x0 x1 x2 (ix2 r cc)) (fun cc => read_4 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 5, at row `r` and column `d`. -/
theorem piece_5 (r : Fin 256) (d : Fin 128) : k0_pay95 (F := Ideal) k0_pay14 (kernelRun0_A.sl.r_34 c i arg2 harg2 arg3 harg3 arg4 harg4 arg8 arg11 x0 x1 x2) (kernelRun0_A.sl.r_35 c i arg2 harg2 arg3 harg3 arg4 harg4 arg8 x0 x1 x2) k0_pay92 (kernelRun0_A.sl.v677 c i arg2 harg2 arg3 harg3 arg4 harg4 arg8 arg10 arg11 x0 x1 x2) (kernelRun0_A.sl.v684 c arg5 harg5 arg9 x3) (View.readAt (Elt Ideal) arg6.view (Rect.unit (s := S1x2048x128) ![0, 1280, 0] S1x256x128.size inb_S1x2048x128_S1x256x128_0_1280_0).toLoadRect (harg6.unread x4)) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1280 + r, by have := r.isLt; omega⟩ d * x4 (ix3 0 ⟨1280 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1280 + r, by have := r.isLt; omega⟩ 5 (by have := r.isLt; first | (dsimp only; omega) | omega | rfl)
  rw [sup_range_succ _ 4, sup_range_succ _ 3, sup_range_succ _ 2, sup_range_succ _ 1, sup_range_succ _ 0, sup_range_one,
      past_block _ _ _ _ 1151336448#32 1280 (by rw [word_1280]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      past_block _ _ _ _ 1149239296#32 1024 (by rw [word_1024]; norm_num) _ 1 1 r (fun x => ⟨256 + x, by have := x.isLt; omega⟩) (by decide) rfl (fun x => by first | (dsimp only; omega) | omega | rfl) (by first | (dsimp only; omega) | omega | rfl) (by have := r.isLt; first | (dsimp only; omega) | omega | rfl),
      past_block _ _ _ _ 1145044992#32 768 (by rw [word_768]; norm_num) _ 2 2 r (fun x => ⟨512 + x, by have := x.isLt; omega⟩) (by decide) rfl (fun x => by first | (dsimp only; omega) | omega | rfl) (by first | (dsimp only; omega) | omega | rfl) (by have := r.isLt; first | (dsimp only; omega) | omega | rfl),
      past_block _ _ _ _ 1140850688#32 512 (by rw [word_512]; norm_num) _ 3 3 r (fun x => ⟨768 + x, by have := x.isLt; omega⟩) (by decide) rfl (fun x => by first | (dsimp only; omega) | omega | rfl) (by first | (dsimp only; omega) | omega | rfl) (by have := r.isLt; first | (dsimp only; omega) | omega | rfl),
      past_block _ _ _ _ 1132462080#32 256 (by rw [word_256]; norm_num) _ 4 4 r (fun x => ⟨1024 + x, by have := x.isLt; omega⟩) (by decide) rfl (fun x => by first | (dsimp only; omega) | omega | rfl) (by first | (dsimp only; omega) | omega | rfl) (by have := r.isLt; first | (dsimp only; omega) | omega | rfl),
      own_block _ _ _ _ _ 5 r (fun x => ⟨1280 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1280 + r, by have := r.isLt; omega⟩ d 1536 (by have := r.isLt; first | (dsimp only; omega) | omega | rfl) (by decide)
    (fun cc => kernelRun0_A.sl.v677 (F := Ideal) c i arg2 harg2 arg3 harg3 arg4 harg4 arg8 arg10 arg11 x0 x1 x2 (ix2 r cc)) (fun cc => read_5 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 6, at row `r` and column `d`. -/
theorem piece_6 (r : Fin 256) (d : Fin 128) : k0_pay117 (F := Ideal) (kernelRun0_A.sl.r_42 c i arg2 harg2 arg3 harg3 arg4 harg4 arg8 arg11 x0 x1 x2) (kernelRun0_A.sl.r_43 c i arg2 harg2 arg3 harg3 arg4 harg4 arg8 x0 x1 x2) (kernelRun0_A.sl.v831 c i arg2 harg2 arg3 harg3 arg4 harg4 arg8 arg10 arg11 x0 x1 x2) (kernelRun0_A.sl.v838 c arg5 harg5 arg9 x3) (View.readAt (Elt Ideal) arg6.view (Rect.unit (s := S1x2048x128) ![0, 1536, 0] S1x256x128.size inb_S1x2048x128_S1x256x128_0_1536_0).toLoadRect (harg6.unread x4)) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1536 + r, by have := r.isLt; omega⟩ d * x4 (ix3 0 ⟨1536 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1536 + r, by have := r.isLt; omega⟩ 6 (by have := r.isLt; first | (dsimp only; omega) | omega | rfl)
  rw [sup_range_succ _ 5, sup_range_succ _ 4, sup_range_succ _ 3, sup_range_succ _ 2, sup_range_succ _ 1, sup_range_succ _ 0, sup_range_one,
      past_block _ _ _ _ 1153433600#32 1536 (by rw [word_1536]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      past_block _ _ _ _ 1151336448#32 1280 (by rw [word_1280]; norm_num) _ 1 1 r (fun x => ⟨256 + x, by have := x.isLt; omega⟩) (by decide) rfl (fun x => by first | (dsimp only; omega) | omega | rfl) (by first | (dsimp only; omega) | omega | rfl) (by have := r.isLt; first | (dsimp only; omega) | omega | rfl),
      past_block _ _ _ _ 1149239296#32 1024 (by rw [word_1024]; norm_num) _ 2 2 r (fun x => ⟨512 + x, by have := x.isLt; omega⟩) (by decide) rfl (fun x => by first | (dsimp only; omega) | omega | rfl) (by first | (dsimp only; omega) | omega | rfl) (by have := r.isLt; first | (dsimp only; omega) | omega | rfl),
      past_block _ _ _ _ 1145044992#32 768 (by rw [word_768]; norm_num) _ 3 3 r (fun x => ⟨768 + x, by have := x.isLt; omega⟩) (by decide) rfl (fun x => by first | (dsimp only; omega) | omega | rfl) (by first | (dsimp only; omega) | omega | rfl) (by have := r.isLt; first | (dsimp only; omega) | omega | rfl),
      past_block _ _ _ _ 1140850688#32 512 (by rw [word_512]; norm_num) _ 4 4 r (fun x => ⟨1024 + x, by have := x.isLt; omega⟩) (by decide) rfl (fun x => by first | (dsimp only; omega) | omega | rfl) (by first | (dsimp only; omega) | omega | rfl) (by have := r.isLt; first | (dsimp only; omega) | omega | rfl),
      past_block _ _ _ _ 1132462080#32 256 (by rw [word_256]; norm_num) _ 5 5 r (fun x => ⟨1280 + x, by have := x.isLt; omega⟩) (by decide) rfl (fun x => by first | (dsimp only; omega) | omega | rfl) (by first | (dsimp only; omega) | omega | rfl) (by have := r.isLt; first | (dsimp only; omega) | omega | rfl),
      own_block _ _ _ _ _ 6 r (fun x => ⟨1536 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1536 + r, by have := r.isLt; omega⟩ d 1792 (by have := r.isLt; first | (dsimp only; omega) | omega | rfl) (by decide)
    (fun cc => kernelRun0_A.sl.v831 (F := Ideal) c i arg2 harg2 arg3 harg3 arg4 harg4 arg8 arg10 arg11 x0 x1 x2 (ix2 r cc)) (fun cc => read_6 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

set_option maxHeartbeats 8000000 in
/-- What is stored for the query block 7, at row `r` and column `d`. -/
theorem piece_7 (r : Fin 256) (d : Fin 128) : k0_pay1 (F := Ideal) (kernelRun0_A.sl.r_54 c i arg2 harg2 arg3 harg3 arg4 harg4 arg5 harg5 arg6 harg6 arg8 arg9 arg10 arg11 x0 x1 x2 x3 x4) (ix3 0 r d)
    = attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1792 + r, by have := r.isLt; omega⟩ d * x4 (ix3 0 ⟨1792 + r, by have := r.isLt; omega⟩ d) := by
  have hM := smax_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 ⟨1792 + r, by have := r.isLt; omega⟩ 7 (by have := r.isLt; first | (dsimp only; omega) | omega | rfl)
  rw [sup_range_succ _ 6, sup_range_succ _ 5, sup_range_succ _ 4, sup_range_succ _ 3, sup_range_succ _ 2, sup_range_succ _ 1, sup_range_succ _ 0, sup_range_one,
      past_block _ _ _ _ 1155530752#32 1792 (by rw [word_1792]; norm_num) _ 0 0 r (fun x => ⟨x, by have := x.isLt; omega⟩) (by decide) rfl (fun x => by first | (dsimp only; omega) | omega | rfl) (by first | (dsimp only; omega) | omega | rfl) (by have := r.isLt; first | (dsimp only; omega) | omega | rfl),
      past_block _ _ _ _ 1153433600#32 1536 (by rw [word_1536]; norm_num) _ 1 1 r (fun x => ⟨256 + x, by have := x.isLt; omega⟩) (by decide) rfl (fun x => by first | (dsimp only; omega) | omega | rfl) (by first | (dsimp only; omega) | omega | rfl) (by have := r.isLt; first | (dsimp only; omega) | omega | rfl),
      past_block _ _ _ _ 1151336448#32 1280 (by rw [word_1280]; norm_num) _ 2 2 r (fun x => ⟨512 + x, by have := x.isLt; omega⟩) (by decide) rfl (fun x => by first | (dsimp only; omega) | omega | rfl) (by first | (dsimp only; omega) | omega | rfl) (by have := r.isLt; first | (dsimp only; omega) | omega | rfl),
      past_block _ _ _ _ 1149239296#32 1024 (by rw [word_1024]; norm_num) _ 3 3 r (fun x => ⟨768 + x, by have := x.isLt; omega⟩) (by decide) rfl (fun x => by first | (dsimp only; omega) | omega | rfl) (by first | (dsimp only; omega) | omega | rfl) (by have := r.isLt; first | (dsimp only; omega) | omega | rfl),
      past_block _ _ _ _ 1145044992#32 768 (by rw [word_768]; norm_num) _ 4 4 r (fun x => ⟨1024 + x, by have := x.isLt; omega⟩) (by decide) rfl (fun x => by first | (dsimp only; omega) | omega | rfl) (by first | (dsimp only; omega) | omega | rfl) (by have := r.isLt; first | (dsimp only; omega) | omega | rfl),
      past_block _ _ _ _ 1140850688#32 512 (by rw [word_512]; norm_num) _ 5 5 r (fun x => ⟨1280 + x, by have := x.isLt; omega⟩) (by decide) rfl (fun x => by first | (dsimp only; omega) | omega | rfl) (by first | (dsimp only; omega) | omega | rfl) (by have := r.isLt; first | (dsimp only; omega) | omega | rfl),
      past_block _ _ _ _ 1132462080#32 256 (by rw [word_256]; norm_num) _ 6 6 r (fun x => ⟨1536 + x, by have := x.isLt; omega⟩) (by decide) rfl (fun x => by first | (dsimp only; omega) | omega | rfl) (by first | (dsimp only; omega) | omega | rfl) (by have := r.isLt; first | (dsimp only; omega) | omega | rfl),
      own_block _ _ _ _ _ 7 r (fun x => ⟨1792 + x, by have := x.isLt; omega⟩) (by decide) (fun x => by first | (dsimp only; omega) | omega | rfl) (by first | (dsimp only; omega) | omega | rfl)] at hM
  rw [← attend_upto (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 ⟨1792 + r, by have := r.isLt; omega⟩ d 2048 (by have := r.isLt; first | (dsimp only; omega) | omega | rfl) (by decide)
    (fun cc => kernelRun0_A.sl.v1004 (F := Ideal) c i arg2 harg2 arg3 harg3 arg4 harg4 arg8 arg10 arg11 x0 x1 x2 (ix2 r cc)) (fun cc => read_7 c i arg2 harg2 arg3 harg3 arg4 harg4 arg8 arg10 arg11 x0 x1 x2 r cc) (fun cc => x3 (ix3 0 ⟨cc, by have := cc.isLt; omega⟩ d)) (fun cc => rfl)]
  rw [hM]
  simp only [kernelRun0_A.sl.HS0_1, kernelRun0_A.sl.HS1_1, kernelRun0_A.sl.HS3_1, kernelRun0_A.sl.cst_120, kernelRun0_A.sl.cst_269, kernelRun0_A.sl.cst_324, kernelRun0_A.sl.cst_414, kernelRun0_A.sl.cst_431, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.v176, kernelRun0_A.sl.v199, kernelRun0_A.sl.v215, kernelRun0_A.sl.v223, kernelRun0_A.sl.v258, kernelRun0_A.sl.v274, kernelRun0_A.sl.v282, kernelRun0_A.sl.v300, kernelRun0_A.sl.v336, kernelRun0_A.sl.v352, kernelRun0_A.sl.v360, kernelRun0_A.sl.v378, kernelRun0_A.sl.v397, kernelRun0_A.sl.v433, kernelRun0_A.sl.v449, kernelRun0_A.sl.v457, kernelRun0_A.sl.v475, kernelRun0_A.sl.v494, kernelRun0_A.sl.v513, kernelRun0_A.sl.v549, kernelRun0_A.sl.v565, kernelRun0_A.sl.v573, kernelRun0_A.sl.v591, kernelRun0_A.sl.v610, kernelRun0_A.sl.v629, kernelRun0_A.sl.v648, kernelRun0_A.sl.v684, kernelRun0_A.sl.v700, kernelRun0_A.sl.v708, kernelRun0_A.sl.v726, kernelRun0_A.sl.v745, kernelRun0_A.sl.v764, kernelRun0_A.sl.v783, kernelRun0_A.sl.v802, kernelRun0_A.sl.v838, kernelRun0_A.sl.v854, kernelRun0_A.sl.v862, kernelRun0_A.sl.v880, kernelRun0_A.sl.v899, kernelRun0_A.sl.v918, kernelRun0_A.sl.v937, kernelRun0_A.sl.v956, kernelRun0_A.sl.v975, kernelRun0_A.sl.v1011]
  simp (disch := decide) only [View.readAt_eq_ld, Memref.IsWhole.read_unread, View.readCov_fill]
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143]

end Cert.KernelIdeal.Value
end
-- ==== Proof.KernelOut.lean ====
module

public import proofs.«01_k».proof.Proof.Gen.KernelIdeal.Value
public import Idealize.ShloMosaic.Lib.Pipeline.ValueKit
public import Idealize.ShloMosaic.Lib.Pipeline.ReadBack
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (c : Dev nD) (i : grid0.Coords) (arg2 : Memref sig .tc .smem S8 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x2048 .f32) (harg10 : arg10.IsWhole) (arg11 : Memref sig .tc .vmem S2048x128 .f32) (harg11 : arg11.IsWhole)
    (x0 : Vec Ideal S8 .f32) (x1 x2 x3 x4 : Vec Ideal S1x2048x128 .f32)

/-- What a point leaves in its result block: the attention of its head, times the gates. -/
def blockOut (S : FVec Ideal S2048x128 .f32) (sl : EReal) (q k v z : FVec Ideal S1x2048x128 .f32) : S1x2048x128.Idx → EReal :=
  fun y => attend S sl q k v (y 1) (y 2) * z (ix3 0 (y 1) (y 2))

/-- A stored block of rows, from its entries. -/
theorem rows_piece (o : ℕ) (ho : o + 256 ≤ 2048) (inb : ∀ a, (![0, o, 0] : Fin 3 → ℕ) a + S1x256x128.size a ≤ S1x2048x128.size a) (w : S1x256x128.Idx → EReal)
    (G : S1x2048x128.Idx → EReal) (h : ∀ (r : Fin 256) (d : Fin 128), w (ix3 0 r d) = G (ix3 0 ⟨o + r, by have := r.isLt; omega⟩ d))
    (x : S1x256x128.Idx) : w x = G ((Rect.unit (s := S1x2048x128) ![0, o, 0] S1x256x128.size inb).emb x) := by
  have e : (Rect.unit (s := S1x2048x128) ![0, o, 0] S1x256x128.size inb).emb x = (ix3 0 (⟨o + (x 1 : ℕ), by have : (x 1 : ℕ) < 256 := (x 1).isLt; omega⟩ : Fin 2048) (x 2) : S1x2048x128.Idx) := by
    funext a
    apply Fin.ext
    show ((Rect.unit (s := S1x2048x128) ![0, o, 0] S1x256x128.size inb).idx x a : ℕ) = _
    rw [Rect.idx_unit_val]
    match a with
    | 0 => show 0 + (x 0 : ℕ) = 0; have : (x 0 : ℕ) < 1 := (x 0).isLt; omega
    | 1 => rfl
    | 2 => show 0 + (x 2 : ℕ) = x 2; omega
  rw [e]
  have ex : x = (ix3 0 (x 1) (x 2) : S1x256x128.Idx) := by
    funext a
    match a with
    | 0 => exact Fin.ext (by show (x 0 : ℕ) = 0; have : (x 0 : ℕ) < 1 := (x 0).isLt; omega)
    | 1 => rfl
    | 2 => rfl
  exact (congrArg w ex).trans (h (x 1) (x 2))

/-- What the kernel's body leaves in the result block. -/
theorem out_eq : out0_A_5 (F := Ideal) c i arg2 harg2 arg3 harg3 arg4 harg4 arg5 harg5 arg6 harg6 arg7 harg7 arg8 harg8 arg9 harg9 arg10 harg10 arg11 harg11 x0 x1 x2 x3 x4
    = blockOut (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 x4 := by
  funext y
  have hcov := cover0_A_5 (F := Ideal) c i arg2 harg2 arg3 harg3 arg4 harg4 arg5 harg5 arg6 harg6 arg7 harg7 arg8 harg8 arg9 harg9 arg10 harg10 arg11 harg11 x0 x1 x2 x3 x4 y
  unfold out0_A_5
  rw [View.read_writes_eq_canon _ _ _ (fun y => cover0_A_5 c i arg2 harg2 arg3 harg3 arg4 harg4 arg5 harg5 arg6 harg6 arg7 harg7 arg8 harg8 arg9 harg9 arg10 harg10 arg11 harg11 x0 x1 x2 x3 x4 y)]
  unfold kernelRun0_A at hcov ⊢
  dsimp only at hcov ⊢
  refine View.canon_apply_of_pieces (Val := Elt Ideal) (blockOut (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2)) (kernelRun0_A.sl.r (F := Ideal) c i arg2 harg2 x0) x1 x2 x3 x4) _ (fun p hp x => ?_) y hcov
  simp only [List.mem_cons, List.not_mem_nil, or_false] at hp
  rcases hp with rfl | rfl | rfl | rfl | rfl | rfl | rfl | rfl
  · exact rows_piece 1792 (by decide) inb_S1x2048x128_S1x256x128_0_1792_0 _ _ (fun r d => piece_7 c i arg2 harg2 arg3 harg3 arg4 harg4 arg5 harg5 arg6 harg6 arg8 arg9 arg10 arg11 x0 x1 x2 x3 x4 r d) x
  · exact rows_piece 1536 (by decide) inb_S1x2048x128_S1x256x128_0_1536_0 _ _ (fun r d => piece_6 c i arg2 harg2 arg3 harg3 arg4 harg4 arg5 harg5 arg6 harg6 arg8 arg9 arg10 arg11 x0 x1 x2 x3 x4 r d) x
  · exact rows_piece 1280 (by decide) inb_S1x2048x128_S1x256x128_0_1280_0 _ _ (fun r d => piece_5 c i arg2 harg2 arg3 harg3 arg4 harg4 arg5 harg5 arg6 harg6 arg8 arg9 arg10 arg11 x0 x1 x2 x3 x4 r d) x
  · exact rows_piece 1024 (by decide) inb_S1x2048x128_S1x256x128_0_1024_0 _ _ (fun r d => piece_4 c i arg2 harg2 arg3 harg3 arg4 harg4 arg5 harg5 arg6 harg6 arg8 arg9 arg10 arg11 x0 x1 x2 x3 x4 r d) x
  · exact rows_piece 768 (by decide) inb_S1x2048x128_S1x256x128_0_768_0 _ _ (fun r d => piece_3 c i arg2 harg2 arg3 harg3 arg4 harg4 arg5 harg5 arg6 harg6 arg8 arg9 arg10 arg11 x0 x1 x2 x3 x4 r d) x
  · exact rows_piece 512 (by decide) inb_S1x2048x128_S1x256x128_0_512_0 _ _ (fun r d => piece_2 c i arg2 harg2 arg3 harg3 arg4 harg4 arg5 harg5 arg6 harg6 arg8 arg9 arg10 arg11 x0 x1 x2 x3 x4 r d) x
  · exact rows_piece 256 (by decide) inb_S1x2048x128_S1x256x128_0_256_0 _ _ (fun r d => piece_1 c i arg2 harg2 arg3 harg3 arg4 harg4 arg5 harg5 arg6 harg6 arg8 arg9 arg10 arg11 x0 x1 x2 x3 x4 r d) x
  · exact rows_piece 0 (by decide) inb_S1x2048x128_S1x256x128_0_0_0 _ _ (fun r d => piece_0 c i arg2 harg2 arg3 harg3 arg4 harg4 arg5 harg5 arg6 harg6 arg8 arg9 arg10 x0 x1 x2 x3 x4 r d) x

end Cert.KernelIdeal.Value
end
-- ==== Proof.Moba.lean ====
module

public import Idealize.ShloMosaic.Lib.Pipeline.ValueKit
public import Idealize.ShloMosaic.Lib.SortPrefix

/-! The attention over chosen blocks of keys, as the two programs compute it for one head, and that the two ways agree. -/

@[expose] public section
noncomputable section
open Idealize.ShloMosaic
open scoped Classical
namespace Cert.Moba

/-! ## The three best blocks: by counting who is better, and by sorting -/

/-- Block `m` comes before block `n`: its gate is greater, or equal and `m` is the earlier block. -/
def beats (g : Fin 8 → EReal) (n m : Fin 8) : Prop := g n < g m ∨ (g m = g n ∧ m < n)

/-- Fewer than three blocks come before block `n`. -/
def chosen (g : Fin 8 → EReal) (n : Fin 8) : Prop := (Finset.univ.filter fun m => beats g n m).card < 3

/-- The order the sort is given: the greater gate first. -/
def gateGt (g : Fin 8 → EReal) (a b : Fin 8) : Bool := (FloatOps.cmpfTotal (F := Ideal) (φ := .f32) .gt (g a) (g b)) == 1#1

/-- The order with its ties broken by position. -/
def gateFirst (g : Fin 8 → EReal) (a b : Fin 8) : Bool := decide (g b < g a) || (decide (g a = g b) && decide (a < b))

theorem gateGt_eq (g : Fin 8 → EReal) (a b : Fin 8) : gateGt g a b = decide (g b < g a) := by
  unfold gateGt
  show (Ideal.cmp .ogt (g a) (g b) == 1#1) = _
  unfold Ideal.cmp
  by_cases h : g b < g a <;> simp [h]

theorem gateFirst_strict (g : Fin 8 → EReal) : StrictTotalBefore (gateFirst g) :=
  StrictTotalBefore.of_key_then_position (fun x y : EReal => decide (y < x)) g (fun a => by simp)
    (fun a b c h1 h2 => by simp only [decide_eq_true_eq] at *; exact lt_trans h2 h1)
    (fun a b => by simp only [decide_eq_true_eq]; exact (lt_trichotomy b a).imp id (Or.imp Eq.symm id))

/-- A stable sort of increasing positions breaks its ties by position. -/
theorem stable_eq (g : Fin 8 → EReal) : ∀ l : List (Fin 8), l.Pairwise (· < ·) → stableSort (gateGt g) l = stableSort (gateFirst g) l
  | [], _ => rfl
  | a :: l, h => by
    rw [List.pairwise_cons] at h
    unfold stableSort
    rw [stable_eq g l h.2]
    refine insertBefore_congr _ _ _ _ fun b hb => ?_
    have hab := h.1 b ((perm_stableSort (gateFirst g) l).mem_iff.mp hb)
    have : ¬ b < a := not_lt.mpr hab.le
    simp [gateGt_eq, gateFirst, this]

/-- The block the sort puts at place `s`. -/
def place (g : Fin 8 → EReal) (s : Fin 8) : Fin 8 := sortedFrom (gateGt g) s

theorem place_eq (g : Fin 8 → EReal) (s : Fin 8) : place g s = sortedFrom (gateFirst g) s := by
  have h : sortPositions 8 (gateGt g) = sortPositions 8 (gateFirst g) := stable_eq g _ (List.pairwise_lt_finRange 8)
  unfold place sortedFrom
  simp only [List.get_eq_getElem, h, Fin.val_cast]

theorem place_injective (g : Fin 8 → EReal) : Function.Injective (place g) := sortedFrom_injective _
theorem place_surjective (g : Fin 8 → EReal) : Function.Surjective (place g) := sortedFrom_surjective _

theorem beats_place (g : Fin 8 → EReal) (i k : Fin 8) : beats g (place g i) (place g k) ↔ k < i := by
  have hB : beats g (place g i) (place g k) ↔ gateFirst g (place g k) (place g i) = true := by
    simp [beats, gateFirst]
  have st := gateFirst_strict g
  have hno : ∀ i j : Fin 8, i < j → gateFirst g (place g j) (place g i) = false := fun i j hij => by
    rw [place_eq, place_eq]
    exact sortedFrom_noInversion _ _ (fun a b h => st.asymm a b h) (fun _ _ h => h) st.negTrans i j hij
  rw [hB]
  rcases lt_trichotomy k i with h | h | h
  · refine ⟨fun _ => h, fun _ => ?_⟩
    rcases st.total (place g k) (place g i) (fun e => h.ne (place_injective g e)) with h1 | h1
    · exact h1
    · rw [hno k i h] at h1; cases h1
  · subst h; simp [st.irrefl]
  · rw [hno i k h]; simp [h.le]

/-- The block at place `i` has `i` blocks before it. -/
theorem card_beats_place (g : Fin 8 → EReal) (i : Fin 8) : (Finset.univ.filter fun m => beats g (place g i) m).card = i := by
  have h : (Finset.univ.filter fun m => beats g (place g i) m) = (Finset.Iio i).image (place g) := by
    ext m
    obtain ⟨k, rfl⟩ := place_surjective g m
    simp only [Finset.mem_filter, Finset.mem_univ, true_and, Finset.mem_image, Finset.mem_Iio, beats_place]
    exact ⟨fun h => ⟨k, h, rfl⟩, fun ⟨k', h, e⟩ => place_injective g e ▸ h⟩
  rw [h, Finset.card_image_of_injective _ (place_injective g), Fin.card_Iio]

theorem chosen_place (g : Fin 8 → EReal) (i : Fin 8) : chosen g (place g i) ↔ (i : ℕ) < 3 := by
  unfold chosen; rw [card_beats_place]

/-! ## One head's attention -/

section
variable (q k v : Fin 2048 → Fin 128 → EReal) (sl : EReal) (t : Fin 2048)

/-- The scale of the scores. -/
abbrev SC : EReal := Ideal.ofBits .f32 1035273459#32

/-- Key `r` of block `n`. -/
def key (n : Fin 8) (r : Fin 256) : Fin 2048 := ⟨n * 256 + r, by have := n.isLt; have := r.isLt; omega⟩

/-- The block of a position. -/
def blockOf (c : Fin 2048) : Fin 8 := ⟨c / 256, by have := c.isLt; omega⟩

/-- The scaled query against the block's mean key. -/
def gate (n : Fin 8) : EReal := ∑ x : Fin 128, Ideal.div (∑ r : Fin 256, k (key n r) x) (Ideal.ofBits .f32 1132462080#32) * (q t x * SC)

/-- The gate, for the earlier blocks only. -/
def masked (n : Fin 8) : EReal := if (n : ℕ) < (t : ℕ) / 256 then gate q k t n else ⊥

/-- The scaled product less the slope times the distance. -/
def raw (c : Fin 2048) : EReal := (∑ x : Fin 128, q t x * SC * k c x) - sl * ((((t : ℕ) : ℝ) - ((c : ℕ) : ℝ) : ℝ) : EReal)

/-- The score of every key: of a chosen earlier block, or of the query's own block up to the query. -/
def full (c : Fin 2048) : EReal :=
  if (c : ℕ) / 256 < (t : ℕ) / 256 then (if chosen (masked q k t) (blockOf c) then raw q k sl t c else ⊥)
  else (if (c : ℕ) ≤ (t : ℕ) then raw q k sl t c else ⊥)

def fullMax : EReal := Finset.univ.sup fun c => full q k sl t c

/-- The attention, over every key. -/
def attFull (d : Fin 128) : EReal :=
  Ideal.div (∑ c : Fin 2048, Ideal.exp (full q k sl t c - fullMax q k sl t) * v c d) (∑ c : Fin 2048, Ideal.exp (full q k sl t c - fullMax q k sl t))

/-- The block of each of the four slots: the three best, and the query's own. -/
def slot (s : Fin 4) : Fin 8 := if (s : ℕ) < 3 then place (masked q k t) (s.castLE (by decide)) else blockOf t

/-- The slot holds an earlier block, or is the query's own. -/
def okSlot (s : Fin 4) : Prop := (s : ℕ) < 3 → (slot q k t s : ℕ) < (t : ℕ) / 256

/-- The score of key `r` of slot `s`. -/
def part (s : Fin 4) (r : Fin 256) : EReal :=
  if okSlot q k t s ∧ (key (slot q k t s) r : ℕ) ≤ (t : ℕ) then raw q k sl t (key (slot q k t s) r) else ⊥

def partMax : EReal := Finset.univ.sup fun p : Fin 4 × Fin 256 => part q k sl t p.1 p.2

/-- The attention, over the four slots' keys, each weight divided first. -/
def attPart (d : Fin 128) : EReal :=
  ∑ s : Fin 4, ∑ r : Fin 256, Ideal.div (Ideal.exp (part q k sl t s r - partMax q k sl t))
    (∑ s : Fin 4, ∑ r : Fin 256, Ideal.exp (part q k sl t s r - partMax q k sl t)) * v (key (slot q k t s) r) d

theorem key_div (n : Fin 8) (r : Fin 256) : (key n r : ℕ) / 256 = n := by
  show ((n : ℕ) * 256 + r) / 256 = n
  have := r.isLt; omega

theorem blockOf_key (n : Fin 8) (r : Fin 256) : blockOf (key n r) = n := Fin.ext (key_div n r)

theorem key_blockOf (c : Fin 2048) : key (blockOf c) ⟨(c : ℕ) % 256, Nat.mod_lt _ (by decide)⟩ = c := by
  apply Fin.ext
  show (c : ℕ) / 256 * 256 + (c : ℕ) % 256 = c
  omega

theorem full_key (n : Fin 8) (r : Fin 256) : full q k sl t (key n r)
    = if (n : ℕ) < (t : ℕ) / 256 then (if chosen (masked q k t) n then raw q k sl t (key n r) else ⊥)
      else (if (key n r : ℕ) ≤ (t : ℕ) then raw q k sl t (key n r) else ⊥) := by
  unfold full; rw [key_div, blockOf_key]

theorem key_le_of_past (n : Fin 8) (r : Fin 256) (h : (n : ℕ) < (t : ℕ) / 256) : (key n r : ℕ) ≤ t := by
  show (n : ℕ) * 256 + r ≤ t
  have := r.isLt; omega

theorem lt_key_of_future (n : Fin 8) (r : Fin 256) (h : (t : ℕ) / 256 < (n : ℕ)) : ¬ (key n r : ℕ) ≤ t := by
  show ¬ (n : ℕ) * 256 + r ≤ t
  omega

theorem slot_lt (s : Fin 4) (h : (s : ℕ) < 3) : slot q k t s = place (masked q k t) (s.castLE (by decide)) := if_pos h
theorem slot_own (s : Fin 4) (h : ¬ (s : ℕ) < 3) : slot q k t s = blockOf t := if_neg h

theorem full_slot (s : Fin 4) (r : Fin 256) (h : okSlot q k t s) : full q k sl t (key (slot q k t s) r) = part q k sl t s r := by
  rw [full_key]
  unfold part
  by_cases hs : (s : ℕ) < 3
  · have hp := h hs
    have hc : chosen (masked q k t) (slot q k t s) := by
      rw [slot_lt q k t s hs]; exact (chosen_place _ _).mpr hs
    rw [if_pos hp, if_pos hc, if_pos ⟨h, key_le_of_past t _ r hp⟩]
  · have : ¬ (slot q k t s : ℕ) < (t : ℕ) / 256 := by
      rw [slot_own q k t s hs]; exact lt_irrefl _
    rw [if_neg this]
    simp only [h, true_and]

theorem part_bad (s : Fin 4) (r : Fin 256) (h : ¬ okSlot q k t s) : part q k sl t s r = ⊥ := if_neg fun e => h e.1

theorem full_miss (n : Fin 8) (r : Fin 256) (h : ∀ s, okSlot q k t s → slot q k t s ≠ n) : full q k sl t (key n r) = ⊥ := by
  rw [full_key]
  rcases lt_trichotomy (n : ℕ) ((t : ℕ) / 256) with hn | hn | hn
  · rw [if_pos hn, if_neg]
    intro hc
    obtain ⟨i, rfl⟩ := place_surjective (masked q k t) n
    rw [chosen_place] at hc
    have e : slot q k t ⟨i, by omega⟩ = place (masked q k t) i := slot_lt q k t _ hc
    exact h ⟨i, by omega⟩ (fun _ => by rw [e]; exact hn) e
  · exact absurd (slot_own q k t 3 (by decide)) (fun e => h 3 (fun h3 => absurd h3 (by decide)) (e.trans (Fin.ext hn.symm)))
  · rw [if_neg (by omega), if_neg (lt_key_of_future t n r hn)]

theorem slot_injOn : Set.InjOn (slot q k t) {s | okSlot q k t s} := by
  intro a ha b hb e
  by_cases h1 : (a : ℕ) < 3 <;> by_cases h2 : (b : ℕ) < 3
  · rw [slot_lt q k t a h1, slot_lt q k t b h2] at e
    have e' := congrArg Fin.val (place_injective _ e)
    exact Fin.ext e'
  · have := ha h1; rw [e, slot_own q k t b h2] at this; exact absurd this (lt_irrefl _)
  · have := hb h2; rw [← e, slot_own q k t a h1] at this; exact absurd this (lt_irrefl _)
  · apply Fin.ext; have := a.isLt; have := b.isLt; omega

theorem sum_keys (f : Fin 2048 → EReal) : ∑ c : Fin 2048, f c = ∑ n : Fin 8, ∑ r : Fin 256, f (key n r) := by
  rw [← Fintype.sum_prod_type' (f := fun n r => f (key n r))]
  refine (Fintype.sum_bijective (fun p : Fin 8 × Fin 256 => key p.1 p.2) ⟨?_, ?_⟩ _ _ fun p => rfl).symm
  · rintro ⟨n, r⟩ ⟨n', r'⟩ e
    have e' : (n : ℕ) * 256 + r = n' * 256 + r' := congrArg Fin.val e
    have := r.isLt; have := r'.isLt
    refine Prod.ext (Fin.ext ?_) (Fin.ext ?_) <;> dsimp only <;> omega
  · exact fun c => ⟨⟨blockOf c, ⟨(c : ℕ) % 256, Nat.mod_lt _ (by decide)⟩⟩, key_blockOf c⟩

/-- A sum over every key of what is nothing at a masked score is the sum over the slots' keys. -/
theorem sum_full (f : EReal → Fin 2048 → EReal) (h0 : ∀ c, f ⊥ c = 0) :
    ∑ c : Fin 2048, f (full q k sl t c) c = ∑ s : Fin 4, ∑ r : Fin 256, f (part q k sl t s r) (key (slot q k t s) r) := by
  rw [sum_keys]
  have h1 : ∑ s : Fin 4, ∑ r : Fin 256, f (part q k sl t s r) (key (slot q k t s) r)
      = ∑ s ∈ Finset.univ.filter (fun s => okSlot q k t s), ∑ r : Fin 256, f (full q k sl t (key (slot q k t s) r)) (key (slot q k t s) r) := by
    rw [Finset.sum_filter]
    refine Finset.sum_congr rfl fun s _ => ?_
    by_cases hs : okSlot q k t s
    · rw [if_pos hs]; exact Finset.sum_congr rfl fun r _ => by rw [full_slot q k sl t s r hs]
    · rw [if_neg hs]; exact Finset.sum_eq_zero fun r _ => by rw [part_bad q k sl t s r hs, h0]
  have h2 : Set.InjOn (slot q k t) ((Finset.univ.filter (fun s => okSlot q k t s) : Finset (Fin 4)) : Set (Fin 4)) := by
    intro a ha b hb e
    exact slot_injOn q k t (by simpa using ha) (by simpa using hb) e
  rw [h1, ← Finset.sum_image (s := Finset.univ.filter (fun s => okSlot q k t s)) (g := slot q k t)
    (f := fun n => ∑ r : Fin 256, f (full q k sl t (key n r)) (key n r)) h2]
  refine (Finset.sum_subset (Finset.subset_univ _) fun n _ hn => ?_).symm
  refine Finset.sum_eq_zero fun r _ => ?_
  rw [full_miss q k sl t n r, h0]
  intro s hs e
  exact hn (Finset.mem_image.mpr ⟨s, by simpa using hs, e⟩)

theorem max_eq : fullMax q k sl t = partMax q k sl t := by
  apply le_antisymm
  · refine Finset.sup_le fun c _ => ?_
    rw [← key_blockOf c]
    by_cases h : ∃ s, okSlot q k t s ∧ slot q k t s = blockOf c
    · obtain ⟨s, hs, e⟩ := h
      rw [← e, full_slot q k sl t s _ hs]
      exact Finset.le_sup (f := fun p : Fin 4 × Fin 256 => part q k sl t p.1 p.2) (Finset.mem_univ (s, _))
    · rw [full_miss q k sl t _ _ fun s hs e => h ⟨s, hs, e⟩]; exact bot_le
  · refine Finset.sup_le fun p _ => ?_
    by_cases h : okSlot q k t p.1
    · rw [← full_slot q k sl t p.1 p.2 h]
      exact Finset.le_sup (f := fun c => full q k sl t c) (Finset.mem_univ _)
    · rw [part_bad q k sl t p.1 p.2 h]; exact bot_le

end

/-! ## A head's rows of an array -/

/-- The rows of head `h` of sequence `b`. -/
def headOf (x : (⟨3, ![8, 2048, 1024]⟩ : Shape).Idx → EReal) (b h : Fin 8) : Fin 2048 → Fin 128 → EReal :=
  fun t d => x (ix3 b t (⟨(h : ℕ) * 128 + d, by have := h.isLt; have := d.isLt; omega⟩ : Fin 1024))

/-- The head of a column, and the place in the head. -/
def headIx (c : Fin 1024) : Fin 8 := ⟨(c : ℕ) / 128, by have := c.isLt; omega⟩
def laneIx (c : Fin 1024) : Fin 128 := ⟨(c : ℕ) % 128, Nat.mod_lt _ (by decide)⟩

theorem headIx_mk (h : Fin 8) (d : Fin 128) {p : (h : ℕ) * 128 + d < 1024} : headIx ⟨(h : ℕ) * 128 + d, p⟩ = h :=
  Fin.ext (by show ((h : ℕ) * 128 + d) / 128 = h; have := d.isLt; omega)
theorem laneIx_mk (h : Fin 8) (d : Fin 128) {p : (h : ℕ) * 128 + d < 1024} : laneIx ⟨(h : ℕ) * 128 + d, p⟩ = d :=
  Fin.ext (by show ((h : ℕ) * 128 + d) % 128 = d; have := d.isLt; omega)

/-! ## The two attentions agree when the scores are finite -/

/-- A real value. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type} (s : Finset ι) (f : ι → EReal) (h : ∀ i, IsReal (f i)) : IsReal (∑ i ∈ s, f i) := by
  induction s using Finset.induction_on with
  | empty => exact ⟨0, by simp⟩
  | insert a s ha ih =>
    rw [Finset.sum_insert ha]
    obtain ⟨x, hx⟩ := h a; obtain ⟨y, hy⟩ := ih
    exact ⟨x + y, by rw [hx, hy, EReal.coe_add]⟩
theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem isReal_of_ne {x : EReal} (h1 : x ≠ ⊤) (h2 : x ≠ ⊥) : IsReal x := ⟨x.toReal, (EReal.coe_toReal h1 h2).symm⟩

theorem SC_real : IsReal SC := by
  refine ⟨11863283 / 134217728, ?_⟩
  simp [Ideal.ofBits, Ideal.ieee, -EReal.coe_mul]; norm_num

theorem exp_bot_sub (M : EReal) : Ideal.exp (⊥ - M) = 0 := by
  have : (⊥ : EReal) - M = ⊥ := by rw [sub_eq_add_neg, EReal.bot_add]
  rw [this]; rfl

theorem exp_nonneg (x : EReal) : 0 ≤ Ideal.exp x := by
  induction x with
  | bot => exact le_refl _
  | top => exact le_top
  | coe r => exact EReal.coe_nonneg.mpr (Real.exp_pos r).le

theorem exp_pos (r : ℝ) : 0 < Ideal.exp (r : EReal) := EReal.coe_pos.mpr (Real.exp_pos r)

theorem exp_isReal {x : EReal} (h : x ≠ ⊤) : IsReal (Ideal.exp x) := by
  induction x with
  | bot => exact ⟨0, rfl⟩
  | top => exact absurd rfl h
  | coe r => exact ⟨Real.exp r, rfl⟩

/-- A nonnegative real factor goes into a sum. -/
theorem mul_sum_real {ι : Type} (s : Finset ι) (c : ℝ) (hc : 0 ≤ c) (f : ι → EReal) : (c : EReal) * ∑ i ∈ s, f i = ∑ i ∈ s, (c : EReal) * f i := by
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

section
variable (q k v : Fin 2048 → Fin 128 → EReal) (sl : EReal) (t : Fin 2048)
  (hq : ∀ x, IsReal (q t x)) (hk : ∀ c x, IsReal (k c x)) (hs : IsReal sl)
include hq hk hs

theorem raw_real (c : Fin 2048) : IsReal (raw q k sl t c) :=
  (IsReal.sum _ _ fun x => ((hq x).mul SC_real).mul (hk c x)).sub (hs.mul ⟨_, rfl⟩)

theorem full_ne_top (c : Fin 2048) : full q k sl t c ≠ ⊤ := by
  unfold full
  split_ifs
  · exact (raw_real q k sl t hq hk hs c).ne_top
  · exact bot_ne_top
  · exact (raw_real q k sl t hq hk hs c).ne_top
  · exact bot_ne_top

theorem full_self : IsReal (full q k sl t t) := by
  unfold full
  rw [if_neg (lt_irrefl _), if_pos (le_refl _)]
  exact raw_real q k sl t hq hk hs t

theorem fullMax_real : IsReal (fullMax q k sl t) := by
  refine isReal_of_ne (ne_of_lt ?_) (ne_of_gt ?_)
  · exact (Finset.sup_lt_iff bot_lt_top).mpr fun c _ => lt_top_iff_ne_top.mpr (full_ne_top q k sl t hq hk hs c)
  · exact lt_of_lt_of_le (bot_lt_iff_ne_bot.mpr (full_self q k sl t hq hk hs).ne_bot)
      (Finset.le_sup (f := fun c => full q k sl t c) (Finset.mem_univ t))

theorem weight_real (c : Fin 2048) : IsReal (Ideal.exp (full q k sl t c - fullMax q k sl t)) := by
  refine exp_isReal ?_
  obtain ⟨M, hM⟩ := fullMax_real q k sl t hq hk hs
  by_cases hb : full q k sl t c = ⊥
  · rw [hb, sub_eq_add_neg, EReal.bot_add]; exact bot_ne_top
  · exact ((isReal_of_ne (full_ne_top q k sl t hq hk hs c) hb).sub ⟨M, hM⟩).ne_top

theorem weights_pos : ∃ L : ℝ, 0 < L ∧ ∑ c : Fin 2048, Ideal.exp (full q k sl t c - fullMax q k sl t) = (L : EReal) := by
  obtain ⟨L, hL⟩ := IsReal.sum Finset.univ _ (weight_real q k sl t hq hk hs)
  refine ⟨L, ?_, hL⟩
  rw [← EReal.coe_pos, ← hL]
  obtain ⟨r, hr⟩ := (full_self q k sl t hq hk hs).sub (fullMax_real q k sl t hq hk hs)
  refine lt_of_lt_of_le (by rw [hr]; exact exp_pos r : 0 < Ideal.exp (full q k sl t t - fullMax q k sl t)) ?_
  exact Finset.single_le_sum (f := fun c => Ideal.exp (full q k sl t c - fullMax q k sl t)) (fun c _ => exp_nonneg _) (Finset.mem_univ t)

/-- The attention over every key is the attention over the slots. -/
theorem att_eq (d : Fin 128) : attFull q k v sl t d = attPart q k v sl t d := by
  obtain ⟨L, hL, hsum⟩ := weights_pos q k sl t hq hk hs
  have hL0 : (L : EReal) ≠ 0 := (EReal.coe_pos.mpr hL).ne'
  have hdiv : ∀ x : EReal, Ideal.div x (L : EReal) = ((L⁻¹ : ℝ) : EReal) * x := fun x => by
    unfold Ideal.div; rw [if_neg hL0, mul_comm, EReal.coe_inv]
  unfold attPart
  rw [← max_eq q k sl t, ← sum_full q k sl t (fun x _ => Ideal.exp (x - fullMax q k sl t)) (fun _ => exp_bot_sub _), hsum]
  simp only [hdiv]
  rw [← sum_full q k sl t (fun x c => ((L⁻¹ : ℝ) : EReal) * Ideal.exp (x - fullMax q k sl t) * v c d)
    (fun c => by rw [exp_bot_sub, mul_zero, zero_mul])]
  unfold attFull
  rw [hsum, hdiv, mul_sum_real _ _ (inv_nonneg.mpr hL.le)]
  exact Finset.sum_congr rfl fun c _ => (mul_assoc _ _ _).symm

end

end Cert.Moba
end
-- ==== Proof.Chosen.lean ====
module

public import proofs.«01_k».proof.Proof.Scores
public import proofs.«01_k».proof.Proof.Moba

/-! Which blocks the kernel chooses: those with fewer than three blocks before them. -/

@[expose] public section
set_option maxRecDepth 16384
noncomputable section
open Idealize.ShloMosaic Idealize.ShloMosaic.TcCoe Idealize.SL.Sem
open Idealize.ShloMosaic.Pipeline (Dat)
open scoped Classical
namespace Cert.KernelIdeal.Value
open Cert.KernelIdeal Cert.KernelIdeal.Gen Cert.Moba

/-- A head's block as rows. -/
abbrev rowsOf (x : FVec Ideal S1x2048x128 .f32) : Fin 2048 → Fin 128 → EReal := fun t d => x (ix3 0 t d)

theorem word_3 : Ideal.ofBits .f32 1077936128#32 = ((3 : ℝ) : EReal) := by
  simp [Ideal.ofBits, Ideal.ieee, -EReal.coe_mul]; norm_num
theorem word_half : Ideal.ofBits .f32 1056964608#32 = ((1 / 2 : ℝ) : EReal) := by
  simp [Ideal.ofBits, Ideal.ieee, -EReal.coe_mul]; norm_num

theorem toInt_word (a : ℕ) (ha : a < 2 ^ 31) : (BitVec.ofNat 32 a).toInt = (a : ℤ) := by
  rw [BitVec.toInt_eq_toNat_of_lt (by rw [BitVec.toNat_ofNat]; omega), BitVec.toNat_ofNat]; omega

theorem slt_word (a b : ℕ) (ha : a < 2 ^ 31) (hb : b < 2 ^ 31) :
    (if a < b then 1#1 else 0#1) = IntOp.cmpi CmpIPredicate.slt (BitVec.ofNat 32 a) (BitVec.ofNat 32 b) := by
  unfold IntOp.cmpi
  have : (BitVec.ofNat 32 a).slt (BitVec.ofNat 32 b) = decide (a < b) := by
    rw [BitVec.slt, toInt_word a ha, toInt_word b hb]; simp
  dsimp only
  rw [this]
  by_cases h : a < b <;> simp [h]

theorem past_word (t : Fin 2048) (n : Fin 8) :
    IntOp.cmpi CmpIPredicate.slt (BitVec.ofNat 32 ↑n) (IntOp.shrui ArithUnit.vector (BitVec.ofNat 32 ↑t) 8#32)
      = if (n : ℕ) < (t : ℕ) / 256 then 1#1 else 0#1 := by
  have ht := t.isLt; have hn := n.isLt
  have e : IntOp.shrui ArithUnit.vector (BitVec.ofNat 32 ↑t) 8#32 = BitVec.ofNat 32 ((t : ℕ) / 256) := by
    unfold IntOp.shrui
    rw [if_pos (by decide)]
    apply BitVec.eq_of_toNat_eq
    show (BitVec.ofNat 32 (t : ℕ) >>> (8#32).toNat).toNat = _
    rw [BitVec.toNat_ushiftRight, BitVec.toNat_ofNat, BitVec.toNat_ofNat, BitVec.toNat_ofNat, Nat.shiftRight_eq_div_pow, Nat.mod_eq_of_lt (by omega), Nat.mod_eq_of_lt (by omega), Nat.mod_eq_of_lt (by omega)]
  rw [e, ← slt_word _ _ (by omega) (by omega)]

/-- The kernel's gates. -/
theorem gate_pay (q k : FVec Ideal S1x2048x128 .f32) (t : Fin 2048) (n : Fin 8) :
    k0_pay6 (F := Ideal) k q (ix2 n t) = masked (rowsOf q) (rowsOf k) t n := by
  pointwise [k0_pay6, k0_pay5, k0_pay2, mask_eq]
  rw [past_word]
  unfold masked
  split_ifs
  · rfl
  · rfl

/-- One block's comparison with another, as the kernel counts it. -/
theorem beat_term (g : Fin 8 → EReal) (n m : Fin 8) :
    (if g n < g m then (1 : EReal) else if g m = g n then
      Scalar.select (IntOp.cmpi CmpIPredicate.sgt (BitVec.ofNat 32 ↑n) (BitVec.ofNat 32 ↑m)) 1 0 else 0) = if beats g n m then 1 else 0 := by
  have e : IntOp.cmpi CmpIPredicate.sgt (BitVec.ofNat 32 ↑n) (BitVec.ofNat 32 ↑m) = if m < n then 1#1 else 0#1 := by
    revert n m; decide
  rw [e]
  unfold beats
  by_cases h1 : g n < g m
  · rw [if_pos h1, if_pos (Or.inl h1)]
  · rw [if_neg h1]
    by_cases h2 : g m = g n
    · rw [if_pos h2]
      by_cases h3 : m < n
      · rw [if_pos h3, if_pos (Or.inr ⟨h2, h3⟩)]; rfl
      · rw [if_neg h3, if_neg (fun h => h.elim h1 fun h => h3 h.2)]; rfl
    · rw [if_neg h2, if_neg (fun h => h.elim h1 fun h => h2 h.1)]

/-- The kernel's choice, at a query and a block. -/
theorem sel_pay (q k : FVec Ideal S1x2048x128 .f32) (t : Fin 2048) (n : Fin 8) :
    k0_pay13 (F := Ideal) kernelRun0_A.sl.v25 k0_pay5 (k0_pay6 k q)
      (k0_pay11 kernelRun0_A.sl.v25 (k0_pay6 k q) (k0_pay9 kernelRun0_A.sl.v25 (k0_pay6 k q) k0_pay7 (k0_pay8 k q)) (k0_pay10 (k0_pay6 k q)))
      (k0_pay12 (k0_pay6 k q)) (ix2 t (⟨(n : ℕ), by have := n.isLt; omega⟩ : Fin 128))
    = if (n : ℕ) < (t : ℕ) / 256 then (if chosen (masked (rowsOf q) (rowsOf k) t) n then 1 else 0) else 0 := by
  unfold k0_pay8
  have hg : (fun n : Fin 8 => k0_pay6 (F := Ideal) k q (ix2 n t)) = masked (rowsOf q) (rowsOf k) t := funext fun n => gate_pay q k t n
  rw [← hg]
  generalize k0_pay6 (F := Ideal) k q = g
  pointwise [k0_pay13, k0_pay12, k0_pay11, k0_pay10, k0_pay9, k0_pay7, k0_pay5, kernelRun0_A.sl.v25]
  have hb := beat_term (fun n : Fin 8 => g (ix2 n t)) n
  have h0 := hb 0; have h1 := hb 1; have h2 := hb 2; have h3 := hb 3; have h4 := hb 4; have h5 := hb 5; have h6 := hb 6; have h7 := hb 7
  erw [h0, h1, h2, h3, h4, h5, h6, h7]
  have hc : ∑ m : Fin 8, (if beats (fun n : Fin 8 => g (ix2 n t)) n m then (1 : EReal) else 0)
      = (((Finset.univ.filter fun m => beats (fun n : Fin 8 => g (ix2 n t)) n m).card : ℝ) : EReal) := by
    rw [Finset.sum_boole]; exact (EReal.coe_coe_eq_natCast _).symm
  rw [Fin.sum_univ_eight] at hc
  rw [hc, past_word, word_3]
  have h3 : (((Finset.univ.filter fun m => beats (fun n : Fin 8 => g (ix2 n t)) n m).card : ℝ) : EReal) < ((3 : ℝ) : EReal) ↔ chosen (fun n : Fin 8 => g (ix2 n t)) n := by
    rw [EReal.coe_lt_coe_iff]; unfold chosen; norm_cast
  simp only [h3]
  split_ifs <;> rfl

/-- A score of the kernel is the score of that key. -/
theorem score_eq (S : FVec Ideal S2048x128 .f32) (sl : EReal) (q k : FVec Ideal S1x2048x128 .f32)
    (hS : ∀ (t : Fin 2048) (n : Fin 8), S (ix2 t (⟨(n : ℕ), by have := n.isLt; omega⟩ : Fin 128))
      = if (n : ℕ) < (t : ℕ) / 256 then (if chosen (masked (rowsOf q) (rowsOf k) t) n then 1 else 0) else 0) (t c : Fin 2048) :
    score S sl q k t c = full (rowsOf q) (rowsOf k) sl t c := by
  unfold score full
  by_cases h : (c : ℕ) / 256 < (t : ℕ) / 256
  · rw [if_pos h, if_pos h]
    have e := hS t (blockOf c)
    rw [if_pos (show (blockOf c : ℕ) < (t : ℕ) / 256 from h)] at e
    erw [e]
    by_cases hc : chosen (masked (rowsOf q) (rowsOf k) t) (blockOf c)
    · rw [if_pos hc, if_pos hc, if_pos]
      · rfl
      · rw [word_half]; exact_mod_cast (by norm_num : (1 / 2 : ℝ) < 1)
    · rw [if_neg hc, if_neg hc, if_neg]
      rw [word_half]; exact not_lt.mpr (by exact_mod_cast (by norm_num : (0 : ℝ) ≤ 1 / 2))
  · rw [if_neg h, if_neg h]; rfl

/-- The kernel's attention is the attention over every key. -/
theorem attend_eq (S : FVec Ideal S2048x128 .f32) (sl : EReal) (q k v : FVec Ideal S1x2048x128 .f32)
    (hS : ∀ (t : Fin 2048) (n : Fin 8), S (ix2 t (⟨(n : ℕ), by have := n.isLt; omega⟩ : Fin 128))
      = if (n : ℕ) < (t : ℕ) / 256 then (if chosen (masked (rowsOf q) (rowsOf k) t) n then 1 else 0) else 0) (t : Fin 2048) (d : Fin 128) :
    attend S sl q k v t d = attFull (rowsOf q) (rowsOf k) (rowsOf v) sl t d := by
  have e : ∀ c, score S sl q k t c = full (rowsOf q) (rowsOf k) sl t c := score_eq S sl q k hS t
  unfold attend attFull smax fullMax
  simp only [e]

end Cert.KernelIdeal.Value
end
-- ==== Proof.KernelArr.lean ====
module

public import proofs.«01_k».proof.Proof.KernelOut
public import proofs.«01_k».proof.Proof.Chosen

/-! The kernel's result array, as a function of its argument arrays. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Moba
variable (m : (ℓ : Loc nD τ sig) → Buf (Elt Ideal) ℓ)

/-! ## A point's input blocks -/

theorem idx_q : ∀ t : Fin grid0.N, win0_1.index t 0 = (grid0.coords t 0 : ℕ) ∧ win0_1.index t 1 = 0 ∧ win0_1.index t 2 = (grid0.coords t 1 : ℕ) := by decide +kernel
theorem idx_k : ∀ t : Fin grid0.N, win0_2.index t 0 = (grid0.coords t 0 : ℕ) ∧ win0_2.index t 1 = 0 ∧ win0_2.index t 2 = (grid0.coords t 1 : ℕ) := by decide +kernel
theorem idx_v : ∀ t : Fin grid0.N, win0_3.index t 0 = (grid0.coords t 0 : ℕ) ∧ win0_3.index t 1 = 0 ∧ win0_3.index t 2 = (grid0.coords t 1 : ℕ) := by decide +kernel
theorem idx_z : ∀ t : Fin grid0.N, win0_4.index t 0 = (grid0.coords t 0 : ℕ) ∧ win0_4.index t 1 = 0 ∧ win0_4.index t 2 = (grid0.coords t 1 : ℕ) := by decide +kernel
theorem idx_o : ∀ t : Fin grid0.N, win0_5.index t 0 = (grid0.coords t 0 : ℕ) ∧ win0_5.index t 1 = 0 ∧ win0_5.index t 2 = (grid0.coords t 1 : ℕ) := by decide +kernel

theorem rows_q (c : Dev nD) (t : Fin grid0.N) : rowsOf (iblk m c 1 t) = headOf (m ((c : Thread nD τ).loc main_arg0)) (grid0.coords t 0) (grid0.coords t 1) := by
  funext r d
  unfold headOf rowsOf
  blk_ext [iblk, V, idx_q t]
theorem rows_k (c : Dev nD) (t : Fin grid0.N) : rowsOf (iblk m c 2 t) = headOf (m ((c : Thread nD τ).loc main_arg1)) (grid0.coords t 0) (grid0.coords t 1) := by
  funext r d
  unfold headOf rowsOf
  blk_ext [iblk, V, idx_k t]
theorem rows_v (c : Dev nD) (t : Fin grid0.N) : rowsOf (iblk m c 3 t) = headOf (m ((c : Thread nD τ).loc main_arg2)) (grid0.coords t 0) (grid0.coords t 1) := by
  funext r d
  unfold headOf rowsOf
  blk_ext [iblk, V, idx_v t]
theorem rows_z (c : Dev nD) (t : Fin grid0.N) : rowsOf (iblk m c 4 t) = headOf (m ((c : Thread nD τ).loc main_arg3)) (grid0.coords t 0) (grid0.coords t 1) := by
  funext r d
  unfold headOf rowsOf
  blk_ext [iblk, V, idx_z t]

theorem slope_lt : ∀ t : Fin grid0.N, k0_off1 (grid0.coords t) 0 < 8 := by decide +kernel
theorem slope_idx : ∀ t : Fin grid0.N, (S8.rowMajor ((win0_0.blk t).view.emb (ix1 ⟨k0_off1 (grid0.coords t) 0, slope_lt t⟩)) : ℕ) = (grid0.coords t 1 : ℕ) := by decide +kernel

/-- The slope of a point's head. -/
theorem slope_eq (c : Dev nD) (t : Fin grid0.N) : kernelRun0_A.sl.r (F := Ideal) c (grid0.coords t) (ms0_0 t) (hs0_0 t) (iblk m c 0 t) = Ideal.ofBits .f32 (lit0 (grid0.coords t 1)) := by
  unfold kernelRun0_A.sl.r
  simp (disch := decide) only [View.readAt_eq_ld, Memref.IsWhole.read_unread, View.readCov_fill]
  pointwise
  blk_simp [iblk]
  have hV : V m c main_cst = fun i => (FloatOps.ofBits .f32 (lit0 (S8.rowMajor i)) : Ideal .f32) := by
    rfl
  rw [hV]
  exact congrArg (fun h => Ideal.ofBits .f32 (lit0 h)) (Fin.ext (slope_idx t))

/-! ## A point's result block -/

theorem whole_ld (x : Vec Ideal S1x2048x128 .f32) (inb : ∀ a, (![0, 0, 0] : Fin 3 → ℕ) a + S1x2048x128.size a ≤ S1x2048x128.size a) :
    View.ld (Val := Elt Ideal) x (Rect.unit (s := S1x2048x128) ![0, 0, 0] S1x2048x128.size inb) = x := by
  have h : (![0, 0, 0] : Fin 3 → ℕ) = fun _ => 0 := by decide
  exact View.ld_unit_zero h inb x

section
variable (c : Dev nD) (arg3 : Memref sig .tc .vmem S1x2048x128 .f32) (harg3 : arg3.IsWhole) (arg4 : Memref sig .tc .vmem S1x2048x128 .f32) (harg4 : arg4.IsWhole) (x1 x2 : Vec Ideal S1x2048x128 .f32)

theorem r1_eq : kernelRun0_A.sl.r_1 (F := Ideal) c arg3 harg3 arg4 harg4 x1 x2 = k0_pay6 x2 x1 := by
  unfold kernelRun0_A.sl.r_1
  simp (disch := decide) only [View.readAt_eq_ld, Memref.IsWhole.read_unread, View.readCov_fill]
  erw [whole_ld, whole_ld]
theorem r2_eq : kernelRun0_A.sl.r_2 (F := Ideal) c arg3 harg3 arg4 harg4 x1 x2 = k0_pay8 x2 x1 := by
  unfold kernelRun0_A.sl.r_2
  simp (disch := decide) only [View.readAt_eq_ld, Memref.IsWhole.read_unread, View.readCov_fill]
  erw [whole_ld, whole_ld]

/-- What a point computes, from its heads' rows. -/
theorem attend_head (sl : EReal) (v : FVec Ideal S1x2048x128 .f32) (t : Fin 2048) (d : Fin 128) :
    attend (k0_pay13 kernelRun0_A.sl.v25 k0_pay5 (kernelRun0_A.sl.r_1 (F := Ideal) c arg3 harg3 arg4 harg4 x1 x2) (kernelRun0_A.sl.r_5 c arg3 harg3 arg4 harg4 x1 x2) (kernelRun0_A.sl.r_6 c arg3 harg3 arg4 harg4 x1 x2))
      sl x1 x2 v t d = attFull (rowsOf x1) (rowsOf x2) (rowsOf v) sl t d := by
  refine attend_eq _ sl x1 x2 v (fun t n => ?_) t d
  unfold kernelRun0_A.sl.r_6 kernelRun0_A.sl.r_5 kernelRun0_A.sl.r_4 kernelRun0_A.sl.r_3
  rw [r1_eq, r2_eq]
  exact sel_pay x1 x2 t n

end

/-! ## The array -/

/-- The slope of a head. -/
def slopeOf (h : Fin 8) : EReal := Ideal.ofBits .f32 (lit0 h)

/-- The result array: each head's attention, times the gates. -/
def outArr (q k v z : S8x2048x1024.Idx → EReal) : S8x2048x1024.Idx → EReal := fun j =>
  attFull (headOf q (j 0) (headIx (j 2))) (headOf k (j 0) (headIx (j 2))) (headOf v (j 0) (headIx (j 2))) (slopeOf (headIx (j 2))) (j 1) (laneIx (j 2)) * z j

theorem outArr_at (q k v z : S8x2048x1024.Idx → EReal) (b : Fin 8) (r : Fin 2048) (x : Fin 1024) : outArr q k v z (ix3 b r x)
    = attFull (headOf q b (headIx x)) (headOf k b (headIx x)) (headOf v b (headIx x)) (slopeOf (headIx x)) r (laneIx x) * z (ix3 b r x) := rfl

theorem blockOut_at (S : FVec Ideal S2048x128 .f32) (sl : EReal) (q k v z : FVec Ideal S1x2048x128 .f32) (r : Fin 2048) (d : Fin 128) :
    blockOut S sl q k v z (ix3 0 r d) = attend S sl q k v r d * z (ix3 0 r d) := rfl

/-- A point's result block holds its part of the result array. -/
theorem point_eq (c : Dev nD) (t : Fin grid0.N) (r : Fin 2048) (d : Fin 128) (p : (grid0.coords t 1 : ℕ) * 128 + (d : ℕ) < 1024) :
    blockOut (k0_pay13 kernelRun0_A.sl.v25 k0_pay5 (kernelRun0_A.sl.r_1 (F := Ideal) c (ms0_1 t) (hs0_1 t) (ms0_2 t) (hs0_2 t) (iblk m c 1 t) (iblk m c 2 t)) (kernelRun0_A.sl.r_5 c (ms0_1 t) (hs0_1 t) (ms0_2 t) (hs0_2 t) (iblk m c 1 t) (iblk m c 2 t)) (kernelRun0_A.sl.r_6 c (ms0_1 t) (hs0_1 t) (ms0_2 t) (hs0_2 t) (iblk m c 1 t) (iblk m c 2 t)))
      (kernelRun0_A.sl.r (F := Ideal) c (grid0.coords t) (ms0_0 t) (hs0_0 t) (iblk m c 0 t)) (iblk m c 1 t) (iblk m c 2 t) (iblk m c 3 t) (iblk m c 4 t) (ix3 0 r d)
    = outArr (m ((c : Thread nD τ).loc main_arg0)) (m ((c : Thread nD τ).loc main_arg1)) (m ((c : Thread nD τ).loc main_arg2)) (m ((c : Thread nD τ).loc main_arg3))
      (ix3 (grid0.coords t 0) r (⟨(grid0.coords t 1 : ℕ) * 128 + (d : ℕ), p⟩ : Fin 1024)) := by
  have hh : headIx ⟨(grid0.coords t 1 : ℕ) * 128 + (d : ℕ), p⟩ = grid0.coords t 1 := headIx_mk (grid0.coords t 1) d
  have hl : laneIx ⟨(grid0.coords t 1 : ℕ) * 128 + (d : ℕ), p⟩ = d := laneIx_mk (grid0.coords t 1) d
  have hz : iblk m c 4 t (ix3 0 r d) = headOf (m ((c : Thread nD τ).loc main_arg3)) (grid0.coords t 0) (grid0.coords t 1) r d := congrFun (congrFun (rows_z m c t) r) d
  have ha := attend_head c (ms0_1 t) (hs0_1 t) (ms0_2 t) (hs0_2 t) (iblk m c 1 t) (iblk m c 2 t) (kernelRun0_A.sl.r (F := Ideal) c (grid0.coords t) (ms0_0 t) (hs0_0 t) (iblk m c 0 t)) (iblk m c 3 t) r d
  rw [rows_q m c t, rows_k m c t, rows_v m c t, slope_eq m c t] at ha
  refine (blockOut_at _ _ _ _ _ _ r d).trans (Eq.trans ?_ (outArr_at _ _ _ _ (grid0.coords t 0) r ⟨_, p⟩).symm)
  rw [hh, hl, slope_eq m c t]
  exact congrArg₂ (· * ·) ha hz

theorem arr_eq (c : Dev nD) : (dats m 0 c).arrAt 5 cfg0.N
    = outArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  rw [out_eq]
  have e : (win0_5.blk t).view.emb y = (ix3 (grid0.coords t 0) (y 1) (⟨(grid0.coords t 1 : ℕ) * 128 + (y 2 : ℕ), by
      have h1 : (grid0.coords t 1 : ℕ) < 8 := (grid0.coords t 1).isLt
      have h2 : (y 2 : ℕ) < 128 := (y 2).isLt
      omega⟩ : Fin 1024) : S8x2048x1024.Idx) := by
    obtain ⟨h0, h1, h2⟩ := idx_o t
    have hy : (y 0 : ℕ) < 1 := (y 0).isLt
    funext a
    apply Fin.ext
    match a with
    | 0 => blk_simp [h0]
    | 1 => blk_simp [h1]
    | 2 => blk_simp [h2]
  rw [e]
  exact point_eq m c t (y 1) (y 2) _

end Cert.KernelIdeal.Value
end
-- ==== Proof.RefTerms.lean ====
module

public import proofs.«01_k».proof.Proof.Gen.ReferenceIdeal.Run
public import proofs.«01_k».proof.Proof.Moba
public import Idealize.ShloMosaic.Lib.SortFacts
public import Idealize.ShloMosaic.Lib.Pipeline.ValueKit

/-! The reference's result in named stages. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen

/-- The rows of an argument by batch row, head and block. -/
def keyBlocks (k : FVec Ideal S8x2048x1024 .f32) : FVec Ideal S8x8x8x256x128 .f32 :=
  transpose S8x8x8x256x128 [0, 3, 1, 2, 4] (shapeCast _ k shapeCasts_S8x2048x1024_S8x8x256x8x128) transposes_S8x8x256x8x128_S8x8x8x256x128_0_3_1_2_4

/-- The scaled queries of each head. -/
def queries (q : FVec Ideal S8x2048x1024 .f32) : FVec Ideal S8x8x2048x128 .f32 :=
  mulf (transpose S8x8x2048x128 [0, 2, 1, 3] (shapeCast _ q shapeCasts_S8x2048x1024_S8x2048x8x128) transposes_S8x2048x8x128_S8x8x2048x128_0_2_1_3) (broadcastInDim S8x8x2048x128 ![] bcast_S_S8x8x2048x128 (constant S_ .f32 0x3DB504F3#32))

/-- The block of each row. -/
def ownBlock  : IVec S2048 32 :=
  Host.divsi (iotaInDim S2048 32 0) (broadcastInDim S2048 ![] bcast_S_S2048 (constantI S_ 32 256#32))

/-- The gate of each earlier block, the others masked. -/
def gates (q k : FVec Ideal S8x2048x1024 .f32) : FVec Ideal S8x8x2048x8 .f32 :=
  select (broadcastInDim S8x8x2048x8 ![2, 3] bcast_S2048x8_S8x8x2048x8_2_3 (cmpi .slt (broadcastInDim S2048x8 ![0, 1] bcast_S1x8_S2048x8_0_1 (broadcastInDim S1x8 ![1] bcast_S8_S1x8_1 (iotaInDim S8 32 0))) (broadcastInDim S2048x8 ![0, 1] bcast_S2048x1_S2048x8_0_1 (broadcastInDim S2048x1 ![0] bcast_S2048_S2048x1_0 ownBlock)))) (Host.dotGeneral dot_S8x8x2048x128_S8x8x8x128_S8x8x2048x8_3_3_2_2_01_01 none (queries q) (Host.divf (Host.reduceAdd (keyBlocks k) (constant S_ .f32 0x00000000#32) reducesTo_S8x8x8x256x128_S8x8x8x128_d3 h_S_) (broadcastInDim S8x8x8x128 ![] bcast_S_S8x8x8x128 (constant S_ .f32 0x43800000#32)))) (broadcastInDim S8x8x2048x8 ![] bcast_S_S8x8x2048x8 (id (constant S_ .f32 0xFF800000#32)))

/-- The three blocks of largest gate. -/
def topThree (q k : FVec Ideal S8x2048x1024 .f32) : IVec S8x8x2048x3 32 :=
  (Host.topK S8x8x2048x3 3 (FloatOps.cmpfTotal .gt) (gates q k) sliceFits_S8x8x2048x8_S8x8x2048x3).2

/-- The blocks a row reads: three chosen ones and its own. -/
def picked (q k : FVec Ideal S8x2048x1024 .f32) : IVec S8x8x2048x4 32 :=
  concatenate S8x8x2048x4 3 [⟨S8x8x2048x3, (topThree q k)⟩, ⟨S8x8x2048x1, (broadcastInDim S8x8x2048x1 ![0, 1, 2, 3] bcast_S1x1x2048x1_S8x8x2048x1_0_1_2_3 (broadcastInDim S1x1x2048x1 ![2] bcast_S2048_S1x1x2048x1_2 ownBlock))⟩] concatenates_S8x8x2048x3_S8x8x2048x1_S8x8x2048x4_d3

/-- Which of them are read. -/
def allowed (q k : FVec Ideal S8x2048x1024 .f32) : IVec S8x8x2048x4 1 :=
  concatenate S8x8x2048x4 3 [⟨S8x8x2048x3, (cmpi .slt (topThree q k) (broadcastInDim S8x8x2048x3 ![0, 1, 2, 3] bcast_S1x1x2048x1_S8x8x2048x3_0_1_2_3 (broadcastInDim S1x1x2048x1 ![2] bcast_S2048_S1x1x2048x1_2 ownBlock)))⟩, ⟨S8x8x2048x1, (broadcastInDim S8x8x2048x1 ![] bcast_S_S8x8x2048x1 (constantI S_ 1 1#1))⟩] concatenates_S8x8x2048x3_S8x8x2048x1_S8x8x2048x4_d3

/-- The rows of the blocks read. -/
def gathered (x : FVec Ideal S8x2048x1024 .f32) (p : IVec S8x8x2048x4 32) : FVec Ideal S8x8x2048x4x256x128 .f32 :=
  Host.gather gather_S8x8x8x256x128_S8x8x2048x4x1_S8x8x2048x4x256x128_45_2_01_01_2_4_111256128 (keyBlocks x) (broadcastInDim S8x8x2048x4x1 ![0, 1, 2, 3] bcast_S8x8x2048x4_S8x8x2048x4x1_0_1_2_3 p)

/-- The distance from a row to a key. -/
def distance (p : IVec S8x8x2048x4 32) : FVec Ideal S8x8x2048x4x256 .f32 :=
  sitofp (F := Ideal) .f32 (subi (broadcastInDim S8x8x2048x4x256 ![0, 1, 2, 3, 4] bcast_S1x1x2048x1x1_S8x8x2048x4x256_0_1_2_3_4 (broadcastInDim S1x1x2048x1x1 ![2] bcast_S2048_S1x1x2048x1x1_2 (iotaInDim S2048 32 0))) (addi (broadcastInDim S8x8x2048x4x256 ![0, 1, 2, 3, 4] bcast_S8x8x2048x4x1_S8x8x2048x4x256_0_1_2_3_4 (muli (broadcastInDim S8x8x2048x4x1 ![0, 1, 2, 3] bcast_S8x8x2048x4_S8x8x2048x4x1_0_1_2_3 p) (broadcastInDim S8x8x2048x4x1 ![] bcast_S_S8x8x2048x4x1 (constantI S_ 32 256#32)))) (broadcastInDim S8x8x2048x4x256 ![0, 1, 2, 3, 4] bcast_S1x1x1x1x256_S8x8x2048x4x256_0_1_2_3_4 (broadcastInDim S1x1x1x1x256 ![4] bcast_S256_S1x1x1x1x256_4 (iotaInDim S256 32 0)))))

/-- The scores of the keys read. -/
def scores (q k : FVec Ideal S8x2048x1024 .f32) : FVec Ideal S8x8x2048x4x256 .f32 :=
  select (andi (broadcastInDim S8x8x2048x4x256 ![0, 1, 2, 3, 4] bcast_S8x8x2048x4x1_S8x8x2048x4x256_0_1_2_3_4 (broadcastInDim S8x8x2048x4x1 ![0, 1, 2, 3] bcast_S8x8x2048x4_S8x8x2048x4x1_0_1_2_3 (allowed q k))) (cmpf .oge (distance (picked q k)) (broadcastInDim S8x8x2048x4x256 ![] bcast_S_S8x8x2048x4x256 (constant S_ .f32 0x00000000#32)))) (subf (Host.dotGeneral dot_S8x8x2048x128_S8x8x2048x4x256x128_S8x8x2048x4x256_3_5_n_34_012_012 none (queries q) (gathered k (picked q k))) (mulf (broadcastInDim S8x8x2048x4x256 ![0, 1, 2, 3, 4] bcast_S1x8x1x1x1_S8x8x2048x4x256_0_1_2_3_4 (broadcastInDim S1x8x1x1x1 ![1] bcast_S8_S1x8x1x1x1_1 ((fun i => FloatOps.ofBits .f32 (lit0 (S8.rowMajor i)))))) (distance (picked q k)))) (broadcastInDim S8x8x2048x4x256 ![] bcast_S_S8x8x2048x4x256 (id (constant S_ .f32 0xFF800000#32)))

/-- The scores on one axis. -/
def flat (q k : FVec Ideal S8x2048x1024 .f32) : FVec Ideal S8x8x2048x1024 .f32 :=
  shapeCast _ (scores q k) shapeCasts_S8x8x2048x4x256_S8x8x2048x1024

/-- The largest score. -/
def biggest (q k : FVec Ideal S8x2048x1024 .f32) : FVec Ideal S8x8x2048 .f32 :=
  maximumf (broadcastInDim S8x8x2048 ![] bcast_S_S8x8x2048 (constant S_ .f32 0xFF800000#32)) (Host.reduce FloatOps.maximumf (flat q k) (constant S_ .f32 0xFF800000#32) reducesTo_S8x8x2048x1024_S8x8x2048_d3 h_S_)

/-- The exponentials. -/
def powers (q k : FVec Ideal S8x2048x1024 .f32) : FVec Ideal S8x8x2048x1024 .f32 :=
  Host.exp (subf (flat q k) (broadcastInDim S8x8x2048x1024 ![0, 1, 2, 3] bcast_S8x8x2048x1_S8x8x2048x1024_0_1_2_3 (broadcastInDim S8x8x2048x1 ![0, 1, 2] bcast_S8x8x2048_S8x8x2048x1_0_1_2 (biggest q k))))

/-- The softmax weights. -/
def weights (q k : FVec Ideal S8x2048x1024 .f32) : FVec Ideal S8x8x2048x4x256 .f32 :=
  shapeCast _ (Host.divf (powers q k) (broadcastInDim S8x8x2048x1024 ![0, 1, 2, 3] bcast_S8x8x2048x1_S8x8x2048x1024_0_1_2_3 (broadcastInDim S8x8x2048x1 ![0, 1, 2] bcast_S8x8x2048_S8x8x2048x1_0_1_2 (Host.reduceAdd (powers q k) (constant S_ .f32 0x00000000#32) reducesTo_S8x8x2048x1024_S8x8x2048_d3 h_S_)))) shapeCasts_S8x8x2048x1024_S8x8x2048x4x256

/-- The reference's result. -/
def result (q k v z : FVec Ideal S8x2048x1024 .f32) : FVec Ideal S8x2048x1024 .bf16 :=
  truncf .bf16 (mulf (shapeCast _ (transpose S8x2048x8x128 [0, 2, 1, 3] (Host.dotGeneral dot_S8x8x2048x4x256_S8x8x2048x4x256x128_S8x8x2048x128_43_43_n_5_012_012 none (weights q k) (gathered v (picked q k))) transposes_S8x8x2048x128_S8x2048x8x128_0_2_1_3) shapeCasts_S8x2048x8x128_S8x2048x1024) z) bitsLt_bf16_f32

theorem result_eq (m : (ℓ : Loc nD τ sig) → Buf (Elt Ideal) ℓ) (c : Dev nD) :
    res_main_v74 m c = result (m ((c.tc : Thread nD τ).loc main_arg0)) (m ((c.tc : Thread nD τ).loc main_arg1))
      (m ((c.tc : Thread nD τ).loc main_arg2)) (m ((c.tc : Thread nD τ).loc main_arg3)) := by
  unfold res_main_v74 result weights powers biggest flat scores distance gathered allowed picked topThree gates ownBlock queries keyBlocks
  rfl

end Cert.ReferenceIdeal.Value
-- ==== Proof.RefRows.lean ====
module

public import proofs.«01_k».proof.Proof.RefTerms

/-! The row operations of the reference, read at an index. -/

@[expose] public section
set_option maxRecDepth 16384
noncomputable section
open Idealize.ShloMosaic Idealize.ShloMosaic.TcCoe Idealize.SL.Sem
open scoped Classical
namespace Cert.ReferenceIdeal.Value
open Cert.ReferenceIdeal Cert.ReferenceIdeal.Gen Cert.Moba

theorem sum_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduceAdd x init h hu (ix3 a b c) = init (Shape.Idx.first hu) + ∑ k : Fin n3, x (ix4 a b c k) := by
  pointwise []

theorem max_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.univ.fold max (init (Shape.Idx.first hu)) (fun k : Fin n3 => x (ix4 a b c k)) := by
  pointwise []

theorem flat_gen (f : FVec Ideal S8x8x2048x4x256 .f32) (b h : Fin 8) (t : Fin 2048) (c : Fin 1024) :
    (shapeCast S8x8x2048x1024 f shapeCasts_S8x8x2048x4x256_S8x8x2048x1024) (ix4 b h t c)
      = f (ix5 b h t ⟨(c : ℕ) / 256, by omega⟩ ⟨(c : ℕ) % 256, by omega⟩) := by
  pointwise []

theorem flat_at (q k : FVec Ideal S8x2048x1024 .f32) (b h : Fin 8) (t : Fin 2048) (c : Fin 1024) :
    flat q k (ix4 b h t c) = scores q k (ix5 b h t ⟨(c : ℕ) / 256, by omega⟩ ⟨(c : ℕ) % 256, by omega⟩) := by
  unfold flat
  exact flat_gen _ b h t c

theorem top_gen (f : FVec Ideal S8x8x2048 .f32) (j : S8x8x2048.Idx) :
    (maximumf (broadcastInDim S8x8x2048 ![] bcast_S_S8x8x2048 (constant S_ .f32 0xFF800000#32)) f) j
      = max (Ideal.ofBits .f32 0xFF800000#32) (f j) := by
  obtain ⟨a, b, c, rfl⟩ : ∃ a b c, j = ix3 a b c := ⟨j 0, j 1, j 2, by funext x; fin_cases x <;> rfl⟩
  pointwise []

theorem biggest_at (q k : FVec Ideal S8x2048x1024 .f32) (b h : Fin 8) (t : Fin 2048) :
    biggest q k (ix3 b h t) = max (Ideal.ofBits .f32 0xFF800000#32)
      (Finset.univ.fold max (Ideal.ofBits .f32 0xFF800000#32) (fun x : Fin 1024 => flat q k (ix4 b h t x))) := by
  unfold biggest
  exact (top_gen _ _).trans (congrArg _ (max_last _ _ _ _ b h t))

theorem powers_gen (f : FVec Ideal S8x8x2048x1024 .f32) (g : FVec Ideal S8x8x2048 .f32) (b h : Fin 8) (t : Fin 2048) (c : Fin 1024) :
   (Host.exp (subf f (broadcastInDim S8x8x2048x1024 ![0, 1, 2, 3] bcast_S8x8x2048x1_S8x8x2048x1024_0_1_2_3 (broadcastInDim S8x8x2048x1 ![0, 1, 2] bcast_S8x8x2048_S8x8x2048x1_0_1_2 g)))) (ix4 b h t c)
    = Ideal.exp (f (ix4 b h t c) - g (ix3 b h t)) := by
  pointwise []

theorem powers_at (q k : FVec Ideal S8x2048x1024 .f32) (b h : Fin 8) (t : Fin 2048) (c : Fin 1024) :
    powers q k (ix4 b h t c) = Ideal.exp (flat q k (ix4 b h t c) - biggest q k (ix3 b h t)) := by
  unfold powers
  exact powers_gen _ _ b h t c

theorem quot_at (p : FVec Ideal S8x8x2048x1024 .f32) (s : FVec Ideal S8x8x2048 .f32) (b h : Fin 8) (t : Fin 2048) (i : Fin 4) (r : Fin 256) :
   (shapeCast S8x8x2048x4x256 (Host.divf p (broadcastInDim S8x8x2048x1024 ![0, 1, 2, 3] bcast_S8x8x2048x1_S8x8x2048x1024_0_1_2_3 (broadcastInDim S8x8x2048x1 ![0, 1, 2] bcast_S8x8x2048_S8x8x2048x1_0_1_2 s))) shapeCasts_S8x8x2048x1024_S8x8x2048x4x256) (ix5 b h t i r)
   = Ideal.div (p (ix4 b h t ⟨(i : ℕ) * 256 + r, by omega⟩)) (s (ix3 b h t)) := by
  pointwise []

theorem weights_at (q k : FVec Ideal S8x2048x1024 .f32) (b h : Fin 8) (t : Fin 2048) (i : Fin 4) (r : Fin 256) :
    weights q k (ix5 b h t i r) = Ideal.div (powers q k (ix4 b h t ⟨(i : ℕ) * 256 + r, by omega⟩))
      (Ideal.ofBits .f32 0x00000000#32 + ∑ x : Fin 1024, powers q k (ix4 b h t x)) := by
  unfold weights
  exact (quot_at _ _ b h t i r).trans (congrArg _ (sum_last _ _ _ _ b h t))

theorem mix_at (f : FVec Ideal S8x8x2048x4x256 .f32) (g : FVec Ideal S8x8x2048x4x256x128 .f32) (b h : Fin 8) (t : Fin 2048) (d : Fin 128) :
   Host.dotGeneral dot_S8x8x2048x4x256_S8x8x2048x4x256x128_S8x8x2048x128_43_43_n_5_012_012 none f g (ix4 b h t d) =
      ∑ r : Fin 256, ∑ s : Fin 4, f (ix5 b h t s r) * g (ix6 b h t s r d) := by
  pointwise []

theorem gated_at (f : FVec Ideal S8x8x2048x128 .f32) (z : FVec Ideal S8x2048x1024 .f32) (b : Fin 8) (t : Fin 2048) (c : Fin 1024) :
   truncf .bf16 (mulf (shapeCast _ (transpose S8x2048x8x128 [0, 2, 1, 3] f transposes_S8x8x2048x128_S8x2048x8x128_0_2_1_3) shapeCasts_S8x2048x8x128_S8x2048x1024) z) bitsLt_bf16_f32 (ix3 b t c) =
      f (ix4 b (headIx c) t (laneIx c)) * z (ix3 b t c) := by
  unfold headIx laneIx
  pointwise []

theorem result_at (q k v z : FVec Ideal S8x2048x1024 .f32) (b : Fin 8) (t : Fin 2048) (c : Fin 1024) :
    result q k v z (ix3 b t c) =
      (∑ r : Fin 256, ∑ s : Fin 4, weights q k (ix5 b (headIx c) t s r) * gathered v (picked q k) (ix6 b (headIx c) t s r (laneIx c)))
        * z (ix3 b t c) := by
  unfold result
  exact (gated_at _ _ b t c).trans (congrArg (· * z (ix3 b t c)) (mix_at _ _ b (headIx c) t (laneIx c)))

end Cert.ReferenceIdeal.Value
-- ==== Proof.RefReads.lean ====
module

public import proofs.«01_k».proof.Proof.RefRows
public import Idealize.ShloMosaic.Lib.Routing.Words

/-! The stages of the reference up to the scores, read at an index. -/

@[expose] public section
set_option maxRecDepth 16384
noncomputable section
open Idealize.ShloMosaic Idealize.ShloMosaic.TcCoe Idealize.SL.Sem
open scoped Classical
namespace Cert.ReferenceIdeal.Value
open Cert.ReferenceIdeal Cert.ReferenceIdeal.Gen Cert.Moba

theorem word_toInt (a : ℕ) (ha : a < 2 ^ 31) : (BitVec.ofNat 32 a).toInt = (a : ℤ) := by
  rw [BitVec.toInt_eq_toNat_of_lt (by rw [BitVec.toNat_ofNat]; omega), BitVec.toNat_ofNat]; omega

theorem word_slt (a b : ℕ) (ha : a < 2 ^ 31) (hb : b < 2 ^ 31) :
    IntOp.cmpi CmpIPredicate.slt (BitVec.ofNat 32 a) (BitVec.ofNat 32 b) = if a < b then 1#1 else 0#1 := by
  unfold IntOp.cmpi
  have : (BitVec.ofNat 32 a).slt (BitVec.ofNat 32 b) = decide (a < b) := by
    rw [BitVec.slt, word_toInt a ha, word_toInt b hb]; simp
  dsimp only
  rw [this]
  by_cases h : a < b <;> simp [h]

theorem word_bot : Ideal.ofBits .f32 0xFF800000#32 = ⊥ := by simp [Ideal.ofBits, Ideal.ieee]
theorem word_zero : Ideal.ofBits .f32 0x00000000#32 = 0 := by simp [Ideal.ofBits, Ideal.ieee]

theorem keyBlocks_at (k : FVec Ideal S8x2048x1024 .f32) (b h n : Fin 8) (r : Fin 256) (d : Fin 128) :
    keyBlocks k (ix5 b h n r d) = headOf k b h (key n r) d := by
  pointwise [keyBlocks]
  rfl

theorem queries_at (q : FVec Ideal S8x2048x1024 .f32) (b h : Fin 8) (t : Fin 2048) (d : Fin 128) :
    queries q (ix4 b h t d) = headOf q b h t d * SC := by
  pointwise [queries]
  rfl

theorem ownBlock_at (t : Fin 2048) : ownBlock (ix1 t) = BitVec.ofNat 32 ((t : ℕ) / 256) := by
  pointwise [ownBlock]
  have := t.isLt
  exact Routing.divsi_word _ (by omega) (by decide) (by decide)

theorem gates_at (q k : FVec Ideal S8x2048x1024 .f32) (b h n : Fin 8) (t : Fin 2048) :
    gates q k (ix4 b h t n) = masked (headOf q b h) (headOf k b h) t n := by
  have ht := t.isLt; have hn := n.isLt
  pointwise [gates]
  rw [ownBlock_at, word_slt _ _ (by omega) (by omega)]
  have e : (∑ x : Fin 128, queries q (ix4 b h t x) * Ideal.div (∑ y : Fin 256, keyBlocks k (ix5 b h n y x)) (Ideal.ofBits FTy.f32 1132462080#32))
      = gate (headOf q b h) (headOf k b h) t n := by
    unfold gate
    refine Finset.sum_congr rfl fun x _ => ?_
    rw [queries_at, mul_comm]
    congr 2
    exact Finset.sum_congr rfl fun y _ => keyBlocks_at k b h n y x
  rw [e]
  unfold masked
  by_cases hc : (n : ℕ) < (t : ℕ) / 256
  · rw [if_pos hc, if_pos hc]; rfl
  · rw [if_neg hc, if_neg hc]; exact word_bot

theorem topThree_at (q k : FVec Ideal S8x2048x1024 .f32) (b h : Fin 8) (t : Fin 2048) (s : Fin 3) :
    topThree q k (ix4 b h t s) = BitVec.ofNat 32 (place (masked (headOf q b h) (headOf k b h) t) (s.castLE (by decide)) : ℕ) := by
  have e : ∀ (y : Fin 8) (x : Fin 8), (ix4 b h t y : S8x8x2048x8.Idx).along 3 x = ix4 b h t x := fun y x => by
    funext a; fin_cases a <;> rfl
  unfold topThree Host.topK Host.sort2
  pointwise []
  refine congrArg (fun n : ℕ => BitVec.ofNat 32 n) ?_
  simp only [e, gates_at]
  rfl

theorem picked_at (q k : FVec Ideal S8x2048x1024 .f32) (b h : Fin 8) (t : Fin 2048) (s : Fin 4) :
    picked q k (ix4 b h t s) = BitVec.ofNat 32 (slot (headOf q b h) (headOf k b h) t s : ℕ) := by
  pointwise [picked]
  unfold slot
  by_cases hs : (s : ℕ) < 3
  · rw [dif_pos hs, if_pos hs, topThree_at]; rfl
  · rw [dif_neg hs, if_neg hs, ownBlock_at]; rfl

theorem allowed_at (q k : FVec Ideal S8x2048x1024 .f32) (b h : Fin 8) (t : Fin 2048) (s : Fin 4) :
    allowed q k (ix4 b h t s) = if okSlot (headOf q b h) (headOf k b h) t s then 1#1 else 0#1 := by
  have ht := t.isLt
  pointwise [allowed]
  by_cases hs : (s : ℕ) < 3
  · have hl := (place (masked (headOf q b h) (headOf k b h) t) (s.castLE (by decide))).isLt
    rw [dif_pos hs, topThree_at, ownBlock_at, word_slt _ _ (by omega) (by omega)]
    have : okSlot (headOf q b h) (headOf k b h) t s ↔ (place (masked (headOf q b h) (headOf k b h) t) (s.castLE (by decide)) : ℕ) < (t : ℕ) / 256 := by
      unfold okSlot slot; rw [if_pos hs]; exact ⟨fun x => x hs, fun x _ => x⟩
    simp only [this]
    rfl
  · rw [dif_neg hs, if_pos]
    exact fun x => absurd x hs

theorem distance_at (p : IVec S8x8x2048x4 32) (b h : Fin 8) (t : Fin 2048) (s : Fin 4) (r : Fin 256) (n : Fin 8) (hp : p (ix4 b h t s) = BitVec.ofNat 32 n) :
    distance p (ix5 b h t s r) = ((((t : ℕ) : ℝ) - ((key n r : ℕ) : ℝ) : ℝ) : EReal) := by
  have ht := t.isLt; have hn := n.isLt; have hr := r.isLt
  pointwise [distance]
  rw [hp]
  have e : IntOp.addi (IntOp.muli (BitVec.ofNat 32 (n : ℕ)) 256#32) (BitVec.ofNat 32 (r : ℕ)) = BitVec.ofNat 32 (key n r : ℕ) := by
    show BitVec.ofNat 32 (n : ℕ) * 256#32 + BitVec.ofNat 32 (r : ℕ) = BitVec.ofNat 32 ((n : ℕ) * 256 + r)
    rw [BitVec.ofNat_add, BitVec.ofNat_mul]
  have hk := (key n r).isLt
  have e2 : (IntOp.subi (BitVec.ofNat 32 (t : ℕ)) (BitVec.ofNat 32 (key n r : ℕ))).toInt = (t : ℤ) - (key n r : ℤ) := by
    rw [IntOp.subi, BitVec.toInt_sub, word_toInt _ (by omega), word_toInt _ (by omega)]
    apply Int.bmod_eq_of_le <;> omega
  rw [e]
  show ((((IntOp.subi (BitVec.ofNat 32 (t : ℕ)) (BitVec.ofNat 32 (key n r : ℕ))).toInt : ℤ) : ℝ) : EReal) = _
  rw [e2]
  push_cast
  rfl

end Cert.ReferenceIdeal.Value
-- ==== Proof.RefScores.lean ====
module

public import proofs.«01_k».proof.Proof.RefReads

/-! The gathered rows, the scores and the result of the reference, read at an index. -/

@[expose] public section
set_option maxRecDepth 16384
noncomputable section
open Idealize.ShloMosaic Idealize.ShloMosaic.TcCoe Idealize.SL.Sem
open scoped Classical
namespace Cert.ReferenceIdeal.Value
open Cert.ReferenceIdeal Cert.ReferenceIdeal.Gen Cert.Moba

abbrev rowGather := gather_S8x8x8x256x128_S8x8x2048x4x1_S8x8x2048x4x256x128_45_2_01_01_2_4_111256128

/-- The place of a start index. -/
theorem rowGather_siIdx (b h : Fin 8) (t : Fin 2048) (s : Fin 4) (r : Fin 256) (d : Fin 128) (c : Fin rowGather.startIndexMap.length) :
    rowGather.siIdx (ix6 b h t s r d) c = ix5 b h t s 0 := by
  funext a
  refine Fin.ext ?_
  match a with
  | ⟨0, _⟩ => rfl
  | ⟨1, _⟩ => rfl
  | ⟨2, _⟩ => rfl
  | ⟨3, _⟩ => rfl
  | ⟨4, _⟩ => have := c.isLt; have e : rowGather.startIndexMap.length = 1 := rfl; show (c : ℕ) = 0; omega

theorem batch0 : (0 : Fin 5) ∈ rowGather.operandBatchingDims := by decide
theorem batch1 : (1 : Fin 5) ∈ rowGather.operandBatchingDims := by decide
theorem batch2 : (2 : Fin 5) ∉ rowGather.operandBatchingDims := by decide
theorem batch3 : (3 : Fin 5) ∉ rowGather.operandBatchingDims := by decide
theorem batch4 : (4 : Fin 5) ∉ rowGather.operandBatchingDims := by decide
theorem kept0 : (0 : Fin 5) ∉ rowGather.sKept := by decide
theorem kept1 : (1 : Fin 5) ∉ rowGather.sKept := by decide
theorem kept2 : (2 : Fin 5) ∉ rowGather.sKept := by decide
theorem start2 : (2 : Fin 5) ∈ rowGather.startIndexMap := by decide
theorem start3 : (3 : Fin 5) ∉ rowGather.startIndexMap := by decide
theorem start4 : (4 : Fin 5) ∉ rowGather.startIndexMap := by decide

theorem gather_at (x : FVec Ideal S8x8x8x256x128 .f32) (p : IVec S8x8x2048x4x1 32) (b h : Fin 8) (t : Fin 2048) (s : Fin 4) (r : Fin 256) (d : Fin 128)
    (n : Fin 8) (hp : p (ix5 b h t s 0) = BitVec.ofNat 32 n) :
    Host.gather rowGather x p (ix6 b h t s r d) = x (ix5 b h n r d) := by
  have hn := n.isLt
  unfold Host.gather
  congr 1
  funext a
  refine Fin.ext ?_
  show rowGather.start (ix6 b h t s r d) p a + rowGather.batchCoord (ix6 b h t s r d) a + rowGather.offCoord (ix6 b h t s r d) a = _
  match a with
  | ⟨0, _⟩ =>
    show rowGather.start _ p (0 : Fin 5) + rowGather.batchCoord _ (0 : Fin 5) + rowGather.offCoord _ (0 : Fin 5) = _
    rw [GatherDims.start_batching _ _ _ _ batch0, GatherDims.offCoord_eq_zero _ _ _ kept0]
    unfold GatherDims.batchCoord
    rw [dif_pos batch0]
    show 0 + (b : ℕ) + 0 = b
    omega
  | ⟨1, _⟩ =>
    show rowGather.start _ p (1 : Fin 5) + rowGather.batchCoord _ (1 : Fin 5) + rowGather.offCoord _ (1 : Fin 5) = _
    rw [GatherDims.start_batching _ _ _ _ batch1, GatherDims.offCoord_eq_zero _ _ _ kept1]
    unfold GatherDims.batchCoord
    rw [dif_pos batch1]
    show 0 + (h : ℕ) + 0 = h
    omega
  | ⟨2, _⟩ =>
    show rowGather.start _ p (2 : Fin 5) + rowGather.batchCoord _ (2 : Fin 5) + rowGather.offCoord _ (2 : Fin 5) = _
    rw [GatherDims.batchCoord_eq_zero _ _ _ batch2, GatherDims.offCoord_eq_zero _ _ _ kept2]
    unfold GatherDims.start
    rw [dif_pos start2, rowGather_siIdx, hp, word_toInt _ (by omega)]
    show min (n : ℕ) (8 - 1) + 0 + 0 = n
    omega
  | ⟨3, _⟩ =>
    show rowGather.start _ p (3 : Fin 5) + rowGather.batchCoord _ (3 : Fin 5) + rowGather.offCoord _ (3 : Fin 5) = _
    rw [GatherDims.batchCoord_eq_zero _ _ _ batch3]
    unfold GatherDims.start
    rw [dif_neg start3]
    show 0 + 0 + (r : ℕ) = r
    omega
  | ⟨4, _⟩ =>
    show rowGather.start _ p (4 : Fin 5) + rowGather.batchCoord _ (4 : Fin 5) + rowGather.offCoord _ (4 : Fin 5) = _
    rw [GatherDims.batchCoord_eq_zero _ _ _ batch4]
    unfold GatherDims.start
    rw [dif_neg start4]
    show 0 + 0 + (d : ℕ) = d
    omega

theorem column_at (p : IVec S8x8x2048x4 32) (b h : Fin 8) (t : Fin 2048) (s : Fin 4) :
    broadcastInDim S8x8x2048x4x1 ![0, 1, 2, 3] bcast_S8x8x2048x4_S8x8x2048x4x1_0_1_2_3 p (ix5 b h t s 0) = p (ix4 b h t s) := by
  pointwise []

theorem gathered_at (q k x : FVec Ideal S8x2048x1024 .f32) (b h : Fin 8) (t : Fin 2048) (s : Fin 4) (r : Fin 256) (d : Fin 128) :
    gathered x (picked q k) (ix6 b h t s r d) = headOf x b h (key (slot (headOf q b h) (headOf k b h) t s) r) d := by
  unfold gathered
  refine (gather_at _ _ b h t s r d (slot (headOf q b h) (headOf k b h) t s) ((column_at _ b h t s).trans (picked_at q k b h t s))).trans ?_
  exact keyBlocks_at x b h _ r d

theorem rowMajor_val : ∀ h : Fin 8, (S8.rowMajor (ix1 h) : ℕ) = h := by decide

theorem scores_at (q k : FVec Ideal S8x2048x1024 .f32) (b h : Fin 8) (t : Fin 2048) (s : Fin 4) (r : Fin 256) :
    scores q k (ix5 b h t s r) = part (headOf q b h) (headOf k b h) (Ideal.ofBits .f32 (lit0 h)) t s r := by
  pointwise [scores]
  have ed := distance_at (picked q k) b h t s r _ (picked_at q k b h t s)
  have eh : S8.rowMajor (ix1 h) = h := Fin.ext (rowMajor_val h)
  have es : (∑ x : Fin 128, queries q (ix4 b h t x) * gathered k (picked q k) (ix6 b h t s r x))
      = ∑ x : Fin 128, headOf q b h t x * SC * headOf k b h (key (slot (headOf q b h) (headOf k b h) t s) r) x :=
    Finset.sum_congr rfl fun x _ => by rw [queries_at, gathered_at]
  rw [allowed_at, ed, es]
  unfold part raw
  have hle : (0 : EReal) ≤ ((((t : ℕ) : ℝ) - ((key (slot (headOf q b h) (headOf k b h) t s) r : ℕ) : ℝ) : ℝ) : EReal)
      ↔ (key (slot (headOf q b h) (headOf k b h) t s) r : ℕ) ≤ (t : ℕ) := by
    rw [← EReal.coe_zero, EReal.coe_le_coe_iff, sub_nonneg, Nat.cast_le]
  by_cases h1 : okSlot (headOf q b h) (headOf k b h) t s
  · by_cases h2 : (key (slot (headOf q b h) (headOf k b h) t s) r : ℕ) ≤ (t : ℕ)
    · rw [if_pos h1, if_pos ⟨h1, h2⟩, decide_eq_true (hle.mpr h2)]
      show _ - Ideal.ofBits FTy.f32 (lit0 (S8.rowMajor (ix1 h))) * _ = _
      rw [eh]
    · rw [if_neg (c := okSlot _ _ t s ∧ _) (fun x => h2 x.2), decide_eq_false (fun x => h2 (hle.mp x)), if_pos h1]
      exact word_bot
  · rw [if_neg h1, if_neg (c := okSlot _ _ t s ∧ _) (fun x => h1 x.1)]
    have : ∀ x : BitVec 1, IntOp.andi 0#1 x = 0#1 := by decide
    rw [this]
    exact word_bot

end Cert.ReferenceIdeal.Value
-- ==== Proof.RefHead.lean ====
module

public import proofs.«01_k».proof.Proof.RefScores

/-! The softmax and the result of the reference, read at an index. -/

@[expose] public section
set_option maxRecDepth 16384
noncomputable section
open Idealize.ShloMosaic Idealize.ShloMosaic.TcCoe Idealize.SL.Sem
open scoped Classical
namespace Cert.ReferenceIdeal.Value
open Cert.ReferenceIdeal Cert.ReferenceIdeal.Gen Cert.Moba

/-! ## The rows of a head -/

/-- A place among the 1024 scores, as a slot and a key. -/
def pairIx : Fin 4 × Fin 256 ≃ Fin 1024 := finProdFinEquiv

theorem pairIx_val (s : Fin 4) (r : Fin 256) : (pairIx (s, r) : ℕ) = r + 256 * s := rfl

theorem flat_pair (q k : FVec Ideal S8x2048x1024 .f32) (b h : Fin 8) (t : Fin 2048) (p : Fin 4 × Fin 256) :
    flat q k (ix4 b h t (pairIx p)) = part (headOf q b h) (headOf k b h) (Ideal.ofBits .f32 (lit0 h)) t p.1 p.2 := by
  obtain ⟨s, r⟩ := p
  have hr := r.isLt
  rw [flat_at, ← scores_at]
  have e1 : (⟨(pairIx (s, r) : ℕ) / 256, by have := (pairIx (s, r)).isLt; omega⟩ : Fin 4) = s := Fin.ext (by show (pairIx (s, r) : ℕ) / 256 = s; rw [pairIx_val]; omega)
  have e2 : (⟨(pairIx (s, r) : ℕ) % 256, by omega⟩ : Fin 256) = r := Fin.ext (by show (pairIx (s, r) : ℕ) % 256 = r; rw [pairIx_val]; omega)
  rw [e1, e2]

theorem sup_pairs {α β γ : Type} [Fintype α] [Fintype β] [Fintype γ] (e : α × β ≃ γ) (f : γ → EReal) :
    Finset.univ.sup f = Finset.univ.sup fun p : α × β => f (e p) := by
  rw [← Finset.map_univ_equiv e, Finset.sup_map]
  rfl

theorem sum_pairs {α β γ : Type} [Fintype α] [Fintype β] [Fintype γ] (e : α × β ≃ γ) (f : γ → EReal) :
    ∑ c, f c = ∑ a, ∑ b, f (e (a, b)) := by
  rw [← Equiv.sum_comp e, Fintype.sum_prod_type]

theorem fold_sup {ι : Type} (s : Finset ι) (f : ι → EReal) : s.fold max ⊥ f = s.sup f := rfl

theorem biggest_eq (q k : FVec Ideal S8x2048x1024 .f32) (b h : Fin 8) (t : Fin 2048) :
    biggest q k (ix3 b h t) = partMax (headOf q b h) (headOf k b h) (Ideal.ofBits .f32 (lit0 h)) t := by
  rw [biggest_at, word_bot, max_eq_right bot_le, fold_sup, sup_pairs pairIx]
  unfold partMax
  exact Finset.sup_congr rfl fun p _ => flat_pair q k b h t p

theorem powers_pair (q k : FVec Ideal S8x2048x1024 .f32) (b h : Fin 8) (t : Fin 2048) (s : Fin 4) (r : Fin 256) :
    powers q k (ix4 b h t (pairIx (s, r))) = Ideal.exp (part (headOf q b h) (headOf k b h) (Ideal.ofBits .f32 (lit0 h)) t s r
      - partMax (headOf q b h) (headOf k b h) (Ideal.ofBits .f32 (lit0 h)) t) := by
  rw [powers_at, biggest_eq, flat_pair]

theorem weights_eq (q k : FVec Ideal S8x2048x1024 .f32) (b h : Fin 8) (t : Fin 2048) (s : Fin 4) (r : Fin 256) :
    weights q k (ix5 b h t s r) = Ideal.div (Ideal.exp (part (headOf q b h) (headOf k b h) (Ideal.ofBits .f32 (lit0 h)) t s r
      - partMax (headOf q b h) (headOf k b h) (Ideal.ofBits .f32 (lit0 h)) t))
      (∑ s : Fin 4, ∑ r : Fin 256, Ideal.exp (part (headOf q b h) (headOf k b h) (Ideal.ofBits .f32 (lit0 h)) t s r
      - partMax (headOf q b h) (headOf k b h) (Ideal.ofBits .f32 (lit0 h)) t)) := by
  have e : (⟨(s : ℕ) * 256 + r, by omega⟩ : Fin 1024) = pairIx (s, r) := Fin.ext (by rw [pairIx_val]; show (s : ℕ) * 256 + r = _; omega)
  rw [weights_at, e, powers_pair, word_zero, zero_add, sum_pairs pairIx]
  refine congrArg _ ?_
  exact Finset.sum_congr rfl fun s _ => Finset.sum_congr rfl fun r _ => powers_pair q k b h t s r

/-- The reference's result, by head. -/
theorem result_att (q k v z : FVec Ideal S8x2048x1024 .f32) (b : Fin 8) (t : Fin 2048) (c : Fin 1024) :
    result q k v z (ix3 b t c) = attPart (headOf q b (headIx c)) (headOf k b (headIx c)) (headOf v b (headIx c))
      (Ideal.ofBits .f32 (lit0 (headIx c))) t (laneIx c) * z (ix3 b t c) := by
  rw [result_at]
  refine congrArg (· * z (ix3 b t c)) ?_
  unfold attPart
  rw [Finset.sum_comm]
  refine Finset.sum_congr rfl fun s _ => Finset.sum_congr rfl fun r _ => ?_
  rw [weights_eq, gathered_at]

end Cert.ReferenceIdeal.Value
-- ==== Proof.Finite.lean ====
module

public import proofs.«01_k».proof.Proof.Gen.Pre_finite_qk
public import proofs.«01_k».proof.Proof.Moba
public import Idealize.ShloMosaic.Lib.ReduceAll

/-! What the precondition says: every query and every key is finite. -/

@[expose] public section
set_option maxRecDepth 16384
noncomputable section
open Idealize.ShloMosaic
namespace Cert.Pre_finite_qk
open Cert.Moba

theorem word_top : Ideal.ofBits .f32 0x7F800000#32 = ⊤ := by simp [Ideal.ofBits, Ideal.ieee]

instance : Subsingleton S_.Idx := ⟨fun a b => funext fun x => x.elim0⟩

theorem of_bit {p : Prop} [Decidable p] (h : BitVec.ofBool (decide p) = 1#1) : p := by
  by_contra hc
  rw [decide_eq_false hc] at h
  exact absurd h (by decide)

theorem below_at (x : FVec Ideal S8x2048x1024 .f32) (b : Fin 8) (t : Fin 2048) (c : Fin 1024) :
    (cmpf .olt (Host.absf x) (broadcastInDim S8x2048x1024 ![] Gen.bcast_S_S8x2048x1024 (constant (F := Ideal) S_ .f32 0x7F800000#32))) (ix3 b t c)
      = 1#1 → IsReal (x (ix3 b t c)) := by
  pointwise []
  intro h
  have h' : max (x (ix3 b t c)) (-x (ix3 b t c)) < Ideal.ofBits .f32 0x7F800000#32 := of_bit h
  rw [word_top] at h'
  refine isReal_of_ne (fun e => ?_) (fun e => ?_)
  · rw [e] at h'; exact absurd (lt_of_le_of_lt (le_max_left _ _) h') (lt_irrefl _)
  · rw [e, EReal.neg_bot] at h'; exact absurd (lt_of_le_of_lt (le_max_right _ _) h') (lt_irrefl _)

theorem real_of_finite (q k v z : FVec Ideal S8x2048x1024 .f32) (h : fn (F := Ideal) q k v z = fun _ => 1#1) :
    (∀ b t c, IsReal (q (ix3 b t c))) ∧ (∀ b t c, IsReal (k (ix3 b t c))) := by
  have h0 := congrFun h ix0
  have h1 : IntOp.andi _ _ = 1#1 := h0
  rw [IntOp.andi_eq_one] at h1
  exact ⟨fun b t c => below_at q b t c (Host.reduce_andi_all _ _ _ _ _ h1.1 _), fun b t c => below_at k b t c (Host.reduce_andi_all _ _ _ _ _ h1.2 _)⟩

end Cert.Pre_finite_qk
-- ==== Proof.Claims.lean ====
module

public import proofs.«01_k».proof.Defs
public import proofs.«01_k».proof.Proof.KernelArr
public import proofs.«01_k».proof.Proof.RefHead
public import proofs.«01_k».proof.Proof.Finite
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

/-! The claims. -/

@[expose] public section
set_option maxRecDepth 16384
noncomputable section
open Idealize.ShloMosaic Idealize.ShloMosaic.TcCoe Idealize.SL.Sem
namespace Cert.Proof.Attention
open Cert.Moba

theorem slope_real : ∀ h : Fin 8, IsReal (Cert.KernelIdeal.Value.slopeOf h) := by
  have e : ∀ n : ℕ, ∀ r : ℝ, Ideal.ofBits .f32 (BitVec.ofNat 32 n) = (r : EReal) → IsReal (Ideal.ofBits .f32 (BitVec.ofNat 32 n)) :=
    fun n r h => ⟨r, h⟩
  intro h
  match h with
  | 0 => exact e 0x3F000000 (1 / 2) (by simp [Ideal.ofBits, Ideal.ieee, -EReal.coe_mul]; norm_num)
  | 1 => exact e 0x3E800000 (1 / 4) (by simp [Ideal.ofBits, Ideal.ieee, -EReal.coe_mul]; norm_num)
  | 2 => exact e 0x3E000000 (1 / 8) (by simp [Ideal.ofBits, Ideal.ieee, -EReal.coe_mul]; norm_num)
  | 3 => exact e 0x3D800000 (1 / 16) (by simp [Ideal.ofBits, Ideal.ieee, -EReal.coe_mul]; norm_num)
  | 4 => exact e 0x3D000000 (1 / 32) (by simp [Ideal.ofBits, Ideal.ieee, -EReal.coe_mul]; norm_num)
  | 5 => exact e 0x3C800000 (1 / 64) (by simp [Ideal.ofBits, Ideal.ieee, -EReal.coe_mul]; norm_num)
  | 6 => exact e 0x3C000000 (1 / 128) (by simp [Ideal.ofBits, Ideal.ieee, -EReal.coe_mul]; norm_num)
  | 7 => exact e 0x3B800000 (1 / 256) (by simp [Ideal.ofBits, Ideal.ieee, -EReal.coe_mul]; norm_num)

theorem slope_same : ∀ h : Fin 8, Cert.ReferenceIdeal.lit0 h = Cert.KernelIdeal.lit0 h := by decide

/-- The two programs' results are one array. -/
theorem arrays_eq (q k v z : FVec Ideal Cert.ReferenceIdeal.S8x2048x1024 .f32)
    (h : Cert.Pre_finite_qk.fn (F := Ideal) q k v z = fun _ => 1#1) :
    Cert.ReferenceIdeal.Value.result q k v z = Cert.KernelIdeal.Value.outArr q k v z := by
  obtain ⟨hq, hk⟩ := Cert.Pre_finite_qk.real_of_finite q k v z h
  funext j
  obtain ⟨b, t, c, rfl⟩ : ∃ (b : Fin 8) (t : Fin 2048) (c : Fin 1024), j = ix3 b t c :=
    ⟨j 0, j 1, j 2, by funext x; fin_cases x <;> rfl⟩
  refine (Cert.ReferenceIdeal.Value.result_att q k v z b t c).trans (Eq.trans ?_ (Cert.KernelIdeal.Value.outArr_at q k v z b t c).symm)
  rw [slope_same]
  exact congrArg (· * z (ix3 b t c)) (att_eq _ _ _ _ t (fun x => hq _ _ _) (fun c x => hk _ _ _) (slope_real _) _).symm

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite_qk := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_finite : Cert.quiescent_ReferenceIdeal_pre_finite_qk := fun m ρ _ => frame_ri m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_qk := by
  intro m ρ m' ρ' hpre hag
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Value.result_eq m' c).trans ?_
  rw [(hag c).1, (hag c).2.1, (hag c).2.2.1, (hag c).2.2.2]
  exact (arrays_eq _ _ _ _ (hpre c)).trans (Cert.KernelIdeal.Value.arr_eq m c).symm

end Cert.Proof.Attention
-- ==== Proof.ConvInArr.lean ====
module
public import proofs.«01_k».proof.Proof.Gen.ConvInIdeal.Value
public import Idealize.ShloMosaic.Lib.Pipeline.ValueKit
public import Idealize.ShloMosaic.Lib.Pipeline.ReadBack

/-! The projection of the convolution module: what each grid point keeps of the weights and writes, and the two result arrays. -/

@[expose] public section
set_option maxRecDepth 16384
noncomputable section
open Idealize.ShloMosaic Idealize.ShloMosaic.TcCoe Idealize.SL.Sem
open Idealize.ShloMosaic.Pipeline (Dat)
namespace Cert.ConvInIdeal.Value
open Cert.ConvInIdeal Cert.ConvInIdeal.Gen
/-! ## What is computed from the values read -/

theorem pay4_at (h : FVec Ideal S512x2048 .bf16) (a b : FVec Ideal S1x2048x512 .bf16) (r : Fin 512) (d : Fin 512) :
    k0_pay4 (F := Ideal) h a b (ix2 r d) = (∑ k : Fin 2048, h (ix2 r k) * a (ix3 0 k d)) * Ideal.logistic (∑ k : Fin 2048, h (ix2 r k) * b (ix3 0 k d)) := by
  pointwise [k0_pay4]
theorem pay5_at (h : FVec Ideal S512x2048 .bf16) (a : FVec Ideal S1x2048x512 .bf16) (r : Fin 512) (d : Fin 512) :
    k0_pay5 (F := Ideal) h a (ix2 r d) = (∑ k : Fin 2048, h (ix2 r k) * a (ix3 0 k d)) * Ideal.logistic (∑ k : Fin 2048, h (ix2 r k) * a (ix3 0 k d)) := by
  pointwise [k0_pay5]
theorem pay1_at (x : FVec Ideal S2048x512 .f32) (k : Fin 2048) (d : Fin 512) : k0_pay1 (F := Ideal) x (ix3 0 k d) = x (ix2 k d) := by
  pointwise [k0_pay1]
theorem pay2_at (x : FVec Ideal S2048x512 .f32) (k : Fin 2048) (d : Fin 512) : k0_pay2 (F := Ideal) x (ix3 0 k d) = x (ix2 k d) := by
  pointwise [k0_pay2]
theorem pay3_at (x : FVec Ideal S2048x512 .f32) (k : Fin 2048) (d : Fin 512) : k0_pay3 (F := Ideal) x (ix3 0 k d) = x (ix2 k d) := by
  pointwise [k0_pay3]

/-! ## What a point keeps and writes -/

/-- The three slabs of weights that a point keeps. -/
def slabs (x1 x2 x3 : S2048x512.Idx → EReal) : S3x2048x512.Idx → EReal := fun y =>
  if (y 0 : ℕ) = 0 then x1 (ix2 (y 1) (y 2)) else if (y 0 : ℕ) = 1 then x2 (ix2 (y 1) (y 2)) else x3 (ix2 (y 1) (y 2))

/-- The products of a point's rows with a slab. -/
def prodBlk (h : S512x2048.Idx → EReal) (W : S3x2048x512.Idx → EReal) (s : Fin 3) (r d : Fin 512) : EReal :=
  ∑ k : Fin 2048, h (ix2 r k) * W (ix3 s k d)

/-- A point's block of the gated linear unit. -/
def gluBlk (h : S512x2048.Idx → EReal) (W : S3x2048x512.Idx → EReal) : S512x512.Idx → EReal := fun y =>
  prodBlk h W 0 (y 0) (y 1) * Ideal.logistic (prodBlk h W 1 (y 0) (y 1))

/-- A point's block of the gate path. -/
def siluBlk (h : S512x2048.Idx → EReal) (W : S3x2048x512.Idx → EReal) : S512x512.Idx → EReal := fun y =>
  prodBlk h W 2 (y 0) (y 1) * Ideal.logistic (prodBlk h W 2 (y 0) (y 1))

theorem slab_emb (s : ℕ) (hs : s < 3) (inb : ∀ a, (![s, 0, 0] : Fin 3 → ℕ) a + S1x2048x512.size a ≤ S3x2048x512.size a) (x : S1x2048x512.Idx) :
    (Rect.unit (s := S3x2048x512) ![s, 0, 0] S1x2048x512.size inb).emb x = (ix3 (⟨s, hs⟩ : Fin 3) (x 1) (x 2) : S3x2048x512.Idx) := by
  funext a
  apply Fin.ext
  show ((Rect.unit (s := S3x2048x512) ![s, 0, 0] S1x2048x512.size inb).idx x a : ℕ) = _
  rw [Rect.idx_unit_val]
  match a with
  | 0 => show s + (x 0 : ℕ) = s; have : (x 0 : ℕ) < 1 := (x 0).isLt; omega
  | 1 => show 0 + (x 1 : ℕ) = x 1; omega
  | 2 => show 0 + (x 2 : ℕ) = x 2; omega

theorem ix_one (x : S1x2048x512.Idx) : x = (ix3 0 (x 1) (x 2) : S1x2048x512.Idx) := by
  funext a
  match a with
  | 0 => exact Fin.ext (by show (x 0 : ℕ) = 0; have : (x 0 : ℕ) < 1 := (x 0).isLt; omega)
  | 1 => rfl
  | 2 => rfl

theorem slabs_piece (s : ℕ) (hs : s < 3) (inb : ∀ a, (![s, 0, 0] : Fin 3 → ℕ) a + S1x2048x512.size a ≤ S3x2048x512.size a) (w : S1x2048x512.Idx → EReal)
    (G : S3x2048x512.Idx → EReal) (h : ∀ (k : Fin 2048) (d : Fin 512), w (ix3 0 k d) = G (ix3 ⟨s, hs⟩ k d)) (x : S1x2048x512.Idx) :
    w x = G ((Rect.unit (s := S3x2048x512) ![s, 0, 0] S1x2048x512.size inb).emb x) := by
  rw [slab_emb s hs inb x]
  exact (congrArg w (ix_one x)).trans (h (x 1) (x 2))

theorem slab_ld (s : ℕ) (hs : s < 3) (inb : ∀ a, (![s, 0, 0] : Fin 3 → ℕ) a + S1x2048x512.size a ≤ S3x2048x512.size a) (W : S3x2048x512.Idx → EReal) (k : Fin 2048) (d : Fin 512) :
    W ((Rect.unit (s := S3x2048x512) ![s, 0, 0] S1x2048x512.size inb).toLoadRect.idx (ix3 0 k d)) = W (ix3 ⟨s, hs⟩ k d) :=
  congrArg W (slab_emb s hs inb (ix3 0 k d))

theorem whole_w (x : Vec Ideal S2048x512 .f32) (inb : ∀ a, (![0, 0] : Fin 2 → ℕ) a + S2048x512.size a ≤ S2048x512.size a) :
    View.ld (Val := Elt Ideal) x (Rect.unit (s := S2048x512) ![0, 0] S2048x512.size inb) = x := by
  have h : (![0, 0] : Fin 2 → ℕ) = fun _ => 0 := by decide
  exact View.ld_unit_zero h inb x
theorem whole_h (x : Vec Ideal S512x2048 .bf16) (inb : ∀ a, (![0, 0] : Fin 2 → ℕ) a + S512x2048.size a ≤ S512x2048.size a) :
    View.ld (Val := Elt Ideal) x (Rect.unit (s := S512x2048) ![0, 0] S512x2048.size inb) = x := by
  have h : (![0, 0] : Fin 2 → ℕ) = fun _ => 0 := by decide
  exact View.ld_unit_zero h inb x

/-- A block stored whole is what the result block holds. -/
theorem canon_whole (w G : S512x512.Idx → EReal) (inb : ∀ a, (![0, 0] : Fin 2 → ℕ) a + S512x512.size a ≤ S512x512.size a)
    (h : ∀ r d : Fin 512, w (ix2 r d) = G (ix2 r d)) :
    View.canon (Val := Elt Ideal) (e := .f32) [⟨Rect.unit (s := S512x512) ![0, 0] S512x512.size inb, w⟩] = G := by
  refine (View.canon_cons_unit_lit (Val := Elt Ideal) (S := S512x512) (e := .f32) inb w [] (by decide)).trans ?_
  funext y
  have e : y = (ix2 (y 0) (y 1) : S512x512.Idx) := by
    funext a
    match a with
    | 0 => rfl
    | 1 => rfl
  rw [e]
  exact h (y 0) (y 1)

variable (c : Dev nD) (i : grid0.Coords) (arg2 : Memref sig .tc .vmem S512x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S3x2048x512 .bf16) (harg8 : arg8.IsWhole)
    (x0 : Vec Ideal S512x2048 .bf16) (x1 x2 x3 : Vec Ideal S2048x512 .f32) (xs0 : Vec Ideal S3x2048x512 .bf16)

theorem stored (y : S3x2048x512.Idx) (hy : ∃ p ∈ kernelRun0_A.sl.HS0_3 (F := Ideal) c arg3 harg3 arg4 harg4 arg5 harg5 x1 x2 x3, y ∈ p.1.set) :
    View.canon (kernelRun0_A.sl.HS0_3 (F := Ideal) c arg3 harg3 arg4 harg4 arg5 harg5 x1 x2 x3) y = slabs x1 x2 x3 y := by
  refine View.canon_apply_of_pieces (Val := Elt Ideal) (slabs x1 x2 x3) _ (fun p hp x => ?_) y hy
  simp only [kernelRun0_A.sl.HS0_3, List.mem_cons, List.not_mem_nil, or_false] at hp
  rcases hp with rfl | rfl | rfl
  · refine slabs_piece 2 (by decide) inb_S3x2048x512_S1x2048x512_2_0_0 _ _ (fun k d => ?_) x
    simp (disch := decide) only [View.readAt_eq_ld, Memref.IsWhole.read_unread]
    exact (pay3_at _ k d).trans (congrFun (whole_w x3 _) _)
  · refine slabs_piece 1 (by decide) inb_S3x2048x512_S1x2048x512_1_0_0 _ _ (fun k d => ?_) x
    simp (disch := decide) only [View.readAt_eq_ld, Memref.IsWhole.read_unread]
    exact (pay2_at _ k d).trans (congrFun (whole_w x2 _) _)
  · refine slabs_piece 0 (by decide) inb_S3x2048x512_S1x2048x512_0_0_0 _ _ (fun k d => ?_) x
    simp (disch := decide) only [View.readAt_eq_ld, Memref.IsWhole.read_unread]
    exact (pay1_at _ k d).trans (congrFun (whole_w x1 _) _)

theorem sout_first (hc0 : cond0_0 i) : sout0_A_0 (F := Ideal) c i arg2 harg2 arg3 harg3 arg4 harg4 arg5 harg5 arg6 harg6 arg7 harg7 arg8 harg8 hc0 x0 x1 x2 x3 = slabs x1 x2 x3 := by
  have hcov := scover0_A_0 (F := Ideal) c i arg2 harg2 arg3 harg3 arg4 harg4 arg5 harg5 arg6 harg6 arg7 harg7 arg8 harg8 hc0 x0 x1 x2 x3
  unfold sout0_A_0
  rw [View.read_writes_eq_canon _ _ _ hcov]
  unfold kernelRun0_A at hcov ⊢
  dsimp only at hcov ⊢
  funext y
  exact stored c arg3 harg3 arg4 harg4 arg5 harg5 x1 x2 x3 y (hcov y)

include arg2 harg2 arg6 harg6 arg7 harg7 arg8 harg8 x0 in
theorem canon_stored (hc0 : cond0_0 i) : View.canon (kernelRun0_A.sl.HS0_3 (F := Ideal) c arg3 harg3 arg4 harg4 arg5 harg5 x1 x2 x3) = slabs x1 x2 x3 := by
  have h := sout_first c i arg2 harg2 arg3 harg3 arg4 harg4 arg5 harg5 arg6 harg6 arg7 harg7 arg8 harg8 x0 x1 x2 x3 hc0
  have hcov := scover0_A_0 (F := Ideal) c i arg2 harg2 arg3 harg3 arg4 harg4 arg5 harg5 arg6 harg6 arg7 harg7 arg8 harg8 hc0 x0 x1 x2 x3
  unfold sout0_A_0 at h
  rw [View.read_writes_eq_canon _ _ _ hcov] at h
  unfold kernelRun0_A at h
  exact h

theorem out_first4 (hc0 : cond0_0 i) : out0_A_4 (F := Ideal) c i arg2 harg2 arg3 harg3 arg4 harg4 arg5 harg5 arg6 harg6 arg7 harg7 arg8 harg8 hc0 x0 x1 x2 x3 = gluBlk x0 (slabs x1 x2 x3) := by
  have hS := canon_stored c i arg2 harg2 arg3 harg3 arg4 harg4 arg5 harg5 arg6 harg6 arg7 harg7 arg8 harg8 x0 x1 x2 x3 hc0
  unfold out0_A_4
  rw [View.read_writes_eq_canon _ _ _ (fun y => cover0_A_4 c i arg2 harg2 arg3 harg3 arg4 harg4 arg5 harg5 arg6 harg6 arg7 harg7 arg8 harg8 hc0 x0 x1 x2 x3 y)]
  unfold kernelRun0_A
  dsimp only
  refine canon_whole _ _ inb_S512x512_S512x512_0_0 (fun r d => ?_)
  unfold kernelRun0_A.sl.v4 kernelRun0_A.sl.v7
  rw [View.readCov_eq_canon', View.readCov_eq_canon', hS]
  simp (disch := decide) only [View.readAt_eq_ld, Memref.IsWhole.read_unread]
  rw [pay4_at, whole_h]
  refine congrArg₂ (fun a b => a * Ideal.logistic b) (Finset.sum_congr rfl fun k _ => congrArg _ ?_) (Finset.sum_congr rfl fun k _ => congrArg _ ?_)
  · exact slab_ld 0 (by decide) inb_S3x2048x512_S1x2048x512_0_0_0 _ k d
  · exact slab_ld 1 (by decide) inb_S3x2048x512_S1x2048x512_1_0_0 _ k d

theorem out_first5 (hc0 : cond0_0 i) : out0_A_5 (F := Ideal) c i arg2 harg2 arg3 harg3 arg4 harg4 arg5 harg5 arg6 harg6 arg7 harg7 arg8 harg8 hc0 x0 x1 x2 x3 = siluBlk x0 (slabs x1 x2 x3) := by
  have hS := canon_stored c i arg2 harg2 arg3 harg3 arg4 harg4 arg5 harg5 arg6 harg6 arg7 harg7 arg8 harg8 x0 x1 x2 x3 hc0
  unfold out0_A_5
  rw [View.read_writes_eq_canon _ _ _ (fun y => cover0_A_5 c i arg2 harg2 arg3 harg3 arg4 harg4 arg5 harg5 arg6 harg6 arg7 harg7 arg8 harg8 hc0 x0 x1 x2 x3 y)]
  unfold kernelRun0_A
  dsimp only
  refine canon_whole _ _ inb_S512x512_S512x512_0_0 (fun r d => ?_)
  unfold kernelRun0_A.sl.v13
  rw [View.readCov_eq_canon', hS]
  simp (disch := decide) only [View.readAt_eq_ld, Memref.IsWhole.read_unread]
  rw [pay5_at, whole_h]
  refine congrArg₂ (fun a b => a * Ideal.logistic b) (Finset.sum_congr rfl fun k _ => congrArg _ ?_) (Finset.sum_congr rfl fun k _ => congrArg _ ?_)
  · exact slab_ld 2 (by decide) inb_S3x2048x512_S1x2048x512_2_0_0 _ k d
  · exact slab_ld 2 (by decide) inb_S3x2048x512_S1x2048x512_2_0_0 _ k d

theorem out_later4 (hc0 : ¬cond0_0 i) : out0_B_4 (F := Ideal) c i arg2 harg2 arg3 harg3 arg4 harg4 arg5 harg5 arg6 harg6 arg7 harg7 arg8 harg8 hc0 x0 x1 x2 x3 xs0 = gluBlk x0 xs0 := by
  unfold out0_B_4
  rw [View.read_writes_eq_canon _ _ _ (fun y => cover0_B_4 c i arg2 harg2 arg3 harg3 arg4 harg4 arg5 harg5 arg6 harg6 arg7 harg7 arg8 harg8 hc0 x0 x1 x2 x3 xs0 y)]
  unfold kernelRun0_B
  dsimp only
  refine canon_whole _ _ inb_S512x512_S512x512_0_0 (fun r d => ?_)
  simp (disch := decide) only [View.readAt_eq_ld, Memref.IsWhole.read_unread]
  rw [pay4_at, whole_h]
  refine congrArg₂ (fun a b => a * Ideal.logistic b) (Finset.sum_congr rfl fun k _ => congrArg _ ?_) (Finset.sum_congr rfl fun k _ => congrArg _ ?_)
  · exact slab_ld 0 (by decide) inb_S3x2048x512_S1x2048x512_0_0_0 xs0 k d
  · exact slab_ld 1 (by decide) inb_S3x2048x512_S1x2048x512_1_0_0 xs0 k d

theorem out_later5 (hc0 : ¬cond0_0 i) : out0_B_5 (F := Ideal) c i arg2 harg2 arg3 harg3 arg4 harg4 arg5 harg5 arg6 harg6 arg7 harg7 arg8 harg8 hc0 x0 x1 x2 x3 xs0 = siluBlk x0 xs0 := by
  unfold out0_B_5
  rw [View.read_writes_eq_canon _ _ _ (fun y => cover0_B_5 c i arg2 harg2 arg3 harg3 arg4 harg4 arg5 harg5 arg6 harg6 arg7 harg7 arg8 harg8 hc0 x0 x1 x2 x3 xs0 y)]
  unfold kernelRun0_B
  dsimp only
  refine canon_whole _ _ inb_S512x512_S512x512_0_0 (fun r d => ?_)
  simp (disch := decide) only [View.readAt_eq_ld, Memref.IsWhole.read_unread]
  rw [pay5_at, whole_h]
  refine congrArg₂ (fun a b => a * Ideal.logistic b) (Finset.sum_congr rfl fun k _ => congrArg _ ?_) (Finset.sum_congr rfl fun k _ => congrArg _ ?_)
  · exact slab_ld 2 (by decide) inb_S3x2048x512_S1x2048x512_2_0_0 xs0 k d
  · exact slab_ld 2 (by decide) inb_S3x2048x512_S1x2048x512_2_0_0 xs0 k d

/-! ## A point's input blocks -/

section
variable (m : (ℓ : Loc nD τ sig) → Buf (Elt Ideal) ℓ)

theorem idx_h : ∀ t : Fin grid0.N, win0_0.index t 0 = (grid0.coords t 1 : ℕ) ∧ win0_0.index t 1 = 0 := by decide +kernel
theorem idx_a : ∀ t : Fin grid0.N, win0_1.index t 0 = 0 ∧ win0_1.index t 1 = (grid0.coords t 0 : ℕ) := by decide +kernel
theorem idx_b : ∀ t : Fin grid0.N, win0_2.index t 0 = 0 ∧ win0_2.index t 1 = 4 + (grid0.coords t 0 : ℕ) := by decide +kernel
theorem idx_z : ∀ t : Fin grid0.N, win0_3.index t 0 = 0 ∧ win0_3.index t 1 = 8 + (grid0.coords t 0 : ℕ) := by decide +kernel
theorem idx_o4 : ∀ t : Fin grid0.N, win0_4.index t 0 = (grid0.coords t 1 : ℕ) ∧ win0_4.index t 1 = (grid0.coords t 0 : ℕ) := by decide +kernel
theorem idx_o5 : ∀ t : Fin grid0.N, win0_5.index t 0 = (grid0.coords t 1 : ℕ) ∧ win0_5.index t 1 = (grid0.coords t 0 : ℕ) := by decide +kernel
theorem col_val : ∀ t : Fin grid0.N, (grid0.coords t 0 : ℕ) = (t : ℕ) / 32 := by decide +kernel

/-- The column of a wide array that a slab's column is. -/
def wcol (s : Fin 3) (j : Fin 4) (d : Fin 512) : Fin 6144 := ⟨s * 2048 + j * 512 + d, by omega⟩

/-- The slabs of a block of columns. -/
def wSlabs (w : S2048x6144.Idx → EReal) (j : Fin 4) : S3x2048x512.Idx → EReal := fun y => w (ix2 (y 1) (wcol (y 0) j (y 2)))

/-- The row of the long array that a block's row is. -/
def hrow (i : Fin 32) (r : Fin 512) : Fin 16384 := ⟨i * 512 + r, by omega⟩

theorem blk_h (c : Dev nD) (t : Fin grid0.N) (r : Fin 512) (k : Fin 2048) :
    iblk m c 0 t (ix2 r k) = (m ((c : Thread nD τ).loc main_arg0) : S16384x2048.Idx → EReal) (ix2 (hrow (grid0.coords t 1) r) k) := by
  unfold hrow
  blk_ext [iblk, V, idx_h t]
theorem blk_a (c : Dev nD) (t : Fin grid0.N) (k : Fin 2048) (d : Fin 512) :
    iblk m c 1 t (ix2 k d) = (m ((c : Thread nD τ).loc main_arg1) : S2048x6144.Idx → EReal) (ix2 k (wcol 0 (grid0.coords t 0) d)) := by
  unfold wcol
  blk_ext [iblk, V, idx_a t]
theorem blk_b (c : Dev nD) (t : Fin grid0.N) (k : Fin 2048) (d : Fin 512) :
    iblk m c 2 t (ix2 k d) = (m ((c : Thread nD τ).loc main_arg1) : S2048x6144.Idx → EReal) (ix2 k (wcol 1 (grid0.coords t 0) d)) := by
  unfold wcol
  blk_ext [iblk, V, idx_b t]
theorem blk_z (c : Dev nD) (t : Fin grid0.N) (k : Fin 2048) (d : Fin 512) :
    iblk m c 3 t (ix2 k d) = (m ((c : Thread nD τ).loc main_arg1) : S2048x6144.Idx → EReal) (ix2 k (wcol 2 (grid0.coords t 0) d)) := by
  unfold wcol
  blk_ext [iblk, V, idx_z t]

theorem slabs_eq (c : Dev nD) (t : Fin grid0.N) : slabs (iblk m c 1 t) (iblk m c 2 t) (iblk m c 3 t) = wSlabs (m ((c : Thread nD τ).loc main_arg1)) (grid0.coords t 0) := by
  funext y
  unfold slabs
  have h : (y 0 : ℕ) < 3 := (y 0).isLt
  by_cases h0 : (y 0 : ℕ) = 0
  · have e : y 0 = (0 : Fin 3) := Fin.ext h0
    rw [if_pos h0]
    refine (blk_a m c t (y 1) (y 2)).trans ?_
    unfold wSlabs
    rw [e]
  · rw [if_neg h0]
    by_cases h1 : (y 0 : ℕ) = 1
    · have e : y 0 = (1 : Fin 3) := Fin.ext h1
      rw [if_pos h1]
      refine (blk_b m c t (y 1) (y 2)).trans ?_
      unfold wSlabs
      rw [e]
    · have e : y 0 = (2 : Fin 3) := Fin.ext (by show (y 0 : ℕ) = 2; omega)
      rw [if_neg h1]
      refine (blk_z m c t (y 1) (y 2)).trans ?_
      unfold wSlabs
      rw [e]

/-- Every point finds, or keeps, the slabs of its own block of columns. -/
theorem kept (c : Dev nD) : ∀ (n : ℕ) (hn : n < cfg0.N), (outsAt0 m c n hn).2.2 = wSlabs (m ((c : Thread nD τ).loc main_arg1)) (grid0.coords ⟨n, hn⟩ 0) := by
  intro n
  induction n with
  | zero =>
    intro hn
    rw [outsAt0_A m c ⟨0, hn⟩ rfl]
    dsimp only
    rw [sout_first, slabs_eq]
  | succ n ih =>
    intro hn
    by_cases h0 : (n + 1) % 32 = 0
    · rw [outsAt0_A m c ⟨n + 1, hn⟩ h0]
      dsimp only
      rw [sout_first, slabs_eq]
    · rw [outsAt0_B m c ⟨n + 1, hn⟩ h0]
      unfold sout0_B_0
      refine (ih (Nat.lt_of_succ_lt hn)).trans (congrArg _ (Fin.ext ?_))
      rw [col_val, col_val]
      show n / 32 = (n + 1) / 32
      omega

theorem outs4 (c : Dev nD) (t : Fin cfg0.N) : (outsAt0 m c t.val t.isLt).1 = gluBlk (iblk m c 0 t) (wSlabs (m ((c : Thread nD τ).loc main_arg1)) (grid0.coords t 0)) := by
  by_cases h0 : t.val % 32 = 0
  · rw [outsAt0_A m c t h0]
    dsimp only
    rw [out_first4, slabs_eq]
  · have hk := kept m c t.val t.isLt
    rw [outsAt0_B m c t h0] at hk ⊢
    unfold sout0_B_0 at hk
    dsimp only at hk ⊢
    rw [out_later4, hk]
theorem outs5 (c : Dev nD) (t : Fin cfg0.N) : (outsAt0 m c t.val t.isLt).2.1 = siluBlk (iblk m c 0 t) (wSlabs (m ((c : Thread nD τ).loc main_arg1)) (grid0.coords t 0)) := by
  by_cases h0 : t.val % 32 = 0
  · rw [outsAt0_A m c t h0]
    dsimp only
    rw [out_first5, slabs_eq]
  · have hk := kept m c t.val t.isLt
    rw [outsAt0_B m c t h0] at hk ⊢
    unfold sout0_B_0 at hk
    dsimp only at hk ⊢
    rw [out_later5, hk]

/-! ## The arrays -/

/-- One of the three products of the long array with the wide one. -/
def prodAt (h : S16384x2048.Idx → EReal) (w : S2048x6144.Idx → EReal) (s : ℕ) (hs : s < 3) (r : Fin 16384) (x : Fin 2048) : EReal :=
  ∑ k : Fin 2048, h (ix2 r k) * w (ix2 k (⟨s * 2048 + x, by omega⟩ : Fin 6144))

/-- The gated linear unit. -/
def gluArr (h : S16384x2048.Idx → EReal) (w : S2048x6144.Idx → EReal) : S16384x2048.Idx → EReal := fun y =>
  prodAt h w 0 (by decide) (y 0) (y 1) * Ideal.logistic (prodAt h w 1 (by decide) (y 0) (y 1))

/-- The gate path. -/
def siluArr (h : S16384x2048.Idx → EReal) (w : S2048x6144.Idx → EReal) : S16384x2048.Idx → EReal := fun y =>
  prodAt h w 2 (by decide) (y 0) (y 1) * Ideal.logistic (prodAt h w 2 (by decide) (y 0) (y 1))

/-- The column of a result array that a block's column is. -/
def ocol (j : Fin 4) (d : Fin 512) : Fin 2048 := ⟨j * 512 + d, by omega⟩

theorem prodBlk_eq (c : Dev nD) (t : Fin grid0.N) (s : Fin 3) (r d : Fin 512) :
    prodBlk (iblk m c 0 t) (wSlabs (m ((c : Thread nD τ).loc main_arg1)) (grid0.coords t 0)) s r d
      = prodAt (m ((c : Thread nD τ).loc main_arg0)) (m ((c : Thread nD τ).loc main_arg1)) s s.isLt (hrow (grid0.coords t 1) r) (ocol (grid0.coords t 0) d) := by
  unfold prodBlk prodAt
  refine Finset.sum_congr rfl fun k _ => congrArg₂ (· * ·) (blk_h m c t r k) ?_
  unfold wSlabs
  exact congrArg (fun q => (m ((c : Thread nD τ).loc main_arg1) : S2048x6144.Idx → EReal) (ix2 k q)) (Fin.ext (Nat.add_assoc _ _ _))

theorem emb4 (t : Fin grid0.N) (y : S512x512.Idx) : (win0_4.blk t).view.emb y = (ix2 (hrow (grid0.coords t 1) (y 0)) (ocol (grid0.coords t 0) (y 1)) : S16384x2048.Idx) := by
  obtain ⟨h0, h1⟩ := idx_o4 t
  funext a
  apply Fin.ext
  match a with
  | 0 => unfold hrow; blk_simp [h0]
  | 1 => unfold ocol; blk_simp [h1]
theorem emb5 (t : Fin grid0.N) (y : S512x512.Idx) : (win0_5.blk t).view.emb y = (ix2 (hrow (grid0.coords t 1) (y 0)) (ocol (grid0.coords t 0) (y 1)) : S16384x2048.Idx) := by
  obtain ⟨h0, h1⟩ := idx_o5 t
  funext a
  apply Fin.ext
  match a with
  | 0 => unfold hrow; blk_simp [h0]
  | 1 => unfold ocol; blk_simp [h1]

theorem arr4_eq (c : Dev nD) : (dats m 0 c).arrAt 4 cfg0.N = gluArr (m ((c : Thread nD τ).loc main_arg0)) (m ((c : Thread nD τ).loc main_arg1)) := by
  refine (dats m 0 c).arrAt_eq_of_covers 4 _ (by decide +kernel) fun t _ y => ?_
  blk_simp
  rw [after0_4, outs4, emb4]
  exact congrArg₂ (fun a b => a * Ideal.logistic b) (prodBlk_eq m c t 0 (y 0) (y 1)) (prodBlk_eq m c t 1 (y 0) (y 1))
theorem arr5_eq (c : Dev nD) : (dats m 0 c).arrAt 5 cfg0.N = siluArr (m ((c : Thread nD τ).loc main_arg0)) (m ((c : Thread nD τ).loc main_arg1)) := by
  refine (dats m 0 c).arrAt_eq_of_covers 5 _ (by decide +kernel) fun t _ y => ?_
  blk_simp
  rw [after0_5, outs5, emb5]
  exact congrArg₂ (fun a b => a * Ideal.logistic b) (prodBlk_eq m c t 2 (y 0) (y 1)) (prodBlk_eq m c t 2 (y 0) (y 1))
end

end Cert.ConvInIdeal.Value
end
-- ==== Proof.ConvInRef.lean ====
module

public import proofs.«01_k».proof.Proof.ConvInArr
public import proofs.«01_k».proof.Proof.Gen.ConvInRefIdeal.Run

/-! The reference's two results of the conv layer's first projection. -/

@[expose] public section
set_option maxRecDepth 16384
noncomputable section
open Idealize.ShloMosaic Idealize.ShloMosaic.TcCoe Idealize.SL.Sem
namespace Cert.ConvInRefIdeal.Value
open Cert.ConvInRefIdeal Cert.ConvInRefIdeal.Gen
open Cert.ConvInIdeal.Value (prodAt gluArr siluArr)

/-- The product of the two argument arrays. -/
def prod (h : FVec Ideal S16384x2048 .bf16) (w : FVec Ideal S2048x6144 .f32) : FVec Ideal S16384x6144 .f32 :=
  Host.dotGeneral dot_S16384x2048_S2048x6144_S16384x6144_1_0_0_1_n_n none (extf .f32 h bitsLt_bf16_f32) w

theorem prod_at (h : FVec Ideal S16384x2048 .bf16) (w : FVec Ideal S2048x6144 .f32) (r : Fin 16384) (x : Fin 6144) :
    prod h w (ix2 r x) = ∑ k : Fin 2048, h (ix2 r k) * w (ix2 k x) := by
  pointwise [prod]

/-- The gated linear unit, of the product. -/
def glu (p : FVec Ideal S16384x6144 .f32) : FVec Ideal S16384x2048 .f32 :=
  mulf (extractStridedSlice S16384x2048 ![0, 0] p slices_S16384x6144_S16384x2048_0_0) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] p slices_S16384x6144_S16384x2048_0_2048)))))

/-- The gate path, of the product. -/
def silu (p : FVec Ideal S16384x6144 .f32) : FVec Ideal S16384x2048 .f32 :=
  mulf (extractStridedSlice S16384x2048 ![0, 4096] p slices_S16384x6144_S16384x2048_0_4096) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 4096] p slices_S16384x6144_S16384x2048_0_4096)))))

theorem glu_at (p : FVec Ideal S16384x6144 .f32) (r : Fin 16384) (x : Fin 2048) :
    glu p (ix2 r x) = p (ix2 r (⟨0 * 2048 + x, by omega⟩ : Fin 6144)) * Ideal.logistic (p (ix2 r (⟨1 * 2048 + x, by omega⟩ : Fin 6144))) := by
  pointwise [glu]
  rfl

theorem silu_at (p : FVec Ideal S16384x6144 .f32) (r : Fin 16384) (x : Fin 2048) :
    silu p (ix2 r x) = p (ix2 r (⟨2 * 2048 + x, by omega⟩ : Fin 6144)) * Ideal.logistic (p (ix2 r (⟨2 * 2048 + x, by omega⟩ : Fin 6144))) := by
  pointwise [silu]
  rfl

theorem glu_eq (h : FVec Ideal S16384x2048 .bf16) (w : FVec Ideal S2048x6144 .f32) : glu (prod h w) = gluArr h w := by
  funext y
  obtain ⟨r, x, rfl⟩ : ∃ (r : Fin 16384) (x : Fin 2048), y = ix2 r x := ⟨y 0, y 1, by funext a; fin_cases a <;> rfl⟩
  refine (glu_at _ r x).trans ?_
  rw [prod_at, prod_at]
  unfold gluArr prodAt
  rfl

theorem silu_eq (h : FVec Ideal S16384x2048 .bf16) (w : FVec Ideal S2048x6144 .f32) : silu (prod h w) = siluArr h w := by
  funext y
  obtain ⟨r, x, rfl⟩ : ∃ (r : Fin 16384) (x : Fin 2048), y = ix2 r x := ⟨y 0, y 1, by funext a; fin_cases a <;> rfl⟩
  refine (silu_at _ r x).trans ?_
  rw [prod_at]
  unfold siluArr prodAt
  rfl

end Cert.ConvInRefIdeal.Value
end
-- ==== Proof.ConvInClaims.lean ====
module

public import proofs.«01_k».proof.Defs
public import proofs.«01_k».proof.Proof.ConvInRef
public import proofs.«01_k».proof.Proof.Gen.ConvIn.Frame
public import Idealize.ShloMosaic.Lib.Quiescent

/-! The claims about the conv layer's first projection. -/

@[expose] public section
set_option maxRecDepth 16384
noncomputable section
open Idealize.ShloMosaic Idealize.ShloMosaic.TcCoe Idealize.SL.Sem
namespace Cert.Proof.ConvIn

theorem frame_p : Cert.quiescent_ConvIn := fun m ρ _ => Cert.ConvIn.Gen.frame m ρ
theorem frame_pi : Cert.quiescent_ConvInIdeal := fun m ρ _ => Cert.ConvInIdeal.Gen.frame m ρ
theorem frame_ri : Cert.quiescent_ConvInRefIdeal := fun m ρ _ =>
  (θ_run Cert.ConvInRefIdeal.defs _ _).mono (fun r h => ⟨fun c => (h c).2.2, sem_eq_zero_of_no_sems (by decide) r.2⟩)
    (Cert.ConvInRefIdeal.Value.run (F := Ideal) m ρ)

theorem preserves : Cert.preserves_ConvIn_ConvInIdeal := trivial

theorem algebraic : Cert.algebraic_ConvInIdeal_ConvInRefIdeal := by
  intro m ρ m' ρ' hpre hag
  refine ⟨_, _, Cert.ConvInIdeal.Value.run_blocks (F := Ideal) m ρ, ?_⟩
  refine (θ_run Cert.ConvInRefIdeal.defs _ _).mono (fun _ h c => ⟨(h c).1.trans ?_, (h c).2.1.trans ?_, (h c).2.2⟩) (Cert.ConvInRefIdeal.Value.run (F := Ideal) m' ρ')
  · rw [(hag c).1, (hag c).2]
    exact (Cert.ConvInRefIdeal.Value.glu_eq _ _).trans (Cert.ConvInIdeal.Value.arr4_eq m c).symm
  · rw [(hag c).1, (hag c).2]
    exact (Cert.ConvInRefIdeal.Value.silu_eq _ _).trans (Cert.ConvInIdeal.Value.arr5_eq m c).symm

end Cert.Proof.ConvIn
end
-- ==== Proof.ConvOutArr.lean ====
module
public import proofs.«01_k».proof.Proof.Gen.ConvOutIdeal.Value
public import Idealize.ShloMosaic.Lib.Pipeline.ValueKit
public import Idealize.ShloMosaic.Lib.Pipeline.ReadBack

/-! The output projection of the convolution module: what each grid point keeps of the weights and writes, and the result array. -/

@[expose] public section
set_option maxRecDepth 16384
noncomputable section
open Idealize.ShloMosaic Idealize.ShloMosaic.TcCoe Idealize.SL.Sem
open Idealize.ShloMosaic.Pipeline (Dat)
namespace Cert.ConvOutIdeal.Value
open Cert.ConvOutIdeal Cert.ConvOutIdeal.Gen

/-! ## What a point keeps and writes -/

theorem pay1_at (x : FVec Ideal S2048x1024 .f32) : k0_pay1 (F := Ideal) x = x := by
  funext y
  obtain ⟨k, d, rfl⟩ : ∃ (k : Fin 2048) (d : Fin 1024), y = ix2 k d := ⟨y 0, y 1, by funext a; fin_cases a <;> rfl⟩
  pointwise [k0_pay1]

theorem pay2_at (a : FVec Ideal S512x1024 .bf16) (wa : FVec Ideal S1024x1024 .bf16) (b : FVec Ideal S512x1024 .bf16) (wb : FVec Ideal S1024x1024 .bf16)
    (x : FVec Ideal S512x1024 .f32) (g : FVec Ideal S1x1x1024 .f32) (r : Fin 512) (d : Fin 1024) :
    k0_pay2 (F := Ideal) a wa b wb x g (ix2 r d) = x (ix2 r d) + g (ix3 0 0 d) * ((∑ k : Fin 1024, a (ix2 r k) * wa (ix2 k d)) + (∑ k : Fin 1024, b (ix2 r k) * wb (ix2 k d))) := by
  pointwise [k0_pay2]

/-- A row of the first or of the second half of the weights. -/
def half (s : Fin 2) (k : Fin 1024) : Fin 2048 := ⟨s * 1024 + k, by omega⟩

/-- A point's result block. -/
def outBlk (a b : S512x1024.Idx → EReal) (W : S2048x1024.Idx → EReal) (x : S512x1024.Idx → EReal) (g : S1x1x1024.Idx → EReal) : S512x1024.Idx → EReal := fun y =>
  x (ix2 (y 0) (y 1)) + g (ix3 0 0 (y 1)) * ((∑ k : Fin 1024, a (ix2 (y 0) k) * W (ix2 (half 0 k) (y 1))) + (∑ k : Fin 1024, b (ix2 (y 0) k) * W (ix2 (half 1 k) (y 1))))

theorem half_ld (s : Fin 2) (n : ℕ) (hn : n = s * 1024) (inb : ∀ a, (![n, 0] : Fin 2 → ℕ) a + S1024x1024.size a ≤ S2048x1024.size a) (W : S2048x1024.Idx → EReal) (k d : Fin 1024) :
    W ((Rect.unit (s := S2048x1024) ![n, 0] S1024x1024.size inb).toLoadRect.idx (ix2 k d)) = W (ix2 (half s k) d) := by
  refine congrArg W ?_
  funext a
  apply Fin.ext
  show ((Rect.unit (s := S2048x1024) ![n, 0] S1024x1024.size inb).idx (ix2 k d) a : ℕ) = _
  rw [Rect.idx_unit_val]
  match a with
  | 0 => show n + (k : ℕ) = s * 1024 + k; omega
  | 1 => show 0 + (d : ℕ) = d; omega

theorem whole_w (x : Vec Ideal S2048x1024 .f32) (inb : ∀ a, (![0, 0] : Fin 2 → ℕ) a + S2048x1024.size a ≤ S2048x1024.size a) :
    View.ld (Val := Elt Ideal) x (Rect.unit (s := S2048x1024) ![0, 0] S2048x1024.size inb) = x := by
  have h : (![0, 0] : Fin 2 → ℕ) = fun _ => 0 := by decide
  exact View.ld_unit_zero h inb x
theorem whole_y (x : Vec Ideal S512x1024 .bf16) (inb : ∀ a, (![0, 0] : Fin 2 → ℕ) a + S512x1024.size a ≤ S512x1024.size a) :
    View.ld (Val := Elt Ideal) x (Rect.unit (s := S512x1024) ![0, 0] S512x1024.size inb) = x := by
  have h : (![0, 0] : Fin 2 → ℕ) = fun _ => 0 := by decide
  exact View.ld_unit_zero h inb x
theorem whole_x (x : Vec Ideal S512x1024 .f32) (inb : ∀ a, (![0, 0] : Fin 2 → ℕ) a + S512x1024.size a ≤ S512x1024.size a) :
    View.ld (Val := Elt Ideal) x (Rect.unit (s := S512x1024) ![0, 0] S512x1024.size inb) = x := by
  have h : (![0, 0] : Fin 2 → ℕ) = fun _ => 0 := by decide
  exact View.ld_unit_zero h inb x
theorem whole_g (x : Vec Ideal S1x1x1024 .f32) (inb : ∀ a, (![0, 0, 0] : Fin 3 → ℕ) a + S1x1x1024.size a ≤ S1x1x1024.size a) :
    View.ld (Val := Elt Ideal) x (Rect.unit (s := S1x1x1024) ![0, 0, 0] S1x1x1024.size inb) = x := by
  have h : (![0, 0, 0] : Fin 3 → ℕ) = fun _ => 0 := by decide
  exact View.ld_unit_zero h inb x

/-- A block stored whole is what the result block holds. -/
theorem canon_whole (w G : S512x1024.Idx → EReal) (inb : ∀ a, (![0, 0] : Fin 2 → ℕ) a + S512x1024.size a ≤ S512x1024.size a)
    (h : ∀ (r : Fin 512) (d : Fin 1024), w (ix2 r d) = G (ix2 r d)) :
    View.canon (Val := Elt Ideal) (e := .f32) [⟨Rect.unit (s := S512x1024) ![0, 0] S512x1024.size inb, w⟩] = G := by
  refine (View.canon_cons_unit_lit (Val := Elt Ideal) (S := S512x1024) (e := .f32) inb w [] (by decide)).trans ?_
  funext y
  have e : y = (ix2 (y 0) (y 1) : S512x1024.Idx) := by
    funext a
    match a with
    | 0 => rfl
    | 1 => rfl
  rw [e]
  exact h (y 0) (y 1)

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2048x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S2048x1024 .bf16) (harg8 : arg8.IsWhole)
    (x0 x1 : Vec Ideal S512x1024 .bf16) (x2 : Vec Ideal S2048x1024 .f32) (x3 : Vec Ideal S512x1024 .f32) (x4 : Vec Ideal S1x1x1024 .f32) (xs0 : Vec Ideal S2048x1024 .bf16)

theorem canon_stored : View.canon (kernelRun0_A.sl.HS0_1 (F := Ideal) c arg4 harg4 x2) = x2 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (pay1_at _).trans (whole_w x2 _)

theorem sout_first (hc0 : cond0_0 i) : sout0_A_0 (F := Ideal) c i arg2 harg2 arg3 harg3 arg4 harg4 arg5 harg5 arg6 harg6 arg7 harg7 arg8 harg8 hc0 x0 x1 x2 x3 x4 = x2 := by
  have hcov := scover0_A_0 (F := Ideal) c i arg2 harg2 arg3 harg3 arg4 harg4 arg5 harg5 arg6 harg6 arg7 harg7 arg8 harg8 hc0 x0 x1 x2 x3 x4
  unfold sout0_A_0
  rw [View.read_writes_eq_canon _ _ _ hcov]
  unfold kernelRun0_A
  exact canon_stored c arg4 harg4 x2

theorem out_first (hc0 : cond0_0 i) : out0_A_5 (F := Ideal) c i arg2 harg2 arg3 harg3 arg4 harg4 arg5 harg5 arg6 harg6 arg7 harg7 arg8 harg8 hc0 x0 x1 x2 x3 x4 = outBlk x0 x1 x2 x3 x4 := by
  unfold out0_A_5
  rw [View.read_writes_eq_canon _ _ _ (fun y => cover0_A_5 c i arg2 harg2 arg3 harg3 arg4 harg4 arg5 harg5 arg6 harg6 arg7 harg7 arg8 harg8 hc0 x0 x1 x2 x3 x4 y)]
  unfold kernelRun0_A
  dsimp only
  refine canon_whole _ _ inb_S512x1024_S512x1024_0_0 (fun r d => ?_)
  unfold kernelRun0_A.sl.v4 kernelRun0_A.sl.v7
  rw [View.readCov_eq_canon', View.readCov_eq_canon', canon_stored]
  simp (disch := decide) only [View.readAt_eq_ld, Memref.IsWhole.read_unread]
  rw [pay2_at, whole_y, whole_y, whole_x, whole_g]
  refine congrArg (fun q => x3 (ix2 r d) + x4 (ix3 0 0 d) * q) (congrArg₂ (· + ·) (Finset.sum_congr rfl fun k _ => congrArg _ ?_) (Finset.sum_congr rfl fun k _ => congrArg _ ?_))
  · exact half_ld 0 0 rfl inb_S2048x1024_S1024x1024_0_0 x2 k d
  · exact half_ld 1 1024 rfl inb_S2048x1024_S1024x1024_1024_0 x2 k d

theorem out_later (hc0 : ¬cond0_0 i) : out0_B_5 (F := Ideal) c i arg2 harg2 arg3 harg3 arg4 harg4 arg5 harg5 arg6 harg6 arg7 harg7 arg8 harg8 hc0 x0 x1 x2 x3 x4 xs0 = outBlk x0 x1 xs0 x3 x4 := by
  unfold out0_B_5
  rw [View.read_writes_eq_canon _ _ _ (fun y => cover0_B_5 c i arg2 harg2 arg3 harg3 arg4 harg4 arg5 harg5 arg6 harg6 arg7 harg7 arg8 harg8 hc0 x0 x1 x2 x3 x4 xs0 y)]
  unfold kernelRun0_B
  dsimp only
  refine canon_whole _ _ inb_S512x1024_S512x1024_0_0 (fun r d => ?_)
  simp (disch := decide) only [View.readAt_eq_ld, Memref.IsWhole.read_unread]
  rw [pay2_at, whole_y, whole_y, whole_x, whole_g]
  refine congrArg (fun q => x3 (ix2 r d) + x4 (ix3 0 0 d) * q) (congrArg₂ (· + ·) (Finset.sum_congr rfl fun k _ => congrArg _ ?_) (Finset.sum_congr rfl fun k _ => congrArg _ ?_))
  · exact half_ld 0 0 rfl inb_S2048x1024_S1024x1024_0_0 xs0 k d
  · exact half_ld 1 1024 rfl inb_S2048x1024_S1024x1024_1024_0 xs0 k d

/-! ## A point's input blocks -/

section
variable (m : (ℓ : Loc nD τ sig) → Buf (Elt Ideal) ℓ)

theorem idx_a : ∀ t : Fin grid0.N, win0_0.index t 0 = (grid0.coords t 1 : ℕ) ∧ win0_0.index t 1 = 0 := by decide +kernel
theorem idx_b : ∀ t : Fin grid0.N, win0_1.index t 0 = (grid0.coords t 1 : ℕ) ∧ win0_1.index t 1 = 1 := by decide +kernel
theorem idx_w : ∀ t : Fin grid0.N, win0_2.index t 0 = 0 ∧ win0_2.index t 1 = (grid0.coords t 0 : ℕ) := by decide +kernel
theorem idx_x : ∀ t : Fin grid0.N, win0_3.index t 0 = (grid0.coords t 1 : ℕ) ∧ win0_3.index t 1 = (grid0.coords t 0 : ℕ) := by decide +kernel
theorem idx_g : ∀ t : Fin grid0.N, win0_4.index t 0 = (grid0.coords t 1 : ℕ) / 4 * 3 + 2 ∧ win0_4.index t 1 = 0 ∧ win0_4.index t 2 = (grid0.coords t 0 : ℕ) := by decide +kernel
theorem idx_o : ∀ t : Fin grid0.N, win0_5.index t 0 = (grid0.coords t 1 : ℕ) ∧ win0_5.index t 1 = (grid0.coords t 0 : ℕ) := by decide +kernel
theorem col_val : ∀ t : Fin grid0.N, (grid0.coords t 0 : ℕ) = (t : ℕ) / 32 := by decide +kernel

/-- The column of an array that a block's column is. -/
def ocol (j : Fin 2) (d : Fin 1024) : Fin 2048 := ⟨j * 1024 + d, by omega⟩

/-- The row of an array that a block's row is. -/
def orow (i : Fin 32) (r : Fin 512) : Fin 16384 := ⟨i * 512 + r, by omega⟩

/-- The gate's row for a row of the result. -/
def gateRow (r : Fin 16384) : Fin 24 := ⟨r / 2048 * 3 + 2, by omega⟩

/-- A block of columns of the weights. -/
def wCols (w : S2048x2048.Idx → EReal) (j : Fin 2) : S2048x1024.Idx → EReal := fun y => w (ix2 (y 0) (ocol j (y 1)))

theorem blk_a (c : Dev nD) (t : Fin grid0.N) (r : Fin 512) (k : Fin 1024) :
    iblk m c 0 t (ix2 r k) = (m ((c : Thread nD τ).loc main_arg0) : S16384x2048.Idx → EReal) (ix2 (orow (grid0.coords t 1) r) (half 0 k)) := by
  unfold orow half
  blk_ext [iblk, V, idx_a t]
theorem blk_b (c : Dev nD) (t : Fin grid0.N) (r : Fin 512) (k : Fin 1024) :
    iblk m c 1 t (ix2 r k) = (m ((c : Thread nD τ).loc main_arg0) : S16384x2048.Idx → EReal) (ix2 (orow (grid0.coords t 1) r) (half 1 k)) := by
  unfold orow half
  blk_ext [iblk, V, idx_b t]
theorem blk_w (c : Dev nD) (t : Fin grid0.N) : iblk m c 2 t = wCols (m ((c : Thread nD τ).loc main_arg1)) (grid0.coords t 0) := by
  funext y
  unfold wCols ocol
  blk_ext [iblk, V, idx_w t]
theorem blk_x (c : Dev nD) (t : Fin grid0.N) (r : Fin 512) (d : Fin 1024) :
    iblk m c 3 t (ix2 r d) = (m ((c : Thread nD τ).loc main_arg2) : S16384x2048.Idx → EReal) (ix2 (orow (grid0.coords t 1) r) (ocol (grid0.coords t 0) d)) := by
  unfold orow ocol
  blk_ext [iblk, V, idx_x t]
theorem blk_g (c : Dev nD) (t : Fin grid0.N) (r : Fin 512) (d : Fin 1024) :
    iblk m c 4 t (ix3 0 0 d) = (m ((c : Thread nD τ).loc main_arg3) : S24x1x2048.Idx → EReal) (ix3 (gateRow (orow (grid0.coords t 1) r)) 0 (ocol (grid0.coords t 0) d)) := by
  have h : gateRow (orow (grid0.coords t 1) r) = (⟨(grid0.coords t 1 : ℕ) / 4 * 3 + 2, by have := (grid0.coords t 1).isLt; have h : (grid0.coords t 1 : ℕ) < 32 := this; omega⟩ : Fin 24) := by
    apply Fin.ext
    have h1 : (r : ℕ) < 512 := r.isLt
    show ((grid0.coords t 1 : ℕ) * 512 + r) / 2048 * 3 + 2 = (grid0.coords t 1 : ℕ) / 4 * 3 + 2
    omega
  rw [h]
  unfold ocol
  blk_ext [iblk, V, idx_g t]

/-- Every point finds, or keeps, its own block of columns of the weights. -/
theorem kept (c : Dev nD) : ∀ (n : ℕ) (hn : n < cfg0.N), (outsAt0 m c n hn).2 = wCols (m ((c : Thread nD τ).loc main_arg1)) (grid0.coords ⟨n, hn⟩ 0) := by
  intro n
  induction n with
  | zero =>
    intro hn
    rw [outsAt0_A m c ⟨0, hn⟩ rfl]
    dsimp only
    rw [sout_first, blk_w]
  | succ n ih =>
    intro hn
    by_cases h0 : (n + 1) % 32 = 0
    · rw [outsAt0_A m c ⟨n + 1, hn⟩ h0]
      dsimp only
      rw [sout_first, blk_w]
    · rw [outsAt0_B m c ⟨n + 1, hn⟩ h0]
      unfold sout0_B_0
      refine (ih (Nat.lt_of_succ_lt hn)).trans (congrArg _ (Fin.ext ?_))
      rw [col_val, col_val]
      show n / 32 = (n + 1) / 32
      omega

theorem outs5 (c : Dev nD) (t : Fin cfg0.N) : (outsAt0 m c t.val t.isLt).1 = outBlk (iblk m c 0 t) (iblk m c 1 t) (wCols (m ((c : Thread nD τ).loc main_arg1)) (grid0.coords t 0)) (iblk m c 3 t) (iblk m c 4 t) := by
  by_cases h0 : t.val % 32 = 0
  · rw [outsAt0_A m c t h0]
    dsimp only
    rw [out_first, blk_w]
  · have hk := kept m c t.val t.isLt
    rw [outsAt0_B m c t h0] at hk ⊢
    unfold sout0_B_0 at hk
    dsimp only at hk ⊢
    rw [out_later, hk]

/-! ## The array -/

/-- The residual plus the gated projection. -/
def outArr (y : S16384x2048.Idx → EReal) (w : S2048x2048.Idx → EReal) (x : S16384x2048.Idx → EReal) (g : S24x1x2048.Idx → EReal) : S16384x2048.Idx → EReal := fun j =>
  x (ix2 (j 0) (j 1)) + g (ix3 (gateRow (j 0)) 0 (j 1)) * ∑ k : Fin 2048, y (ix2 (j 0) k) * w (ix2 k (j 1))

theorem sum_halves {a n : ℕ} (h : a + a = n) (f : Fin n → EReal) :
    ∑ k : Fin n, f k = (∑ k : Fin a, f ⟨k, by omega⟩) + ∑ k : Fin a, f ⟨a + k, by omega⟩ := by
  subst h
  exact Fin.sum_univ_add f

theorem sum_half (f : Fin 2048 → EReal) : (∑ k : Fin 1024, f (half 0 k)) + (∑ k : Fin 1024, f (half 1 k)) = ∑ k : Fin 2048, f k := by
  refine Eq.trans (congrArg₂ (· + ·) (Finset.sum_congr rfl fun k _ => congrArg f (Fin.ext ?_)) (Finset.sum_congr rfl fun k _ => congrArg f (Fin.ext ?_))) (sum_halves (a := 1024) rfl f).symm
  · show 0 * 1024 + (k : ℕ) = k
    omega
  · show 1 * 1024 + (k : ℕ) = 1024 + k
    omega

theorem emb5 (t : Fin grid0.N) (y : S512x1024.Idx) : (win0_5.blk t).view.emb y = (ix2 (orow (grid0.coords t 1) (y 0)) (ocol (grid0.coords t 0) (y 1)) : S16384x2048.Idx) := by
  obtain ⟨h0, h1⟩ := idx_o t
  funext a
  apply Fin.ext
  match a with
  | 0 => unfold orow; blk_simp [h0]
  | 1 => unfold ocol; blk_simp [h1]

theorem arr5_eq (c : Dev nD) : (dats m 0 c).arrAt 5 cfg0.N
    = outArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, outs5, emb5]
  unfold outBlk outArr
  refine congrArg₂ (· + ·) (blk_x m c t (y 0) (y 1)) (congrArg₂ (· * ·) (blk_g m c t (y 0) (y 1)) (Eq.trans ?_ (sum_half _)))
  refine congrArg₂ (· + ·) (Finset.sum_congr rfl fun k _ => congrArg₂ (· * ·) (blk_a m c t (y 0) k) ?_) (Finset.sum_congr rfl fun k _ => congrArg₂ (· * ·) (blk_b m c t (y 0) k) ?_)
  · rfl
  · rfl
end

end Cert.ConvOutIdeal.Value
end
-- ==== Proof.ConvOutRef.lean ====
module

public import proofs.«01_k».proof.Proof.ConvOutArr
public import proofs.«01_k».proof.Proof.Gen.ConvOutRefIdeal.Run

/-! The reference's result of the convolution module's output projection. -/

@[expose] public section
set_option maxRecDepth 16384
noncomputable section
open Idealize.ShloMosaic Idealize.ShloMosaic.TcCoe Idealize.SL.Sem
namespace Cert.ConvOutRefIdeal.Value
open Cert.ConvOutRefIdeal Cert.ConvOutRefIdeal.Gen
open Cert.ConvOutIdeal.Value (gateRow outArr)

/-- The product of the two argument arrays. -/
def prod (h : FVec Ideal S16384x2048 .bf16) (w : FVec Ideal S2048x2048 .f32) : FVec Ideal S16384x2048 .f32 :=
  Host.dotGeneral dot_S16384x2048_S2048x2048_S16384x2048_1_0_0_1_n_n none (extf .f32 h bitsLt_bf16_f32) w

theorem prod_at (h : FVec Ideal S16384x2048 .bf16) (w : FVec Ideal S2048x2048 .f32) (r : Fin 16384) (x : Fin 2048) :
    prod h w (ix2 r x) = ∑ k : Fin 2048, h (ix2 r k) * w (ix2 k x) := by
  pointwise [prod]

/-- The gates of a batch entry. -/
def gates (g : FVec Ideal S24x1x2048 .f32) : FVec Ideal S8x1x2048 .f32 :=
  extractStridedSlice S8x1x2048 ![0, 2, 0] (shapeCast _ g shapeCasts_S24x1x2048_S8x3x2048) slices_S8x3x2048_S8x1x2048_0_2_0

theorem gates_at (g : FVec Ideal S24x1x2048 .f32) (b : Fin 8) (x : Fin 2048) : gates g (ix3 b 0 x) = g (ix3 (⟨b * 3 + 2, by omega⟩ : Fin 24) 0 x) := by
  pointwise [gates]

/-- The residual plus the gated product. -/
def out (x p : FVec Ideal S16384x2048 .f32) (g : FVec Ideal S8x1x2048 .f32) : FVec Ideal S16384x2048 .f32 :=
  shapeCast _ (addf (shapeCast _ x shapeCasts_S16384x2048_S8x2048x2048) (mulf (broadcastInDim S8x2048x2048 ![0, 1, 2] bcast_S8x1x2048_S8x2048x2048_0_1_2 g) (shapeCast _ p shapeCasts_S16384x2048_S8x2048x2048))) shapeCasts_S8x2048x2048_S16384x2048

theorem out_at (x p : FVec Ideal S16384x2048 .f32) (g : FVec Ideal S8x1x2048 .f32) (r : Fin 16384) (c : Fin 2048) :
    out x p g (ix2 r c) = x (ix2 r c) + g (ix3 (⟨r / 2048, by omega⟩ : Fin 8) 0 c) * p (ix2 r c) := by
  pointwise [out]

theorem out_eq (y : FVec Ideal S16384x2048 .bf16) (w : FVec Ideal S2048x2048 .f32) (x : FVec Ideal S16384x2048 .f32) (g : FVec Ideal S24x1x2048 .f32) :
    out x (prod y w) (gates g) = outArr y w x g := by
  funext j
  obtain ⟨r, c, rfl⟩ : ∃ (r : Fin 16384) (c : Fin 2048), j = ix2 r c := ⟨j 0, j 1, by funext a; fin_cases a <;> rfl⟩
  refine (out_at _ _ _ r c).trans ?_
  rw [prod_at, gates_at]
  unfold outArr gateRow
  rfl

end Cert.ConvOutRefIdeal.Value
end
-- ==== Proof.ConvOutClaims.lean ====
module

public import proofs.«01_k».proof.Defs
public import proofs.«01_k».proof.Proof.ConvOutRef
public import proofs.«01_k».proof.Proof.Gen.ConvOut.Frame
public import Idealize.ShloMosaic.Lib.Quiescent

/-! The claims about the convolution module's output projection. -/

@[expose] public section
set_option maxRecDepth 16384
noncomputable section
open Idealize.ShloMosaic Idealize.ShloMosaic.TcCoe Idealize.SL.Sem
namespace Cert.Proof.ConvOut

theorem frame_p : Cert.quiescent_ConvOut := fun m ρ _ => Cert.ConvOut.Gen.frame m ρ
theorem frame_pi : Cert.quiescent_ConvOutIdeal := fun m ρ _ => Cert.ConvOutIdeal.Gen.frame m ρ
theorem frame_ri : Cert.quiescent_ConvOutRefIdeal := fun m ρ _ =>
  (θ_run Cert.ConvOutRefIdeal.defs _ _).mono (fun r h => ⟨fun c => (h c).2, sem_eq_zero_of_no_sems (by decide) r.2⟩)
    (Cert.ConvOutRefIdeal.Value.run (F := Ideal) m ρ)

theorem preserves : Cert.preserves_ConvOut_ConvOutIdeal := trivial

theorem algebraic : Cert.algebraic_ConvOutIdeal_ConvOutRefIdeal := by
  intro m ρ m' ρ' hpre hag
  refine ⟨_, Cert.ConvOutIdeal.Value.run_blocks (F := Ideal) m ρ, ?_⟩
  refine (θ_run Cert.ConvOutRefIdeal.defs _ _).mono (fun _ h c => ⟨(h c).1.trans ?_, (h c).2⟩) (Cert.ConvOutRefIdeal.Value.run (F := Ideal) m' ρ')
  rw [(hag c).1, (hag c).2.1, (hag c).2.2.1, (hag c).2.2.2]
  exact (Cert.ConvOutRefIdeal.Value.out_eq _ _ _ _).trans (Cert.ConvOutIdeal.Value.arr5_eq m c).symm

end Cert.Proof.ConvOut
end
-- ==== Proof.AbOutArr.lean ====
module
public import proofs.«01_k».proof.Proof.ConvOutArr
public import proofs.«01_k».proof.Proof.Gen.AbOutIdeal.Value
public import Idealize.ShloMosaic.Lib.Pipeline.ValueKit
public import Idealize.ShloMosaic.Lib.Pipeline.ReadBack

/-! The output projection of the attention block: what each grid point keeps of the weights and writes, and the result array. -/

@[expose] public section
set_option maxRecDepth 16384
noncomputable section
open Idealize.ShloMosaic Idealize.ShloMosaic.TcCoe Idealize.SL.Sem
open Idealize.ShloMosaic.Pipeline (Dat)
namespace Cert.AbOutIdeal.Value
open Cert.AbOutIdeal Cert.AbOutIdeal.Gen

/-! ## What a point keeps and writes -/

theorem pay1_at (x : FVec Ideal S2048x1024 .f32) : k0_pay1 (F := Ideal) x = x := by
  funext y
  obtain ⟨k, d, rfl⟩ : ∃ (k : Fin 2048) (d : Fin 1024), y = ix2 k d := ⟨y 0, y 1, by funext a; fin_cases a <;> rfl⟩
  pointwise [k0_pay1]

theorem pay2_at (a : FVec Ideal S512x1024 .bf16) (wa : FVec Ideal S1024x1024 .bf16) (b : FVec Ideal S512x1024 .bf16) (wb : FVec Ideal S1024x1024 .bf16)
    (x : FVec Ideal S512x1024 .f32) (g : FVec Ideal S1x1x1024 .f32) (r : Fin 512) (d : Fin 1024) :
    k0_pay2 (F := Ideal) a wa b wb x g (ix2 r d) = x (ix2 r d) + g (ix3 0 0 d) * ((∑ k : Fin 1024, a (ix2 r k) * wa (ix2 k d)) + (∑ k : Fin 1024, b (ix2 r k) * wb (ix2 k d))) := by
  pointwise [k0_pay2]

open Cert.ConvOutIdeal.Value (half gateRow outBlk half_ld whole_w whole_y whole_x whole_g canon_whole ocol orow wCols)

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S2048x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S2048x1024 .bf16) (harg8 : arg8.IsWhole)
    (x0 x1 : Vec Ideal S512x1024 .bf16) (x2 : Vec Ideal S2048x1024 .f32) (x3 : Vec Ideal S512x1024 .f32) (x4 : Vec Ideal S1x1x1024 .f32) (xs0 : Vec Ideal S2048x1024 .bf16)

theorem canon_stored : View.canon (kernelRun0_A.sl.HS0_1 (F := Ideal) c arg4 harg4 x2) = x2 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (pay1_at _).trans (whole_w x2 _)

theorem sout_first (hc0 : cond0_0 i) : sout0_A_0 (F := Ideal) c i arg2 harg2 arg3 harg3 arg4 harg4 arg5 harg5 arg6 harg6 arg7 harg7 arg8 harg8 hc0 x0 x1 x2 x3 x4 = x2 := by
  have hcov := scover0_A_0 (F := Ideal) c i arg2 harg2 arg3 harg3 arg4 harg4 arg5 harg5 arg6 harg6 arg7 harg7 arg8 harg8 hc0 x0 x1 x2 x3 x4
  unfold sout0_A_0
  rw [View.read_writes_eq_canon _ _ _ hcov]
  unfold kernelRun0_A
  exact canon_stored c arg4 harg4 x2

theorem out_first (hc0 : cond0_0 i) : out0_A_5 (F := Ideal) c i arg2 harg2 arg3 harg3 arg4 harg4 arg5 harg5 arg6 harg6 arg7 harg7 arg8 harg8 hc0 x0 x1 x2 x3 x4 = outBlk x0 x1 x2 x3 x4 := by
  unfold out0_A_5
  rw [View.read_writes_eq_canon _ _ _ (fun y => cover0_A_5 c i arg2 harg2 arg3 harg3 arg4 harg4 arg5 harg5 arg6 harg6 arg7 harg7 arg8 harg8 hc0 x0 x1 x2 x3 x4 y)]
  unfold kernelRun0_A
  dsimp only
  refine canon_whole _ _ inb_S512x1024_S512x1024_0_0 (fun r d => ?_)
  unfold kernelRun0_A.sl.v4 kernelRun0_A.sl.v7
  rw [View.readCov_eq_canon', View.readCov_eq_canon', canon_stored]
  simp (disch := decide) only [View.readAt_eq_ld, Memref.IsWhole.read_unread]
  rw [pay2_at, whole_y, whole_y, whole_x, whole_g]
  refine congrArg (fun q => x3 (ix2 r d) + x4 (ix3 0 0 d) * q) (congrArg₂ (· + ·) (Finset.sum_congr rfl fun k _ => congrArg _ ?_) (Finset.sum_congr rfl fun k _ => congrArg _ ?_))
  · exact half_ld 0 0 rfl inb_S2048x1024_S1024x1024_0_0 x2 k d
  · exact half_ld 1 1024 rfl inb_S2048x1024_S1024x1024_1024_0 x2 k d

theorem out_later (hc0 : ¬cond0_0 i) : out0_B_5 (F := Ideal) c i arg2 harg2 arg3 harg3 arg4 harg4 arg5 harg5 arg6 harg6 arg7 harg7 arg8 harg8 hc0 x0 x1 x2 x3 x4 xs0 = outBlk x0 x1 xs0 x3 x4 := by
  unfold out0_B_5
  rw [View.read_writes_eq_canon _ _ _ (fun y => cover0_B_5 c i arg2 harg2 arg3 harg3 arg4 harg4 arg5 harg5 arg6 harg6 arg7 harg7 arg8 harg8 hc0 x0 x1 x2 x3 x4 xs0 y)]
  unfold kernelRun0_B
  dsimp only
  refine canon_whole _ _ inb_S512x1024_S512x1024_0_0 (fun r d => ?_)
  simp (disch := decide) only [View.readAt_eq_ld, Memref.IsWhole.read_unread]
  rw [pay2_at, whole_y, whole_y, whole_x, whole_g]
  refine congrArg (fun q => x3 (ix2 r d) + x4 (ix3 0 0 d) * q) (congrArg₂ (· + ·) (Finset.sum_congr rfl fun k _ => congrArg _ ?_) (Finset.sum_congr rfl fun k _ => congrArg _ ?_))
  · exact half_ld 0 0 rfl inb_S2048x1024_S1024x1024_0_0 xs0 k d
  · exact half_ld 1 1024 rfl inb_S2048x1024_S1024x1024_1024_0 xs0 k d

/-! ## A point's input blocks -/

section
variable (m : (ℓ : Loc nD τ sig) → Buf (Elt Ideal) ℓ)

theorem idx_a : ∀ t : Fin grid0.N, win0_0.index t 0 = (grid0.coords t 1 : ℕ) ∧ win0_0.index t 1 = 0 := by decide +kernel
theorem idx_b : ∀ t : Fin grid0.N, win0_1.index t 0 = (grid0.coords t 1 : ℕ) ∧ win0_1.index t 1 = 0 := by decide +kernel
theorem idx_w : ∀ t : Fin grid0.N, win0_2.index t 0 = 0 ∧ win0_2.index t 1 = (grid0.coords t 0 : ℕ) := by decide +kernel
theorem idx_x : ∀ t : Fin grid0.N, win0_3.index t 0 = (grid0.coords t 1 : ℕ) ∧ win0_3.index t 1 = (grid0.coords t 0 : ℕ) := by decide +kernel
theorem idx_g : ∀ t : Fin grid0.N, win0_4.index t 0 = (grid0.coords t 1 : ℕ) / 4 * 3 + 2 ∧ win0_4.index t 1 = 0 ∧ win0_4.index t 2 = (grid0.coords t 0 : ℕ) := by decide +kernel
theorem idx_o : ∀ t : Fin grid0.N, win0_5.index t 0 = (grid0.coords t 1 : ℕ) ∧ win0_5.index t 1 = (grid0.coords t 0 : ℕ) := by decide +kernel
theorem col_val : ∀ t : Fin grid0.N, (grid0.coords t 0 : ℕ) = (t : ℕ) / 32 := by decide +kernel

theorem blk_a (c : Dev nD) (t : Fin grid0.N) (r : Fin 512) (k : Fin 1024) :
    iblk m c 0 t (ix2 r k) = (m ((c : Thread nD τ).loc main_arg0) : S16384x1024.Idx → EReal) (ix2 (orow (grid0.coords t 1) r) k) := by
  unfold orow
  blk_ext [iblk, V, idx_a t]
theorem blk_b (c : Dev nD) (t : Fin grid0.N) (r : Fin 512) (k : Fin 1024) :
    iblk m c 1 t (ix2 r k) = (m ((c : Thread nD τ).loc main_arg1) : S16384x1024.Idx → EReal) (ix2 (orow (grid0.coords t 1) r) k) := by
  unfold orow
  blk_ext [iblk, V, idx_b t]
theorem blk_w (c : Dev nD) (t : Fin grid0.N) : iblk m c 2 t = wCols (m ((c : Thread nD τ).loc main_arg2)) (grid0.coords t 0) := by
  funext y
  unfold wCols ocol
  blk_ext [iblk, V, idx_w t]
theorem blk_x (c : Dev nD) (t : Fin grid0.N) (r : Fin 512) (d : Fin 1024) :
    iblk m c 3 t (ix2 r d) = (m ((c : Thread nD τ).loc main_arg3) : S16384x2048.Idx → EReal) (ix2 (orow (grid0.coords t 1) r) (ocol (grid0.coords t 0) d)) := by
  unfold orow ocol
  blk_ext [iblk, V, idx_x t]
theorem blk_g (c : Dev nD) (t : Fin grid0.N) (r : Fin 512) (d : Fin 1024) :
    iblk m c 4 t (ix3 0 0 d) = (m ((c : Thread nD τ).loc main_arg4) : S24x1x2048.Idx → EReal) (ix3 (gateRow (orow (grid0.coords t 1) r)) 0 (ocol (grid0.coords t 0) d)) := by
  have h : gateRow (orow (grid0.coords t 1) r) = (⟨(grid0.coords t 1 : ℕ) / 4 * 3 + 2, by have := (grid0.coords t 1).isLt; have h : (grid0.coords t 1 : ℕ) < 32 := this; omega⟩ : Fin 24) := by
    apply Fin.ext
    have h1 : (r : ℕ) < 512 := r.isLt
    show ((grid0.coords t 1 : ℕ) * 512 + r) / 2048 * 3 + 2 = (grid0.coords t 1 : ℕ) / 4 * 3 + 2
    omega
  rw [h]
  unfold ocol
  blk_ext [iblk, V, idx_g t]

/-- Every point finds, or keeps, its own block of columns of the weights. -/
theorem kept (c : Dev nD) : ∀ (n : ℕ) (hn : n < cfg0.N), (outsAt0 m c n hn).2 = wCols (m ((c : Thread nD τ).loc main_arg2)) (grid0.coords ⟨n, hn⟩ 0) := by
  intro n
  induction n with
  | zero =>
    intro hn
    rw [outsAt0_A m c ⟨0, hn⟩ rfl]
    dsimp only
    rw [sout_first, blk_w]
  | succ n ih =>
    intro hn
    by_cases h0 : (n + 1) % 32 = 0
    · rw [outsAt0_A m c ⟨n + 1, hn⟩ h0]
      dsimp only
      rw [sout_first, blk_w]
    · rw [outsAt0_B m c ⟨n + 1, hn⟩ h0]
      unfold sout0_B_0
      refine (ih (Nat.lt_of_succ_lt hn)).trans (congrArg _ (Fin.ext ?_))
      rw [col_val, col_val]
      show n / 32 = (n + 1) / 32
      omega

theorem outs5 (c : Dev nD) (t : Fin cfg0.N) : (outsAt0 m c t.val t.isLt).1 = outBlk (iblk m c 0 t) (iblk m c 1 t) (wCols (m ((c : Thread nD τ).loc main_arg2)) (grid0.coords t 0)) (iblk m c 3 t) (iblk m c 4 t) := by
  by_cases h0 : t.val % 32 = 0
  · rw [outsAt0_A m c t h0]
    dsimp only
    rw [out_first, blk_w]
  · have hk := kept m c t.val t.isLt
    rw [outsAt0_B m c t h0] at hk ⊢
    unfold sout0_B_0 at hk
    dsimp only at hk ⊢
    rw [out_later, hk]

/-! ## The array -/

/-- The residual plus the gated projection. -/
def outArr (a b : S16384x1024.Idx → EReal) (w : S2048x2048.Idx → EReal) (x : S16384x2048.Idx → EReal) (g : S24x1x2048.Idx → EReal) : S16384x2048.Idx → EReal := fun j =>
  x (ix2 (j 0) (j 1)) + g (ix3 (gateRow (j 0)) 0 (j 1)) * ((∑ k : Fin 1024, a (ix2 (j 0) k) * w (ix2 (half 0 k) (j 1))) + ∑ k : Fin 1024, b (ix2 (j 0) k) * w (ix2 (half 1 k) (j 1)))

theorem emb5 (t : Fin grid0.N) (y : S512x1024.Idx) : (win0_5.blk t).view.emb y = (ix2 (orow (grid0.coords t 1) (y 0)) (ocol (grid0.coords t 0) (y 1)) : S16384x2048.Idx) := by
  obtain ⟨h0, h1⟩ := idx_o t
  funext a
  apply Fin.ext
  match a with
  | 0 => unfold orow; blk_simp [h0]
  | 1 => unfold ocol; blk_simp [h1]

theorem arr5_eq (c : Dev nD) : (dats m 0 c).arrAt 5 cfg0.N
    = outArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, outs5, emb5]
  unfold outBlk outArr
  refine congrArg₂ (· + ·) (blk_x m c t (y 0) (y 1)) (congrArg₂ (· * ·) (blk_g m c t (y 0) (y 1)) ?_)
  refine congrArg₂ (· + ·) (Finset.sum_congr rfl fun k _ => congrArg₂ (· * ·) (blk_a m c t (y 0) k) ?_) (Finset.sum_congr rfl fun k _ => congrArg₂ (· * ·) (blk_b m c t (y 0) k) ?_)
  · rfl
  · rfl
end

end Cert.AbOutIdeal.Value
end
-- ==== Proof.AbOutRef.lean ====
module

public import proofs.«01_k».proof.Proof.AbOutArr
public import proofs.«01_k».proof.Proof.ConvOutRef
public import proofs.«01_k».proof.Proof.Gen.AbOutRefIdeal.Run

/-! The reference's result of the attention block's output projection. -/

@[expose] public section
set_option maxRecDepth 16384
noncomputable section
open Idealize.ShloMosaic Idealize.ShloMosaic.TcCoe Idealize.SL.Sem
namespace Cert.AbOutRefIdeal.Value
open Cert.AbOutRefIdeal Cert.AbOutRefIdeal.Gen
open Cert.ConvOutIdeal.Value (half gateRow sum_half)
open Cert.ConvOutRefIdeal.Value (gates gates_at out out_at)
open Cert.AbOutIdeal.Value (outArr)

/-- The two halves side by side. -/
def both (a b : FVec Ideal S16384x1024 .bf16) : FVec Ideal S16384x2048 .f32 :=
  concatenate S16384x2048 1 [⟨S16384x1024, (extf .f32 a bitsLt_bf16_f32)⟩, ⟨S16384x1024, (extf .f32 b bitsLt_bf16_f32)⟩] concatenates_S16384x1024_S16384x1024_S16384x2048_d1

theorem both_left (a b : FVec Ideal S16384x1024 .bf16) (r : Fin 16384) (k : Fin 1024) : both a b (ix2 r (half 0 k)) = a (ix2 r k) := by
  unfold half
  pointwise [both]

theorem both_right (a b : FVec Ideal S16384x1024 .bf16) (r : Fin 16384) (k : Fin 1024) : both a b (ix2 r (half 1 k)) = b (ix2 r k) := by
  unfold half
  pointwise [both]

/-- The product of the two halves with the weights. -/
def prod (y : FVec Ideal S16384x2048 .f32) (w : FVec Ideal S2048x2048 .f32) : FVec Ideal S16384x2048 .f32 :=
  Host.dotGeneral dot_S16384x2048_S2048x2048_S16384x2048_1_0_0_1_n_n none y w

theorem prod_at (y : FVec Ideal S16384x2048 .f32) (w : FVec Ideal S2048x2048 .f32) (r : Fin 16384) (x : Fin 2048) :
    prod y w (ix2 r x) = ∑ k : Fin 2048, y (ix2 r k) * w (ix2 k x) := by
  pointwise [prod]

theorem out_eq (a b : FVec Ideal S16384x1024 .bf16) (w : FVec Ideal S2048x2048 .f32) (x : FVec Ideal S16384x2048 .f32) (g : FVec Ideal S24x1x2048 .f32) :
    out x (prod (both a b) w) (gates g) = outArr a b w x g := by
  funext j
  obtain ⟨r, c, rfl⟩ : ∃ (r : Fin 16384) (c : Fin 2048), j = ix2 r c := ⟨j 0, j 1, by funext a; fin_cases a <;> rfl⟩
  refine (out_at _ _ _ r c).trans ?_
  rw [prod_at, gates_at, ← sum_half]
  unfold outArr gateRow
  refine congrArg (fun q => x (ix2 r c) + g (ix3 _ 0 c) * q) (congrArg₂ (· + ·) (Finset.sum_congr rfl fun k _ => congrArg (· * _) ?_) (Finset.sum_congr rfl fun k _ => congrArg (· * _) ?_))
  · exact both_left a b r k
  · exact both_right a b r k

end Cert.AbOutRefIdeal.Value
end
-- ==== Proof.AbOutClaims.lean ====
module

public import proofs.«01_k».proof.Defs
public import proofs.«01_k».proof.Proof.AbOutRef
public import proofs.«01_k».proof.Proof.Gen.AbOut.Frame
public import Idealize.ShloMosaic.Lib.Quiescent

/-! The claims about the attention block's output projection. -/

@[expose] public section
set_option maxRecDepth 16384
noncomputable section
open Idealize.ShloMosaic Idealize.ShloMosaic.TcCoe Idealize.SL.Sem
namespace Cert.Proof.AbOut

theorem frame_p : Cert.quiescent_AbOut := fun m ρ _ => Cert.AbOut.Gen.frame m ρ
theorem frame_pi : Cert.quiescent_AbOutIdeal := fun m ρ _ => Cert.AbOutIdeal.Gen.frame m ρ
theorem frame_ri : Cert.quiescent_AbOutRefIdeal := fun m ρ _ =>
  (θ_run Cert.AbOutRefIdeal.defs _ _).mono (fun r h => ⟨fun c => (h c).2, sem_eq_zero_of_no_sems (by decide) r.2⟩)
    (Cert.AbOutRefIdeal.Value.run (F := Ideal) m ρ)

theorem preserves : Cert.preserves_AbOut_AbOutIdeal := trivial

theorem algebraic : Cert.algebraic_AbOutIdeal_AbOutRefIdeal := by
  intro m ρ m' ρ' hpre hag
  refine ⟨_, Cert.AbOutIdeal.Value.run_blocks (F := Ideal) m ρ, ?_⟩
  refine (θ_run Cert.AbOutRefIdeal.defs _ _).mono (fun _ h c => ⟨(h c).1.trans ?_, (h c).2⟩) (Cert.AbOutRefIdeal.Value.run (F := Ideal) m' ρ')
  rw [(hag c).1, (hag c).2.1, (hag c).2.2.1, (hag c).2.2.2.1, (hag c).2.2.2.2]
  exact (Cert.AbOutRefIdeal.Value.out_eq _ _ _ _ _).trans (Cert.AbOutIdeal.Value.arr5_eq m c).symm

end Cert.Proof.AbOut
end
-- ==== Proof.Segments.lean ====
module
public import proofs.«01_k».proof.Proof.ConvOutArr
public import Idealize.ShloMosaic.Lib.Pipeline.ValueKit
public import Idealize.ShloMosaic.Lib.Pipeline.ReadBack

/-! The segments of the attention block's input projection: a row of the product, what is made of it, and what the segments' proofs share. -/

@[expose] public section
set_option maxRecDepth 16384
noncomputable section
open Idealize.ShloMosaic Idealize.ShloMosaic.TcCoe Idealize.SL.Sem
namespace Cert.Segments
open Cert.ConvOutIdeal.Value (orow)

/-! The shapes. -/
abbrev Sh512x2048 : Shape := ⟨2, ![512, 2048]⟩
abbrev Sh2048x1024 : Shape := ⟨2, ![2048, 1024]⟩
abbrev Sh512x1024 : Shape := ⟨2, ![512, 1024]⟩
abbrev Sh16384x2048 : Shape := ⟨2, ![16384, 2048]⟩
abbrev Sh2048x7168 : Shape := ⟨2, ![2048, 7168]⟩
abbrev Sh16384x1024 : Shape := ⟨2, ![16384, 1024]⟩

/-- The column of the weights that a segment's column is. -/
def scol (s : Fin 7) (d : Fin 1024) : Fin 7168 := ⟨s * 1024 + d, by omega⟩

/-- The weights of a segment. -/
def segW (w : Sh2048x7168.Idx → EReal) (s : Fin 7) : Sh2048x1024.Idx → EReal := fun y => w (ix2 (y 0) (scol s (y 1)))

/-- A row of the product. -/
def rowOf {n : ℕ} (a : (⟨2, ![n, 2048]⟩ : Shape).Idx → EReal) (W : Sh2048x1024.Idx → EReal) (r : Fin n) : Fin 1024 → EReal := fun d =>
  ∑ k : Fin 2048, a (ix2 r k) * W (ix2 k d)

/-- An array made of the product row by row. -/
def segArr {n : ℕ} (f : (Fin 1024 → EReal) → Fin 1024 → EReal) (a : (⟨2, ![n, 2048]⟩ : Shape).Idx → EReal) (W : Sh2048x1024.Idx → EReal) :
    (⟨2, ![n, 1024]⟩ : Shape).Idx → EReal := fun y => f (rowOf a W (y 0)) (y 1)

/-- The product as it is. -/
def plain (p : Fin 1024 → EReal) (d : Fin 1024) : EReal := p d

/-- The product times its logistic. -/
def silu (p : Fin 1024 → EReal) (d : Fin 1024) : EReal := p d * Ideal.logistic (p d)

/-- The product's Gaussian error unit, by the hyperbolic tangent. -/
def gelu (p : Fin 1024 → EReal) (d : Fin 1024) : EReal :=
  p d * (Ideal.ofBits FTy.f32 0x3F000000#32 * (1 + Ideal.tanh (Ideal.ofBits FTy.f32 0x3F4C422A#32 * (p d + Ideal.ofBits FTy.f32 0x3D372713#32 * (p d * p d * p d)))))

/-- A row less its mean. -/
def centred (u : Fin 1024 → EReal) (d : Fin 1024) : EReal := u d - Ideal.div (∑ x, u x) (Ideal.ofBits FTy.f32 0x44800000#32)

/-- One over the root of a centred row's mean square. -/
def scale (v : Fin 1024 → EReal) : EReal :=
  Ideal.rsqrt (Ideal.div (∑ x, v x * v x) (Ideal.ofBits FTy.f32 0x44800000#32) + Ideal.ofBits FTy.f32 0x358637BD#32)

/-- The layer norm of the product's Gaussian error unit. -/
def geluNorm (g b : (⟨1, ![1024]⟩ : Shape).Idx → EReal) (p : Fin 1024 → EReal) (d : Fin 1024) : EReal :=
  centred (gelu p) d * scale (centred (gelu p)) * g (ix1 d) + b (ix1 d)

/-- A one-row array as a vector. -/
def asRow (x : (⟨2, ![1, 1024]⟩ : Shape).Idx → EReal) : (⟨1, ![1024]⟩ : Shape).Idx → EReal := fun y => x (ix2 0 (y 0))

/-- A block of rows of the argument makes the block of rows of the array. -/
theorem segArr_blk (f : (Fin 1024 → EReal) → Fin 1024 → EReal) (a : Sh512x2048.Idx → EReal) (h : Sh16384x2048.Idx → EReal) (W : Sh2048x1024.Idx → EReal) (i : Fin 32)
    (ha : ∀ (r : Fin 512) (k : Fin 2048), a (ix2 r k) = h (ix2 (orow i r) k)) (y : Sh512x1024.Idx) :
    segArr f a W y = segArr f h W (ix2 (orow i (y 0)) (y 1) : Sh16384x1024.Idx) :=
  congrArg (fun p => f p (y 1)) (funext fun d => Finset.sum_congr rfl fun k _ => congrArg (· * _) (ha (y 0) k))

/-- If the first point of a round writes by what it finds and keeps it, and another point writes by what the point before left and keeps that,
every point writes by the same. -/
theorem outs_of {A B : Type} {N : ℕ} (f : (n : ℕ) → n < N → A × B) (W : B) (G : Fin N → B → A) (hA : ∀ t : Fin N, t.val % 32 = 0 → f t.val t.isLt = (G t W, W))
    (hB : ∀ (t : Fin N) (L : B), ¬t.val % 32 = 0 → (f (t.val - 1) (Nat.lt_of_le_of_lt (Nat.sub_le _ _) t.isLt)).2 = L → f t.val t.isLt = (G t L, L)) :
    ∀ t : Fin N, (f t.val t.isLt).1 = G t W := by
  have h : ∀ (n : ℕ) (hn : n < N), f n hn = (G ⟨n, hn⟩ W, W) := by
    intro n
    induction n with
    | zero => exact fun hn => hA ⟨0, hn⟩ rfl
    | succ n ih =>
      intro hn
      by_cases h0 : (n + 1) % 32 = 0
      · exact hA ⟨n + 1, hn⟩ h0
      · exact hB ⟨n + 1, hn⟩ W h0 (congrArg Prod.snd (ih (Nat.lt_of_succ_lt hn)))
  exact fun t => congrArg Prod.fst (h t.val t.isLt)

/-- The weights are stored as they are. -/
theorem stored_id (x : FVec Ideal Sh2048x1024 .f32) (h1 : FTy.bits .bf16 < FTy.bits .f32) (h2 : Sh2048x1024.ShapeCasts Sh2048x1024) :
    shapeCast Sh2048x1024 (truncf .bf16 x h1) h2 = x := by
  funext y
  obtain ⟨k, d, rfl⟩ : ∃ (k : Fin 2048) (d : Fin 1024), y = ix2 k d := ⟨y 0, y 1, by funext a; fin_cases a <;> rfl⟩
  pointwise []

theorem whole_h (x : Vec Ideal Sh512x2048 .bf16) (inb : ∀ a, (![0, 0] : Fin 2 → ℕ) a + Sh512x2048.size a ≤ Sh512x2048.size a) :
    View.ld (Val := Elt Ideal) x (Rect.unit (s := Sh512x2048) ![0, 0] Sh512x2048.size inb) = x := by
  have h : (![0, 0] : Fin 2 → ℕ) = fun _ => 0 := by decide
  exact View.ld_unit_zero h inb x
theorem whole_s (x : Vec Ideal Sh2048x1024 .bf16) (inb : ∀ a, (![0, 0] : Fin 2 → ℕ) a + Sh2048x1024.size a ≤ Sh2048x1024.size a) :
    View.ld (Val := Elt Ideal) x (Rect.unit (s := Sh2048x1024) ![0, 0] Sh2048x1024.size inb) = x := by
  have h : (![0, 0] : Fin 2 → ℕ) = fun _ => 0 := by decide
  exact View.ld_unit_zero h inb x
theorem whole_v (x : Vec Ideal ⟨2, ![1, 1024]⟩ .f32) (inb : ∀ a, (![0, 0] : Fin 2 → ℕ) a + (⟨2, ![1, 1024]⟩ : Shape).size a ≤ (⟨2, ![1, 1024]⟩ : Shape).size a) :
    View.ld (Val := Elt Ideal) x (Rect.unit (s := ⟨2, ![1, 1024]⟩) ![0, 0] (⟨2, ![1, 1024]⟩ : Shape).size inb) = x := by
  have h : (![0, 0] : Fin 2 → ℕ) = fun _ => 0 := by decide
  exact View.ld_unit_zero h inb x

end Cert.Segments
end
-- ==== Proof.Heads.lean ====
module
public import proofs.«01_k».proof.Proof.Segments

/-! An array's rows cut into eight heads, a row of the result for each: the row `8 * r + h` is the head `h` of the row `r`. -/

@[expose] public section
set_option maxRecDepth 16384
noncomputable section
open Idealize.ShloMosaic Idealize.ShloMosaic.TcCoe Idealize.SL.Sem
namespace Cert.Segments
open Cert.ConvOutIdeal.Value (orow)

abbrev Sh512x128 : Shape := ⟨2, ![512, 128]⟩
abbrev Sh4096x128 : Shape := ⟨2, ![4096, 128]⟩
abbrev Sh131072x128 : Shape := ⟨2, ![131072, 128]⟩

/-- The array with a row for each head of each row. -/
def byHead (n : ℕ) {N : ℕ} (e : N = 8 * n) (a : (⟨2, ![n, 1024]⟩ : Shape).Idx → EReal) : (⟨2, ![N, 128]⟩ : Shape).Idx → EReal := fun y =>
  a (ix2 ⟨(y 0).val / 8, by have h : (y 0).val < N := (y 0).isLt; omega⟩ ⟨(y 0).val % 8 * 128 + (y 1).val, by have h : (y 1).val < 128 := (y 1).isLt; omega⟩)

/-- A block's head, stored by rows eight apart, lands where the array by heads has it. -/
theorem head_at (h off : ℕ) (hh : h < 8) (ho : off = h * 128) (v : FVec Ideal Sh512x1024 .f32) (sl : Sh512x1024.Slices ![0, off] Sh512x128)
    (inb : ∀ a, Sh512x128.size a = 0 ∨ (![h, 0] : Fin 2 → ℕ) a + (![8, 1] : Fin 2 → ℕ) a * (Sh512x128.size a - 1) < Sh4096x128.size a)
    (sp : ∀ a, 0 < (![8, 1] : Fin 2 → ℕ) a) (x : Sh512x128.Idx) :
    extractStridedSlice Sh512x128 ![0, off] v sl x = byHead 512 (N := 4096) rfl v ((⟨(⟨![h, 0], Sh512x128.size, ![8, 1], inb⟩ : LoadRect Sh4096x128), sp⟩ : Rect Sh4096x128).emb x) := by
  subst ho
  have h0 : (x 0).val < 512 := (x 0).isLt
  have h1 : (x 1).val < 128 := (x 1).isLt
  have e0 : ((⟨(⟨![h, 0], Sh512x128.size, ![8, 1], inb⟩ : LoadRect Sh4096x128), sp⟩ : Rect Sh4096x128).emb x 0).val = h + 8 * (x 0).val := rfl
  have e1 : ((⟨(⟨![h, 0], Sh512x128.size, ![8, 1], inb⟩ : LoadRect Sh4096x128), sp⟩ : Rect Sh4096x128).emb x 1).val = 0 + 1 * (x 1).val := rfl
  unfold byHead
  refine congrArg v (funext fun a => Fin.ext ?_)
  match a with
  | ⟨0, _⟩ => show 0 + (x 0).val = _ / 8; rw [e0]; omega
  | ⟨1, _⟩ => show h * 128 + (x 1).val = _ % 8 * 128 + _; rw [e0, e1]; omega

/-- A block of rows of the argument makes the block of rows of the array by heads. -/
theorem byHead_blk (f : (Fin 1024 → EReal) → Fin 1024 → EReal) (a : Sh512x2048.Idx → EReal) (h : Sh16384x2048.Idx → EReal) (W : Sh2048x1024.Idx → EReal) (i : Fin 32)
    (ha : ∀ (r : Fin 512) (k : Fin 2048), a (ix2 r k) = h (ix2 (orow i r) k)) (y : Sh4096x128.Idx) (z : Sh131072x128.Idx)
    (h0 : (z 0).val = i.val * 4096 + (y 0).val) (h1 : (z 1).val = (y 1).val) :
    byHead 512 (N := 4096) rfl (segArr f a W) y = byHead 16384 (N := 131072) rfl (segArr f h W) z := by
  have hy : (y 0).val < 4096 := (y 0).isLt
  unfold byHead
  rw [segArr_blk f a h W i ha]
  refine congrArg (segArr f h W) (funext fun b => Fin.ext ?_)
  match b with
  | ⟨0, _⟩ => show i.val * 512 + (y 0).val / 8 = (z 0).val / 8; omega
  | ⟨1, _⟩ => show (y 0).val % 8 * 128 + (y 1).val = (z 0).val % 8 * 128 + (z 1).val; rw [h0, h1]; omega

/-- The array cast to the shape by heads is the array by heads. -/
theorem cast_heads (v : FVec Ideal Sh16384x1024 .f32) (hc : Sh16384x1024.ShapeCasts Sh131072x128) :
    shapeCast Sh131072x128 v hc = byHead 16384 (N := 131072) rfl v := by
  funext y
  obtain ⟨r, d, rfl⟩ : ∃ (r : Fin 131072) (d : Fin 128), y = ix2 r d := ⟨y 0, y 1, by funext a; fin_cases a <;> rfl⟩
  unfold byHead
  pointwise []

end Cert.Segments
end
-- ==== Proof.HeadsRun.lean ====
module

public import proofs.«01_k».proof.Proof.Gen.KeysInIdeal.Skeleton
public import proofs.«01_k».proof.Proof.Gen.KeysInIdeal.Frame
public import Idealize.ShloMosaic.Lib.Claim

/-! The projection's epilogue "heads": a run of the kernel at each point, from any blocks of its arguments.
The second output is stored by rows eight apart, one store for each head. -/

@[expose] public section
set_option maxRecDepth 16384
noncomputable section
namespace Cert.KeysInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The body's condition, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin grid0.N, cond0_0 (grid0.coords t) ↔ t.val % 32 = 0 :=
  fun t => by
    have ht : t.val < 32 := Nat.lt_of_lt_of_eq t.isLt N_0
    have e0 : (grid0.coords t 0).val = t.val / 1 % 32 := Pipeline.Grid.coords_val t 0 (by decide) rfl
    simp only [cond0_0, e0]
    word_cmp

/-- The kernel's body as operations on its buffers, for any labels of bodies. -/
noncomputable def body (Λ : Labels) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S4096x128 .f32) (harg6 : arg6.IsWhole) (arg7 : Memref sig .tc .vmem S2048x1024 .bf16) (harg7 : arg7.IsWhole) :
    Prog (TpuEff nD τ sig (Elt F) Λ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v23 : Vec F S2048x1024 .f32 ← Prog.lift (.load arg2 (Rect.unit (s := S2048x1024) ![0, 0] S2048x1024.size inb_S2048x1024_S2048x1024_0_0).toLoadRect (View.loadsAt_vmem h_S2048x1024))
    let v25 : Vec F S2048x1024 .bf16 ← Prog.lift (.load arg7 (Rect.unit (s := S2048x1024) ![0, 0] S2048x1024.size inb_S2048x1024_S2048x1024_0_0).toLoadRect (View.loadsAt_vmem h_S2048x1024))
    Prog.lift (.store arg7 (Rect.unit (s := S2048x1024) ![0, 0] S2048x1024.size inb_S2048x1024_S2048x1024_0_0) (k0_pay1 v23) Finset.univ (View.stores_vmem h_S2048x1024 (harg7.storeExact_slice rfl _ packedbf16_S2048x1024_S2048x1024_0_0) (fun _ => rfl)) (.inl rfl))
    pure ⟨⟩
  else do
    pure ⟨⟩
  let v3 : Vec F S512x2048 .bf16 ← Prog.lift (.load arg1 (Rect.unit (s := S512x2048) ![0, 0] S512x2048.size inb_S512x2048_S512x2048_0_0).toLoadRect (View.loadsAt_vmem h_S512x2048))
  let v4 : Vec F S2048x1024 .bf16 ← Prog.lift (.load arg7 (Rect.unit (s := S2048x1024) ![0, 0] S2048x1024.size inb_S2048x1024_S2048x1024_0_0).toLoadRect (View.loadsAt_vmem h_S2048x1024))
  let v6 : Vec F S512x1024 .f32 ← Prog.lift (.load arg5 (Rect.unit (s := S512x1024) ![0, 0] S512x1024.size inb_S512x1024_S512x1024_0_0).toLoadRect (View.loadsAt_vmem h_S512x1024))
  Prog.lift (.store arg5 (Rect.unit (s := S512x1024) ![0, 0] S512x1024.size inb_S512x1024_S512x1024_0_0) (k0_pay2 v3 v4) Finset.univ (View.stores_vmem_bits_univ h_S512x1024 rfl) (.inl rfl))
  let v8 : Vec F S512x128 .f32 ← Prog.lift (.load arg6 (⟨![0, 0], S512x128.size, ![8, 1], inb_S4096x128_S512x128_0_0_s_8_1⟩ : LoadRect S4096x128) (View.loadsAt_vmem h_S512x128))
  Prog.lift (.store arg6 ⟨(⟨![0, 0], S512x128.size, ![8, 1], inb_S4096x128_S512x128_0_0_s_8_1⟩ : LoadRect S4096x128), spos_8_1⟩ (k0_pay3 v3 v4) Finset.univ (View.stores_vmem_bits_univ h_S512x128 rfl) (.inl rfl))
  let v10 : Vec F S512x128 .f32 ← Prog.lift (.load arg6 (⟨![1, 0], S512x128.size, ![8, 1], inb_S4096x128_S512x128_1_0_s_8_1⟩ : LoadRect S4096x128) (View.loadsAt_vmem h_S512x128))
  Prog.lift (.store arg6 ⟨(⟨![1, 0], S512x128.size, ![8, 1], inb_S4096x128_S512x128_1_0_s_8_1⟩ : LoadRect S4096x128), spos_8_1⟩ (k0_pay4 v3 v4) Finset.univ (View.stores_vmem_bits_univ h_S512x128 rfl) (.inl rfl))
  let v12 : Vec F S512x128 .f32 ← Prog.lift (.load arg6 (⟨![2, 0], S512x128.size, ![8, 1], inb_S4096x128_S512x128_2_0_s_8_1⟩ : LoadRect S4096x128) (View.loadsAt_vmem h_S512x128))
  Prog.lift (.store arg6 ⟨(⟨![2, 0], S512x128.size, ![8, 1], inb_S4096x128_S512x128_2_0_s_8_1⟩ : LoadRect S4096x128), spos_8_1⟩ (k0_pay5 v3 v4) Finset.univ (View.stores_vmem_bits_univ h_S512x128 rfl) (.inl rfl))
  let v14 : Vec F S512x128 .f32 ← Prog.lift (.load arg6 (⟨![3, 0], S512x128.size, ![8, 1], inb_S4096x128_S512x128_3_0_s_8_1⟩ : LoadRect S4096x128) (View.loadsAt_vmem h_S512x128))
  Prog.lift (.store arg6 ⟨(⟨![3, 0], S512x128.size, ![8, 1], inb_S4096x128_S512x128_3_0_s_8_1⟩ : LoadRect S4096x128), spos_8_1⟩ (k0_pay6 v3 v4) Finset.univ (View.stores_vmem_bits_univ h_S512x128 rfl) (.inl rfl))
  let v16 : Vec F S512x128 .f32 ← Prog.lift (.load arg6 (⟨![4, 0], S512x128.size, ![8, 1], inb_S4096x128_S512x128_4_0_s_8_1⟩ : LoadRect S4096x128) (View.loadsAt_vmem h_S512x128))
  Prog.lift (.store arg6 ⟨(⟨![4, 0], S512x128.size, ![8, 1], inb_S4096x128_S512x128_4_0_s_8_1⟩ : LoadRect S4096x128), spos_8_1⟩ (k0_pay7 v3 v4) Finset.univ (View.stores_vmem_bits_univ h_S512x128 rfl) (.inl rfl))
  let v18 : Vec F S512x128 .f32 ← Prog.lift (.load arg6 (⟨![5, 0], S512x128.size, ![8, 1], inb_S4096x128_S512x128_5_0_s_8_1⟩ : LoadRect S4096x128) (View.loadsAt_vmem h_S512x128))
  Prog.lift (.store arg6 ⟨(⟨![5, 0], S512x128.size, ![8, 1], inb_S4096x128_S512x128_5_0_s_8_1⟩ : LoadRect S4096x128), spos_8_1⟩ (k0_pay8 v3 v4) Finset.univ (View.stores_vmem_bits_univ h_S512x128 rfl) (.inl rfl))
  let v20 : Vec F S512x128 .f32 ← Prog.lift (.load arg6 (⟨![6, 0], S512x128.size, ![8, 1], inb_S4096x128_S512x128_6_0_s_8_1⟩ : LoadRect S4096x128) (View.loadsAt_vmem h_S512x128))
  Prog.lift (.store arg6 ⟨(⟨![6, 0], S512x128.size, ![8, 1], inb_S4096x128_S512x128_6_0_s_8_1⟩ : LoadRect S4096x128), spos_8_1⟩ (k0_pay9 v3 v4) Finset.univ (View.stores_vmem_bits_univ h_S512x128 rfl) (.inl rfl))
  let v22 : Vec F S512x128 .f32 ← Prog.lift (.load arg6 (⟨![7, 0], S512x128.size, ![8, 1], inb_S4096x128_S512x128_7_0_s_8_1⟩ : LoadRect S4096x128) (View.loadsAt_vmem h_S512x128))
  Prog.lift (.store arg6 ⟨(⟨![7, 0], S512x128.size, ![8, 1], inb_S4096x128_S512x128_7_0_s_8_1⟩ : LoadRect S4096x128), spos_8_1⟩ (k0_pay10 v3 v4) Finset.univ (View.stores_vmem_bits_univ h_S512x128 rfl) (.inl rfl))
  pure ⟨⟩

/-- One staging buffer of each output, through which its contents are stated. -/
abbrev VO0_4 : View sig .tc .vmem S512x1024 .f32 := (Memref.whole cc0_stg4_0 : Memref sig .tc .vmem S512x1024 .f32).view
abbrev VO0_5 : View sig .tc .vmem S4096x128 .f32 := (Memref.whole cc0_stg5_0 : Memref sig .tc .vmem S4096x128 .f32).view
/-- The scratch, which the kernel carries between points. -/
abbrev scM0_0 : Memref sig .tc .vmem S2048x1024 .bf16 := Memref.whole cc0_scratch0
abbrev VS0_0 : View sig .tc .vmem S2048x1024 .bf16 := scM0_0.view

set_option maxHeartbeats 2000000 in
/-- What the body's stores leave in each output and in the scratch at the first point, as pieces, last first, with the proof that the body runs to them. -/
noncomputable def kernelRun0_A (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole)
    (arg6 : Memref sig .tc .vmem S4096x128 .f32) (harg6 : arg6.IsWhole) (arg7 : Memref sig .tc .vmem S2048x1024 .bf16) (harg7 : arg7.IsWhole) (hc0 : cond0_0 i)
    (x0 : Vec F S512x2048 .bf16) (x1 : Vec F S2048x1024 .f32) (x2 : Vec F S1x1024 .f32) (x3 : Vec F S1x1024 .f32) :
    Σ' (L4 : List (View.Piece (Elt F) S512x1024 .f32)) (L5 : List (View.Piece (Elt F) S4096x128 .f32)), { LS0 : List (View.Piece (Elt F) S2048x1024 .bf16) //
      ∀ (Λ : Labels) (D : Defs nD τ sig (Elt F) Λ) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE D Variants.none c none) E (body Λ i arg1 harg1 arg2 harg2 arg3 harg3 arg4 harg4 arg5 harg5 arg6 harg6 arg7 harg7) K } := by
  refine ⟨?_, ?_, ?_, fun Λ D E K => ?run⟩
  case run =>
    unfold body
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

set_option maxHeartbeats 2000000 in
/-- What the body's stores leave in each output and in the scratch at a later point, as pieces, last first, with the proof that the body runs to them. -/
noncomputable def kernelRun0_B (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole)
    (arg6 : Memref sig .tc .vmem S4096x128 .f32) (harg6 : arg6.IsWhole) (arg7 : Memref sig .tc .vmem S2048x1024 .bf16) (harg7 : arg7.IsWhole) (hc0 : ¬cond0_0 i)
    (x0 : Vec F S512x2048 .bf16) (x1 : Vec F S2048x1024 .f32) (x2 : Vec F S1x1024 .f32) (x3 : Vec F S1x1024 .f32) (xs0 : Vec F S2048x1024 .bf16) :
    Σ' (L4 : List (View.Piece (Elt F) S512x1024 .f32)) (L5 : List (View.Piece (Elt F) S4096x128 .f32)), { LS0 : List (View.Piece (Elt F) S2048x1024 .bf16) //
      ∀ (Λ : Labels) (D : Defs nD τ sig (Elt F) Λ) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0) -∗ K ⟨⟩))
          ⊢ wp frame (wpE D Variants.none c none) E (body Λ i arg1 harg1 arg2 harg2 arg3 harg3 arg4 harg4 arg5 harg5 arg6 harg6 arg7 harg7) K } := by
  refine ⟨?_, ?_, [], fun Λ D E K => ?run⟩
  case run =>
    unfold body
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact HS0

/-- Every row of the second output's block is in one of the eight stores' rows: the row `8 * j + h` in store `h`. -/
theorem mem_rows (h : ℕ) (r : Rect S4096x128) (ho : r.off = ![h, 0]) (hz : r.size = S512x128.size) (hs : r.stride = ![8, 1]) (y : S4096x128.Idx) (hy : (y 0).val % 8 = h) : y ∈ r.set := by
  have h0 : (y 0).val < 4096 := (y 0).isLt
  have h1 : (y 1).val < 128 := (y 1).isLt
  refine r.mem_set.mpr fun a => ?_
  rw [ho, hz, hs]
  match a with
  | ⟨0, _⟩ => exact ⟨(y 0).val / 8, by show _ < 512; omega, by show (y 0).val = h + 8 * ((y 0).val / 8); omega⟩
  | ⟨1, _⟩ => exact ⟨(y 1).val, h1, by show (y 1).val = 0 + 1 * (y 1).val; omega⟩

section
variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole)
    (arg6 : Memref sig .tc .vmem S4096x128 .f32) (harg6 : arg6.IsWhole) (arg7 : Memref sig .tc .vmem S2048x1024 .bf16) (harg7 : arg7.IsWhole)
    (x0 : Vec F S512x2048 .bf16) (x1 : Vec F S2048x1024 .f32) (x2 : Vec F S1x1024 .f32) (x3 : Vec F S1x1024 .f32) (xs0 : Vec F S2048x1024 .bf16)

theorem cover0_A_4 (hc0 : cond0_0 i) (y : S512x1024.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S512x1024.size (by sl_kernel_rfl) y

theorem cover0_A_5 (hc0 : cond0_0 i) (y : S4096x128.Idx) :
    ∃ pc ∈ (kernelRun0_A c i arg1 harg1 arg2 harg2 arg3 harg3 arg4 harg4 arg5 harg5 arg6 harg6 arg7 harg7 hc0 x0 x1 x2 x3).2.1, y ∈ pc.1.set := by
  unfold kernelRun0_A
  have h : (y 0).val % 8 < 8 := Nat.mod_lt _ (by decide)
  generalize hk : (y 0).val % 8 = k at h
  match k, h with
  | 7, _ => exact ⟨_, .head _, mem_rows 7 _ rfl rfl rfl y hk⟩
  | 6, _ => exact ⟨_, .tail _ (.head _), mem_rows 6 _ rfl rfl rfl y hk⟩
  | 5, _ => exact ⟨_, .tail _ (.tail _ (.head _)), mem_rows 5 _ rfl rfl rfl y hk⟩
  | 4, _ => exact ⟨_, .tail _ (.tail _ (.tail _ (.head _))), mem_rows 4 _ rfl rfl rfl y hk⟩
  | 3, _ => exact ⟨_, .tail _ (.tail _ (.tail _ (.tail _ (.head _)))), mem_rows 3 _ rfl rfl rfl y hk⟩
  | 2, _ => exact ⟨_, .tail _ (.tail _ (.tail _ (.tail _ (.tail _ (.head _))))), mem_rows 2 _ rfl rfl rfl y hk⟩
  | 1, _ => exact ⟨_, .tail _ (.tail _ (.tail _ (.tail _ (.tail _ (.tail _ (.head _)))))), mem_rows 1 _ rfl rfl rfl y hk⟩
  | 0, _ => exact ⟨_, .tail _ (.tail _ (.tail _ (.tail _ (.tail _ (.tail _ (.tail _ (.head _))))))), mem_rows 0 _ rfl rfl rfl y hk⟩

/-- What this case leaves in each output and in the scratch. -/
def out0_A_4 (hc0 : cond0_0 i) : Vec F S512x1024 .f32 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)
def out0_A_5 (hc0 : cond0_0 i) : Vec F S4096x128 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)
theorem scover0_A_0 (hc0 : cond0_0 i) (y : S2048x1024.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (kernelRun0_A c i arg1 harg1 arg2 harg2 arg3 harg3 arg4 harg4 arg5 harg5 arg6 harg6 arg7 harg7 hc0 x0 x1 x2 x3).2.2.1 S2048x1024.size (by sl_kernel_rfl) y
def sout0_A_0 (hc0 : cond0_0 i) : Vec F S2048x1024 .bf16 :=
  VS0_0.read (Elt F) (VS0_0.writes (Elt F) VS0_0.junk (kernelRun0_A c i arg1 harg1 arg2 harg2 arg3 harg3 arg4 harg4 arg5 harg5 arg6 harg6 arg7 harg7 hc0 x0 x1 x2 x3).2.2.1)

theorem cover0_B_4 (hc0 : ¬cond0_0 i) (y : S512x1024.Idx) :
    ∃ pc ∈ (kernelRun0_B c i arg1 harg1 arg2 harg2 arg3 harg3 arg4 harg4 arg5 harg5 arg6 harg6 arg7 harg7 hc0 x0 x1 x2 x3 xs0).1, y ∈ pc.1.set :=
  View.cover_of_tiledL (kernelRun0_B c i arg1 harg1 arg2 harg2 arg3 harg3 arg4 harg4 arg5 harg5 arg6 harg6 arg7 harg7 hc0 x0 x1 x2 x3 xs0).1 S512x1024.size (by sl_kernel_rfl) y

theorem cover0_B_5 (hc0 : ¬cond0_0 i) (y : S4096x128.Idx) :
    ∃ pc ∈ (kernelRun0_B c i arg1 harg1 arg2 harg2 arg3 harg3 arg4 harg4 arg5 harg5 arg6 harg6 arg7 harg7 hc0 x0 x1 x2 x3 xs0).2.1, y ∈ pc.1.set := by
  unfold kernelRun0_B
  have h : (y 0).val % 8 < 8 := Nat.mod_lt _ (by decide)
  generalize hk : (y 0).val % 8 = k at h
  match k, h with
  | 7, _ => exact ⟨_, .head _, mem_rows 7 _ rfl rfl rfl y hk⟩
  | 6, _ => exact ⟨_, .tail _ (.head _), mem_rows 6 _ rfl rfl rfl y hk⟩
  | 5, _ => exact ⟨_, .tail _ (.tail _ (.head _)), mem_rows 5 _ rfl rfl rfl y hk⟩
  | 4, _ => exact ⟨_, .tail _ (.tail _ (.tail _ (.head _))), mem_rows 4 _ rfl rfl rfl y hk⟩
  | 3, _ => exact ⟨_, .tail _ (.tail _ (.tail _ (.tail _ (.head _)))), mem_rows 3 _ rfl rfl rfl y hk⟩
  | 2, _ => exact ⟨_, .tail _ (.tail _ (.tail _ (.tail _ (.tail _ (.head _))))), mem_rows 2 _ rfl rfl rfl y hk⟩
  | 1, _ => exact ⟨_, .tail _ (.tail _ (.tail _ (.tail _ (.tail _ (.tail _ (.head _)))))), mem_rows 1 _ rfl rfl rfl y hk⟩
  | 0, _ => exact ⟨_, .tail _ (.tail _ (.tail _ (.tail _ (.tail _ (.tail _ (.tail _ (.head _))))))), mem_rows 0 _ rfl rfl rfl y hk⟩

/-- What this case leaves in each output and in the scratch. -/
def out0_B_4 (hc0 : ¬cond0_0 i) : Vec F S512x1024 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xs0).1)
def out0_B_5 (hc0 : ¬cond0_0 i) : Vec F S4096x128 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xs0).2.1)
end

/-- The buffers a point's blocks are in. -/
structure Bufs where
  a0 : Memref sig .tc .vmem S512x2048 .bf16
  w0 : a0.IsWhole
  a1 : Memref sig .tc .vmem S2048x1024 .f32
  w1 : a1.IsWhole
  a2 : Memref sig .tc .vmem S1x1024 .f32
  w2 : a2.IsWhole
  a3 : Memref sig .tc .vmem S1x1024 .f32
  w3 : a3.IsWhole
  a4 : Memref sig .tc .vmem S512x1024 .f32
  w4 : a4.IsWhole
  a5 : Memref sig .tc .vmem S4096x128 .f32
  w5 : a5.IsWhole

/-- The blocks of the arguments at a point. -/
structure Ins (F : FTy → Type) [FloatOps F] where
  x0 : Vec F S512x2048 .bf16
  x1 : Vec F S2048x1024 .f32
  x2 : Vec F S1x1024 .f32
  x3 : Vec F S1x1024 .f32

section
variable (c : Dev nD) (b : Fin grid0.N → Bufs) (x : Fin grid0.N → Ins F)

/-- What the first point leaves in the outputs and in the scratch. -/
def first (t : Fin grid0.N) (h : cond0_0 (grid0.coords t)) : (Vec F S512x1024 .f32 × Vec F S4096x128 .f32) × Vec F S2048x1024 .bf16 :=
  ((out0_A_4 c (grid0.coords t) (b t).a0 (b t).w0 (b t).a1 (b t).w1 (b t).a2 (b t).w2 (b t).a3 (b t).w3 (b t).a4 (b t).w4 (b t).a5 (b t).w5 scM0_0 (Memref.isWhole_whole _) (x t).x0 (x t).x1 (x t).x2 (x t).x3 h,
    out0_A_5 c (grid0.coords t) (b t).a0 (b t).w0 (b t).a1 (b t).w1 (b t).a2 (b t).w2 (b t).a3 (b t).w3 (b t).a4 (b t).w4 (b t).a5 (b t).w5 scM0_0 (Memref.isWhole_whole _) (x t).x0 (x t).x1 (x t).x2 (x t).x3 h),
    sout0_A_0 c (grid0.coords t) (b t).a0 (b t).w0 (b t).a1 (b t).w1 (b t).a2 (b t).w2 (b t).a3 (b t).w3 (b t).a4 (b t).w4 (b t).a5 (b t).w5 scM0_0 (Memref.isWhole_whole _) (x t).x0 (x t).x1 (x t).x2 (x t).x3 h)

/-- What a later point leaves, from what the scratch holds. -/
def later (t : Fin grid0.N) (h : ¬cond0_0 (grid0.coords t)) (acc : Vec F S2048x1024 .bf16) : (Vec F S512x1024 .f32 × Vec F S4096x128 .f32) × Vec F S2048x1024 .bf16 :=
  ((out0_B_4 c (grid0.coords t) (b t).a0 (b t).w0 (b t).a1 (b t).w1 (b t).a2 (b t).w2 (b t).a3 (b t).w3 (b t).a4 (b t).w4 (b t).a5 (b t).w5 scM0_0 (Memref.isWhole_whole _) (x t).x0 (x t).x1 (x t).x2 (x t).x3 acc h,
    out0_B_5 c (grid0.coords t) (b t).a0 (b t).w0 (b t).a1 (b t).w1 (b t).a2 (b t).w2 (b t).a3 (b t).w3 (b t).a4 (b t).w4 (b t).a5 (b t).w5 scM0_0 (Memref.isWhole_whole _) (x t).x0 (x t).x1 (x t).x2 (x t).x3 acc h),
    acc)

/-- What the outputs and the scratch hold after point `t`, from what the scratch held before it. -/
def step (t : Fin grid0.N) (acc : Vec F S2048x1024 .bf16) : (Vec F S512x1024 .f32 × Vec F S4096x128 .f32) × Vec F S2048x1024 .bf16 :=
  if h0 : t.val % 32 = 0 then first c b x t ((hcond0_0 t).mpr h0) else later c b x t (fun h => h0 ((hcond0_0 t).mp h)) acc

/-- What the outputs and the scratch hold after point `n`. -/
def outsAt0 : (n : ℕ) → n < grid0.N → (Vec F S512x1024 .f32 × Vec F S4096x128 .f32) × Vec F S2048x1024 .bf16
  | 0, hn => step c b x ⟨0, hn⟩ (VS0_0.read (Elt F) VS0_0.junk)
  | n + 1, hn => step c b x ⟨n + 1, hn⟩ (outsAt0 n (Nat.lt_of_succ_lt hn)).2

theorem outsAt0_A (t : Fin grid0.N) (h0 : t.val % 32 = 0) : outsAt0 c b x t.val t.isLt = first c b x t ((hcond0_0 t).mpr h0) := by
  obtain ⟨n, hn⟩ := t
  cases n with
  | zero => rw [show outsAt0 c b x 0 hn = step c b x ⟨0, hn⟩ (VS0_0.read (Elt F) VS0_0.junk) from rfl]; unfold step; rw [dif_pos h0]
  | succ n => rw [show outsAt0 c b x (n + 1) hn = step c b x ⟨n + 1, hn⟩ (outsAt0 c b x n (Nat.lt_of_succ_lt hn)).2 from rfl]; unfold step; rw [dif_pos h0]

theorem outsAt0_B (t : Fin grid0.N) (h0 : ¬t.val % 32 = 0) :
    outsAt0 c b x t.val t.isLt = later c b x t (fun h => h0 ((hcond0_0 t).mp h)) (outsAt0 c b x (t.val - 1) (Nat.lt_of_le_of_lt (Nat.sub_le _ _) t.isLt)).2 := by
  obtain ⟨n, hn⟩ := t
  cases n with
  | zero => exact absurd (Nat.zero_mod _) h0
  | succ n => rw [show outsAt0 c b x (n + 1) hn = step c b x ⟨n + 1, hn⟩ (outsAt0 c b x n (Nat.lt_of_succ_lt hn)).2 from rfl]; unfold step; rw [dif_neg h0]; rfl

/-- The scratch with anything in it, and the random register. -/
abbrev PhiAny : sProp 𝕄 := iprop(iprop((∃ d, owns (c : Thread nD τ) scM0_0 fullShare d)) ∗ (∃ r, prngReg c r))

/-- Before the first point the scratch holds anything; afterwards what the point before left. -/
def PhiS : (n : ℕ) → n ≤ grid0.N → sProp 𝕄
  | 0, _ => PhiAny c
  | n + 1, hn => iprop(iprop(owns (c : Thread nD τ) scM0_0 fullShare ((outsAt0 c b x n hn).2)) ∗ (∃ r, prngReg c r))

theorem PhiS_zero (n : ℕ) (h : n ≤ grid0.N) (hz : n = 0) : PhiS c b x n h = PhiAny c := by
  subst hz; rfl
theorem PhiS_succ (n : ℕ) (hn : n < grid0.N) :
    PhiS c b x (n + 1) hn = iprop(iprop(owns (c : Thread nD τ) scM0_0 fullShare ((outsAt0 c b x n hn).2)) ∗ (∃ r, prngReg c r)) := rfl
theorem PhiS_pos (n : ℕ) (h : n ≤ grid0.N) (hz : n ≠ 0) :
    PhiS c b x n h = iprop(iprop(owns (c : Thread nD τ) scM0_0 fullShare ((outsAt0 c b x (n - 1) (by omega)).2)) ∗ (∃ r, prngReg c r)) := by
  cases n with
  | zero => exact absurd rfl hz
  | succ n => rfl

/-- After any point the scratch's contents may be forgotten. -/
theorem PhiS_any (n : ℕ) (h : n ≤ grid0.N) (hz : n ≠ 0) : PhiS c b x n h ⊢ (PhiAny c : sProp 𝕄) := by
  rw [PhiS_pos c b x n h hz]
  iintro ⟨HS0, Hg⟩
  isplitl [HS0]
  · iexists _; iexact HS0
  iexact Hg

set_option maxHeartbeats 3200000 in
/-- The body at any point: from the arguments' blocks it leaves the outputs' blocks. -/
theorem body_at {Λ : Labels} (D : Defs nD τ sig (Elt F) Λ) {D0 D1 D2 D3 D4 D5 : Type} (f4 : D4 → Vec F S512x1024 .f32) (f5 : D5 → Vec F S4096x128 .f32) (X : sProp 𝕄) (t : Fin grid0.N) :
    iprop(PhiS c b x t.val (Nat.le_of_lt t.isLt) ∗ X
      ∗ (∃ d : D0, owns (c : Thread nD τ) (b t).a0 fullShare (x t).x0) ∗ (∃ d : D1, owns (c : Thread nD τ) (b t).a1 fullShare (x t).x1)
      ∗ (∃ d : D2, owns (c : Thread nD τ) (b t).a2 fullShare (x t).x2) ∗ (∃ d : D3, owns (c : Thread nD τ) (b t).a3 fullShare (x t).x3)
      ∗ (∃ d : D4, owns (c : Thread nD τ) (b t).a4 fullShare (f4 d)) ∗ (∃ d : D5, owns (c : Thread nD τ) (b t).a5 fullShare (f5 d)))
    ⊢ wp frame (wpE D Variants.none c none) Set.univ (body Λ (grid0.coords t) (b t).a0 (b t).w0 (b t).a1 (b t).w1 (b t).a2 (b t).w2 (b t).a3 (b t).w3 (b t).a4 (b t).w4 (b t).a5 (b t).w5 scM0_0 (Memref.isWhole_whole _)) (fun _ =>
      iprop(PhiS c b x (t.val + 1) t.isLt ∗ X
        ∗ owns (c : Thread nD τ) (b t).a0 fullShare (x t).x0 ∗ owns (c : Thread nD τ) (b t).a1 fullShare (x t).x1
        ∗ owns (c : Thread nD τ) (b t).a2 fullShare (x t).x2 ∗ owns (c : Thread nD τ) (b t).a3 fullShare (x t).x3
        ∗ owns (c : Thread nD τ) (b t).a4 fullShare (outsAt0 c b x t.val t.isLt).1.1 ∗ owns (c : Thread nD τ) (b t).a5 fullShare (outsAt0 c b x t.val t.isLt).1.2)) := by
  rw [PhiS_succ]
  have hN : t.val < 32 := lt_of_lt_of_eq t.isLt N_0
  by_cases h0 : t.val % 32 = 0
  · by_cases hz : t.val = 0
    · rw [PhiS_zero c b x _ _ hz]
      rw [outsAt0_A c b x t h0]
      unfold first out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (x t).x0 (x t).x1 (x t).x2 (x t).x3).2.2.2 Λ D Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · exfalso; omega
  · by_cases hz : t.val = 0
    · exfalso; omega
    · rw [PhiS_pos c b x _ _ hz]
      rw [outsAt0_B c b x t h0]
      unfold later out0_B_4 out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (x t).x0 (x t).x1 (x t).x2 (x t).x3 _).2.2.2 Λ D Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)
end

end Cert.KeysInIdeal.Gen

end
-- ==== Proof.HeadsArr.lean ====
module
public import proofs.«01_k».proof.Proof.Heads
public import proofs.«01_k».proof.Proof.HeadsRun

/-! The projection's epilogue "heads": what each grid point keeps of the weights and writes. -/

@[expose] public section
set_option maxRecDepth 16384
noncomputable section
open Idealize.ShloMosaic Idealize.ShloMosaic.TcCoe Idealize.SL.Sem
namespace Cert.KeysInIdeal.Value
open Cert.KeysInIdeal Cert.KeysInIdeal.Gen Cert.Segments
open Cert.ConvOutIdeal.Value (whole_w canon_whole orow)

theorem stored_at (x : FVec Ideal S2048x1024 .f32) : k0_pay1 (F := Ideal) x = x := stored_id x _ _

theorem written_at (a : FVec Ideal S512x2048 .bf16) (W : FVec Ideal S2048x1024 .bf16) (r : Fin 512) (d : Fin 1024) :
    k0_pay2 (F := Ideal) a W (ix2 r d) = plain (rowOf a W r) d := by
  unfold plain rowOf
  pointwise [k0_pay2]

theorem written_eq (a : FVec Ideal S512x2048 .bf16) (W : FVec Ideal S2048x1024 .bf16) : k0_pay2 (F := Ideal) a W = segArr plain a W := by
  funext y
  obtain ⟨r, d, rfl⟩ : ∃ (r : Fin 512) (d : Fin 1024), y = ix2 r d := ⟨y 0, y 1, by funext a; fin_cases a <;> rfl⟩
  exact written_at a W r d

/-- The eight stores, last first. -/
abbrev heads (a : FVec Ideal S512x2048 .bf16) (W : FVec Ideal S2048x1024 .bf16) : List (View.Piece (Elt Ideal) S4096x128 .f32) :=
  [⟨⟨(⟨![7, 0], S512x128.size, ![8, 1], inb_S4096x128_S512x128_7_0_s_8_1⟩ : LoadRect S4096x128), spos_8_1⟩, k0_pay10 (F := Ideal) a W⟩,
    ⟨⟨(⟨![6, 0], S512x128.size, ![8, 1], inb_S4096x128_S512x128_6_0_s_8_1⟩ : LoadRect S4096x128), spos_8_1⟩, k0_pay9 (F := Ideal) a W⟩,
    ⟨⟨(⟨![5, 0], S512x128.size, ![8, 1], inb_S4096x128_S512x128_5_0_s_8_1⟩ : LoadRect S4096x128), spos_8_1⟩, k0_pay8 (F := Ideal) a W⟩,
    ⟨⟨(⟨![4, 0], S512x128.size, ![8, 1], inb_S4096x128_S512x128_4_0_s_8_1⟩ : LoadRect S4096x128), spos_8_1⟩, k0_pay7 (F := Ideal) a W⟩,
    ⟨⟨(⟨![3, 0], S512x128.size, ![8, 1], inb_S4096x128_S512x128_3_0_s_8_1⟩ : LoadRect S4096x128), spos_8_1⟩, k0_pay6 (F := Ideal) a W⟩,
    ⟨⟨(⟨![2, 0], S512x128.size, ![8, 1], inb_S4096x128_S512x128_2_0_s_8_1⟩ : LoadRect S4096x128), spos_8_1⟩, k0_pay5 (F := Ideal) a W⟩,
    ⟨⟨(⟨![1, 0], S512x128.size, ![8, 1], inb_S4096x128_S512x128_1_0_s_8_1⟩ : LoadRect S4096x128), spos_8_1⟩, k0_pay4 (F := Ideal) a W⟩,
    ⟨⟨(⟨![0, 0], S512x128.size, ![8, 1], inb_S4096x128_S512x128_0_0_s_8_1⟩ : LoadRect S4096x128), spos_8_1⟩, k0_pay3 (F := Ideal) a W⟩]

/-- The eight stores leave the block's product by heads. -/
theorem heads_canon (a : FVec Ideal S512x2048 .bf16) (W : FVec Ideal S2048x1024 .bf16)
    (hcov : ∀ y : S4096x128.Idx, ∃ p ∈ heads a W, y ∈ p.1.set) :
    View.canon (heads a W) = byHead 512 (N := 4096) rfl (segArr plain a W) := by
  funext y
  rw [← written_eq]
  refine View.canon_apply_of_pieces _ _ ?_ y (hcov y)
  refine (List.forall_mem_cons (p := fun q : View.Piece (Elt Ideal) S4096x128 .f32 => ∀ x, q.2 x = _)).mpr ⟨fun x => head_at 7 896 (by decide) rfl (k0_pay2 (F := Ideal) a W) slices_S512x1024_o0_896_S512x128 inb_S4096x128_S512x128_7_0_s_8_1 spos_8_1 x, ?_⟩
  refine (List.forall_mem_cons (p := fun q : View.Piece (Elt Ideal) S4096x128 .f32 => ∀ x, q.2 x = _)).mpr ⟨fun x => head_at 6 768 (by decide) rfl (k0_pay2 (F := Ideal) a W) slices_S512x1024_o0_768_S512x128 inb_S4096x128_S512x128_6_0_s_8_1 spos_8_1 x, ?_⟩
  refine (List.forall_mem_cons (p := fun q : View.Piece (Elt Ideal) S4096x128 .f32 => ∀ x, q.2 x = _)).mpr ⟨fun x => head_at 5 640 (by decide) rfl (k0_pay2 (F := Ideal) a W) slices_S512x1024_o0_640_S512x128 inb_S4096x128_S512x128_5_0_s_8_1 spos_8_1 x, ?_⟩
  refine (List.forall_mem_cons (p := fun q : View.Piece (Elt Ideal) S4096x128 .f32 => ∀ x, q.2 x = _)).mpr ⟨fun x => head_at 4 512 (by decide) rfl (k0_pay2 (F := Ideal) a W) slices_S512x1024_o0_512_S512x128 inb_S4096x128_S512x128_4_0_s_8_1 spos_8_1 x, ?_⟩
  refine (List.forall_mem_cons (p := fun q : View.Piece (Elt Ideal) S4096x128 .f32 => ∀ x, q.2 x = _)).mpr ⟨fun x => head_at 3 384 (by decide) rfl (k0_pay2 (F := Ideal) a W) slices_S512x1024_o0_384_S512x128 inb_S4096x128_S512x128_3_0_s_8_1 spos_8_1 x, ?_⟩
  refine (List.forall_mem_cons (p := fun q : View.Piece (Elt Ideal) S4096x128 .f32 => ∀ x, q.2 x = _)).mpr ⟨fun x => head_at 2 256 (by decide) rfl (k0_pay2 (F := Ideal) a W) slices_S512x1024_o0_256_S512x128 inb_S4096x128_S512x128_2_0_s_8_1 spos_8_1 x, ?_⟩
  refine (List.forall_mem_cons (p := fun q : View.Piece (Elt Ideal) S4096x128 .f32 => ∀ x, q.2 x = _)).mpr ⟨fun x => head_at 1 128 (by decide) rfl (k0_pay2 (F := Ideal) a W) slices_S512x1024_o0_128_S512x128 inb_S4096x128_S512x128_1_0_s_8_1 spos_8_1 x, ?_⟩
  refine (List.forall_mem_cons (p := fun q : View.Piece (Elt Ideal) S4096x128 .f32 => ∀ x, q.2 x = _)).mpr ⟨fun x => head_at 0 0 (by decide) rfl (k0_pay2 (F := Ideal) a W) slices_S512x1024_o0_0_S512x128 inb_S4096x128_S512x128_0_0_s_8_1 spos_8_1 x, ?_⟩
  exact fun p hp => absurd hp List.not_mem_nil

variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S4096x128 .f32) (harg6 : arg6.IsWhole) (arg7 : Memref sig .tc .vmem S2048x1024 .bf16) (harg7 : arg7.IsWhole)
    (x0 : Vec Ideal S512x2048 .bf16) (x1 : Vec Ideal S2048x1024 .f32) (x2 x3 : Vec Ideal S1x1024 .f32) (xs0 : Vec Ideal S2048x1024 .bf16)

theorem canon_stored : View.canon (kernelRun0_A.sl.HS0_1 (F := Ideal) c arg2 harg2 x1) = x1 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (stored_at _).trans (whole_w x1 _)

theorem sout_first (hc0 : cond0_0 i) : sout0_A_0 (F := Ideal) c i arg1 harg1 arg2 harg2 arg3 harg3 arg4 harg4 arg5 harg5 arg6 harg6 arg7 harg7 x0 x1 x2 x3 hc0 = x1 := by
  have hcov := scover0_A_0 (F := Ideal) c i arg1 harg1 arg2 harg2 arg3 harg3 arg4 harg4 arg5 harg5 arg6 harg6 arg7 harg7 x0 x1 x2 x3 hc0
  unfold sout0_A_0
  rw [View.read_writes_eq_canon _ _ _ hcov]
  unfold kernelRun0_A
  exact canon_stored c arg2 harg2 x1

theorem out_first (hc0 : cond0_0 i) : out0_A_4 (F := Ideal) c i arg1 harg1 arg2 harg2 arg3 harg3 arg4 harg4 arg5 harg5 arg6 harg6 arg7 harg7 x0 x1 x2 x3 hc0 = segArr plain x0 x1 := by
  unfold out0_A_4
  rw [View.read_writes_eq_canon _ _ _ (fun y => cover0_A_4 c i arg1 harg1 arg2 harg2 arg3 harg3 arg4 harg4 arg5 harg5 arg6 harg6 arg7 harg7 x0 x1 x2 x3 hc0 y)]
  unfold kernelRun0_A
  dsimp only
  refine canon_whole _ _ inb_S512x1024_S512x1024_0_0 (fun r d => ?_)
  unfold kernelRun0_A.sl.v4
  rw [View.readCov_eq_canon', canon_stored]
  simp (disch := decide) only [View.readAt_eq_ld, Memref.IsWhole.read_unread]
  rw [written_at, whole_h]
  exact congrArg (fun W => plain (rowOf x0 W r) d) (whole_s x1 _)

theorem heads_first (hc0 : cond0_0 i) : out0_A_5 (F := Ideal) c i arg1 harg1 arg2 harg2 arg3 harg3 arg4 harg4 arg5 harg5 arg6 harg6 arg7 harg7 x0 x1 x2 x3 hc0 = byHead 512 (N := 4096) rfl (segArr plain x0 x1) := by
  have hcov := cover0_A_5 (F := Ideal) c i arg1 harg1 arg2 harg2 arg3 harg3 arg4 harg4 arg5 harg5 arg6 harg6 arg7 harg7 x0 x1 x2 x3 hc0
  unfold out0_A_5
  rw [View.read_writes_eq_canon _ _ _ hcov]
  have hp : (kernelRun0_A (F := Ideal) c i arg1 harg1 arg2 harg2 arg3 harg3 arg4 harg4 arg5 harg5 arg6 harg6 arg7 harg7 hc0 x0 x1 x2 x3).2.1
      = heads (View.readAt (Elt Ideal) arg1.view (Rect.unit (s := S512x2048) ![0, 0] S512x2048.size inb_S512x2048_S512x2048_0_0).toLoadRect (harg1.unread x0)) (kernelRun0_A.sl.v4 (F := Ideal) c arg2 harg2 arg7 x1) := rfl
  rw [hp] at hcov ⊢
  rw [heads_canon _ _ hcov]
  unfold kernelRun0_A.sl.v4
  rw [View.readCov_eq_canon', canon_stored]
  simp (disch := decide) only [View.readAt_eq_ld, Memref.IsWhole.read_unread]
  rw [whole_h]
  exact congrArg (fun W => byHead 512 (N := 4096) rfl (segArr plain x0 W)) (whole_s x1 _)

theorem out_later (hc0 : ¬cond0_0 i) : out0_B_4 (F := Ideal) c i arg1 harg1 arg2 harg2 arg3 harg3 arg4 harg4 arg5 harg5 arg6 harg6 arg7 harg7 x0 x1 x2 x3 xs0 hc0 = segArr plain x0 xs0 := by
  unfold out0_B_4
  rw [View.read_writes_eq_canon _ _ _ (fun y => cover0_B_4 c i arg1 harg1 arg2 harg2 arg3 harg3 arg4 harg4 arg5 harg5 arg6 harg6 arg7 harg7 x0 x1 x2 x3 xs0 hc0 y)]
  unfold kernelRun0_B
  dsimp only
  refine canon_whole _ _ inb_S512x1024_S512x1024_0_0 (fun r d => ?_)
  simp (disch := decide) only [View.readAt_eq_ld, Memref.IsWhole.read_unread]
  rw [written_at, whole_h]
  exact congrArg (fun W => plain (rowOf x0 W r) d) (whole_s xs0 _)

theorem heads_later (hc0 : ¬cond0_0 i) : out0_B_5 (F := Ideal) c i arg1 harg1 arg2 harg2 arg3 harg3 arg4 harg4 arg5 harg5 arg6 harg6 arg7 harg7 x0 x1 x2 x3 xs0 hc0 = byHead 512 (N := 4096) rfl (segArr plain x0 xs0) := by
  have hcov := cover0_B_5 (F := Ideal) c i arg1 harg1 arg2 harg2 arg3 harg3 arg4 harg4 arg5 harg5 arg6 harg6 arg7 harg7 x0 x1 x2 x3 xs0 hc0
  unfold out0_B_5
  rw [View.read_writes_eq_canon _ _ _ hcov]
  have hp : (kernelRun0_B (F := Ideal) c i arg1 harg1 arg2 harg2 arg3 harg3 arg4 harg4 arg5 harg5 arg6 harg6 arg7 harg7 hc0 x0 x1 x2 x3 xs0).2.1
      = heads (View.readAt (Elt Ideal) arg1.view (Rect.unit (s := S512x2048) ![0, 0] S512x2048.size inb_S512x2048_S512x2048_0_0).toLoadRect (harg1.unread x0)) (View.readAt (Elt Ideal) arg7.view (Rect.unit (s := S2048x1024) ![0, 0] S2048x1024.size inb_S2048x1024_S2048x1024_0_0).toLoadRect (harg7.unread xs0)) := rfl
  rw [hp] at hcov ⊢
  rw [heads_canon _ _ hcov]
  simp (disch := decide) only [View.readAt_eq_ld, Memref.IsWhole.read_unread]
  rw [whole_h]
  exact congrArg (fun W => byHead 512 (N := 4096) rfl (segArr plain x0 W)) (whole_s xs0 _)

/-- Where every point's block of the weights is `W`, every point leaves its rows' product with `W`, plain and by heads. -/
theorem outs_at (c : Dev nD) (b : Fin grid0.N → Bufs) (x : Fin grid0.N → Ins Ideal) (W : FVec Ideal S2048x1024 .f32) (hx : ∀ t, (x t).x1 = W) :
    ∀ t : Fin grid0.N, (outsAt0 c b x t.val t.isLt).1 = (segArr plain (x t).x0 W, byHead 512 (N := 4096) rfl (segArr plain (x t).x0 W)) := by
  refine outs_of (outsAt0 c b x) W (fun t L => (segArr plain (x t).x0 L, byHead 512 (N := 4096) rfl (segArr plain (x t).x0 L))) (fun t h0 => ?_) (fun t L h0 hL => ?_)
  · rw [outsAt0_A c b x t h0]
    unfold first
    rw [out_first, heads_first, sout_first, hx]
  · rw [outsAt0_B c b x t h0, hL]
    unfold later
    rw [out_later, heads_later]

end Cert.KeysInIdeal.Value
end
-- ==== Proof.KeysInArr.lean ====
module
public import proofs.«01_k».proof.Proof.HeadsArr
public import proofs.«01_k».proof.Proof.KeysInFrame

/-! The keys' segment of the input projection: the result arrays. -/

@[expose] public section
set_option maxRecDepth 16384
noncomputable section
open Idealize.ShloMosaic Idealize.ShloMosaic.TcCoe Idealize.SL.Sem
namespace Cert.KeysInIdeal.Value
open Cert.KeysInIdeal Cert.KeysInIdeal.Gen Cert.Segments
open Cert.ConvOutIdeal.Value (orow)

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 4 := by decide +kernel
theorem idx_o : ∀ t : Fin grid0.N, win0_4.index t 0 = (grid0.coords t 0 : ℕ) ∧ win0_4.index t 1 = 0 := by decide +kernel

theorem idx_p : ∀ t : Fin grid0.N, win0_5.index t 0 = (grid0.coords t 0 : ℕ) ∧ win0_5.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 4 := by
  funext y
  unfold segW scol
  blk_ext [iblk, V_main_arg1, idx_w t]

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr plain (m ((c : Thread nD τ).loc main_arg0)) (segW (m ((c : Thread nD τ).loc main_arg1)) 4) := by
  refine (dats m 0 c).arrAt_eq_of_covers 4 _ (by decide +kernel) fun t _ y => ?_
  blk_simp
  rw [after0_4, outs_at c bufs (ins m c) _ (blk_w m c), emb4]
  dsimp only
  exact segArr_blk _ _ _ _ _ (blk_h m c t) y

theorem arr5_eq (c : Dev nD) : (dats m 0 c).arrAt 5 cfg0.N
    = byHead 16384 (N := 131072) rfl (segArr plain (m ((c : Thread nD τ).loc main_arg0)) (segW (m ((c : Thread nD τ).loc main_arg1)) 4)) := by
  refine (dats m 0 c).arrAt_eq_of_covers 5 _ (by decide +kernel) fun t _ y => ?_
  blk_simp
  rw [after0_5, outs_at c bufs (ins m c) _ (blk_w m c)]
  dsimp only
  obtain ⟨h0, h1⟩ := idx_p t
  refine byHead_blk _ _ _ _ _ (blk_h m c t) y _ ?_ ?_
  · blk_simp [h0]
  · blk_simp [h1]

/-- The run with both result arrays named and the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩) (θ_run_and (run_main m ρ) (unchanged m ρ))
end

end Cert.KeysInIdeal.Value
end
-- ==== Proof.KeysInRef.lean ====
module
public import proofs.«01_k».proof.Proof.KeysInArr
public import proofs.«01_k».proof.Proof.Heads
public import proofs.«01_k».proof.Proof.Gen.KeysInRefIdeal.Run

/-! The keys' segment of the input projection: the reference's two results. -/

@[expose] public section
set_option maxRecDepth 16384
noncomputable section
open Idealize.ShloMosaic Idealize.ShloMosaic.TcCoe Idealize.SL.Sem
namespace Cert.KeysInRefIdeal.Value
open Cert.KeysInRefIdeal Cert.KeysInRefIdeal.Gen Cert.Segments

/-- The segment of the product. -/
def seg (h : FVec Ideal S16384x2048 .bf16) (w : FVec Ideal S2048x7168 .f32) : FVec Ideal S16384x1024 .f32 :=
  extractStridedSlice S16384x1024 ![0, 4096] (Host.dotGeneral dot_S16384x2048_S2048x7168_S16384x7168_1_0_0_1_n_n none (extf .f32 h bitsLt_bf16_f32) w) slices_S16384x7168_S16384x1024_0_4096

theorem seg_at (h : FVec Ideal S16384x2048 .bf16) (w : FVec Ideal S2048x7168 .f32) (r : Fin 16384) (d : Fin 1024) :
    seg h w (ix2 r d) = rowOf h (segW w 4) r d := by
  unfold rowOf segW scol
  pointwise [seg]

/-- The segment as it is. -/
def act (v : FVec Ideal S16384x1024 .f32) : FVec Ideal S16384x1024 .f32 :=
  v

theorem act_at (v : FVec Ideal S16384x1024 .f32) (r : Fin 16384) (d : Fin 1024) : act v (ix2 r d) = plain (fun x => v (ix2 r x)) d := by
  unfold plain
  pointwise [act]

theorem out_eq (h : FVec Ideal S16384x2048 .bf16) (w : FVec Ideal S2048x7168 .f32) : act (seg h w) = segArr plain h (segW w 4) := by
  funext y
  obtain ⟨r, d, rfl⟩ : ∃ (r : Fin 16384) (d : Fin 1024), y = ix2 r d := ⟨y 0, y 1, by funext a; fin_cases a <;> rfl⟩
  refine (act_at _ r d).trans ?_
  show plain _ d = plain _ d
  exact congrArg (fun p => plain p d) (funext fun x => seg_at h w r x)

/-- The segment by heads. -/
theorem heads_eq (h : FVec Ideal S16384x2048 .bf16) (w : FVec Ideal S2048x7168 .f32) :
    shapeCast S131072x128 (seg h w) shapeCasts_S16384x1024_S131072x128 = byHead 16384 (N := 131072) rfl (segArr plain h (segW w 4)) :=
  (cast_heads _ _).trans (congrArg (byHead 16384 (N := 131072) rfl) (out_eq h w))

end Cert.KeysInRefIdeal.Value
end
-- ==== Proof.KeysInClaims.lean ====
module

public import proofs.«01_k».proof.Defs
public import proofs.«01_k».proof.Proof.KeysInRef
public import proofs.«01_k».proof.Proof.Gen.KeysIn
public import Idealize.ShloMosaic.Lib.Quiescent

/-! The claims about the keys' segment of the input projection. -/

@[expose] public section
set_option maxRecDepth 16384
noncomputable section
open Idealize.ShloMosaic Idealize.ShloMosaic.TcCoe Idealize.SL.Sem
namespace Cert.Proof.KeysIn

section
variable {F : FTy → Type} [FloatOps F]

/-- The two programs run the same bodies. -/
theorem same_bodies : Cert.KeysIn.defs₀ (F := F) = Cert.KeysInIdeal.defs₀ (F := F) := by
  unfold Cert.KeysIn.defs₀ Cert.KeysInIdeal.defs₀
  congr 1
  funext a b
  match a, b with
  | 0, (t, s) => rfl

theorem same_defs : Cert.KeysIn.defs (F := F) = Cert.KeysInIdeal.defs (F := F) := by
  unfold Cert.KeysIn.defs Cert.KeysInIdeal.defs
  exact congrArg (Pipeline.defs _) same_bodies
end

theorem frame_p : Cert.quiescent_KeysIn := by
  intro m ρ _
  rw [same_defs]
  exact Cert.KeysInIdeal.Gen.frame m ρ
theorem frame_pi : Cert.quiescent_KeysInIdeal := fun m ρ _ => Cert.KeysInIdeal.Gen.frame m ρ
theorem frame_ri : Cert.quiescent_KeysInRefIdeal := fun m ρ _ =>
  (θ_run Cert.KeysInRefIdeal.defs _ _).mono (fun r h => ⟨fun c => (h c).2.2, sem_eq_zero_of_no_sems (by decide) r.2⟩)
    (Cert.KeysInRefIdeal.Value.run (F := Ideal) m ρ)

theorem preserves : Cert.preserves_KeysIn_KeysInIdeal := trivial

theorem algebraic : Cert.algebraic_KeysInIdeal_KeysInRefIdeal := by
  intro m ρ m' ρ' hpre hag
  refine ⟨_, _, Cert.KeysInIdeal.Value.run_arrays m ρ, ?_⟩
  refine (θ_run Cert.KeysInRefIdeal.defs _ _).mono (fun _ h c => ⟨(h c).1.trans ?_, (h c).2.1.trans ?_, (h c).2.2⟩) (Cert.KeysInRefIdeal.Value.run (F := Ideal) m' ρ')
  · rw [(hag c).1, (hag c).2.1]
    exact (Cert.KeysInRefIdeal.Value.out_eq _ _).trans (Cert.KeysInIdeal.Value.arr4_eq m c).symm
  · rw [(hag c).1, (hag c).2.1]
    exact (Cert.KeysInRefIdeal.Value.heads_eq _ _).trans (Cert.KeysInIdeal.Value.arr5_eq m c).symm

end Cert.Proof.KeysIn
end
-- ==== Proof.ValuesInFrame.lean ====
module

public import proofs.«01_k».proof.Proof.Gen.ValuesInIdeal.Frame
public import proofs.«01_k».proof.Proof.HeadsRun

/-! The values' segment of the input projection: the run of the whole call. -/

@[expose] public section
set_option maxRecDepth 16384
noncomputable section
namespace Cert.ValuesInIdeal.Gen
open Idealize.ShloMosaic Idealize.ShloMosaic.TcCoe Idealize.ShloMosaic.Tactic
open Cert.KeysInIdeal.Gen (Bufs Ins outsAt0 PhiS PhiS_any body_at scM0_0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Each point's buffers and blocks. -/
abbrev bufs (t : Fin grid0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5)⟩
abbrev ins (c : Dev nD) (t : Fin grid0.N) : Ins F := ⟨iblk m c 0 t, iblk m c 1 t, iblk m c 2 t, iblk m c 3 t⟩

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The arrays as the call finds them, and each window's buffer after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 c bufs (ins m c) t.val t.isLt).1.1
    | ⟨5, _⟩ => (outsAt0 c bufs (ins m c) t.val t.isLt).1.2
  Φ t := PhiS c bufs (ins m c) t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS c bufs (ins m c) t.val (Nat.le_of_lt t.isLt) := by
  dsimp only [dats]; exact Pipeline.Dat.Φ_castSucc (PhiS c bufs (ins m c)) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 c bufs (ins m c) t.val t.isLt).1.1 := by dsimp only [dats]
theorem after0_5 (c : Dev nD) (t : Fin cfg0.N) : (dats m 0 c).after 5 t = (outsAt0 c bufs (ins m c) t.val t.isLt).1.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (bufs t).a0 fullShare ((dats m 0 c).before 0 t d))
    ∗ (∃ d, owns (c : Thread nD τ) (bufs t).a1 fullShare ((dats m 0 c).before 1 t d))
    ∗ (∃ d, owns (c : Thread nD τ) (bufs t).a2 fullShare ((dats m 0 c).before 2 t d))
    ∗ (∃ d, owns (c : Thread nD τ) (bufs t).a3 fullShare ((dats m 0 c).before 3 t d))
    ∗ (∃ d, owns (c : Thread nD τ) (bufs t).a4 fullShare ((dats m 0 c).before 4 t d))
    ∗ (∃ d, owns (c : Thread nD τ) (bufs t).a5 fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (bufs t).a0 fullShare ((dats m 0 c).after 0 t)
    ∗ owns (c : Thread nD τ) (bufs t).a1 fullShare ((dats m 0 c).after 1 t)
    ∗ owns (c : Thread nD τ) (bufs t).a2 fullShare ((dats m 0 c).after 2 t)
    ∗ owns (c : Thread nD τ) (bufs t).a3 fullShare ((dats m 0 c).after 3 t)
    ∗ owns (c : Thread nD τ) (bufs t).a4 fullShare ((dats m 0 c).after 4 t)
    ∗ owns (c : Thread nD τ) (bufs t).a5 fullShare ((dats m 0 c).after 5 t))

set_option maxHeartbeats 3000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS c bufs (ins m c) (t.val + 1) t.isLt from rfl, PhiS_castSucc m c t]
  exact body_at c bufs (ins m c) defs₀ _ _ _ t

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [PhiA0_eq]
  exact Idealize.SL.BI.Entails.refl _

/-- After the last point the invariant gives it back: the scratch's contents are forgotten. -/
theorem hout (c : Dev nD) : (dats m 0 c).Φ (Fin.last cfg0.N) ⊢ Pipeline.ΦA spec0 c := by
  rw [PhiA0_eq]
  exact PhiS_any c bufs (ins m c) grid0.N (Nat.le_refl _) (by rw [show grid0.N = 32 from N_0]; decide)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ValuesInIdeal.Gen

end
-- ==== Proof.ValuesInArr.lean ====
module
public import proofs.«01_k».proof.Proof.HeadsArr
public import proofs.«01_k».proof.Proof.ValuesInFrame

/-! The values' segment of the input projection: the result arrays. -/

@[expose] public section
set_option maxRecDepth 16384
noncomputable section
open Idealize.ShloMosaic Idealize.ShloMosaic.TcCoe Idealize.SL.Sem
namespace Cert.ValuesInIdeal.Value
open Cert.ValuesInIdeal Cert.ValuesInIdeal.Gen Cert.Segments
open Cert.ConvOutIdeal.Value (orow)
open Cert.KeysInIdeal.Value (outs_at)

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 5 := by decide +kernel
theorem idx_o : ∀ t : Fin grid0.N, win0_4.index t 0 = (grid0.coords t 0 : ℕ) ∧ win0_4.index t 1 = 0 := by decide +kernel

theorem idx_p : ∀ t : Fin grid0.N, win0_5.index t 0 = (grid0.coords t 0 : ℕ) ∧ win0_5.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 5 := by
  funext y
  unfold segW scol
  blk_ext [iblk, V_main_arg1, idx_w t]

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr plain (m ((c : Thread nD τ).loc main_arg0)) (segW (m ((c : Thread nD τ).loc main_arg1)) 5) := by
  refine (dats m 0 c).arrAt_eq_of_covers 4 _ (by decide +kernel) fun t _ y => ?_
  blk_simp
  rw [after0_4, outs_at c bufs (ins m c) _ (blk_w m c), emb4]
  dsimp only
  exact segArr_blk _ _ _ _ _ (blk_h m c t) y

theorem arr5_eq (c : Dev nD) : (dats m 0 c).arrAt 5 cfg0.N
    = byHead 16384 (N := 131072) rfl (segArr plain (m ((c : Thread nD τ).loc main_arg0)) (segW (m ((c : Thread nD τ).loc main_arg1)) 5)) := by
  refine (dats m 0 c).arrAt_eq_of_covers 5 _ (by decide +kernel) fun t _ y => ?_
  blk_simp
  rw [after0_5, outs_at c bufs (ins m c) _ (blk_w m c)]
  dsimp only
  obtain ⟨h0, h1⟩ := idx_p t
  refine byHead_blk _ _ _ _ _ (blk_h m c t) y _ ?_ ?_
  · blk_simp [h0]
  · blk_simp [h1]

/-- The run with both result arrays named and the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩) (θ_run_and (run_main m ρ) (unchanged m ρ))
end

end Cert.ValuesInIdeal.Value
end
-- ==== Proof.ValuesInRef.lean ====
module
public import proofs.«01_k».proof.Proof.ValuesInArr
public import proofs.«01_k».proof.Proof.Heads
public import proofs.«01_k».proof.Proof.Gen.ValuesInRefIdeal.Run

/-! The values' segment of the input projection: the reference's two results. -/

@[expose] public section
set_option maxRecDepth 16384
noncomputable section
open Idealize.ShloMosaic Idealize.ShloMosaic.TcCoe Idealize.SL.Sem
namespace Cert.ValuesInRefIdeal.Value
open Cert.ValuesInRefIdeal Cert.ValuesInRefIdeal.Gen Cert.Segments

/-- The segment of the product. -/
def seg (h : FVec Ideal S16384x2048 .bf16) (w : FVec Ideal S2048x7168 .f32) : FVec Ideal S16384x1024 .f32 :=
  extractStridedSlice S16384x1024 ![0, 5120] (Host.dotGeneral dot_S16384x2048_S2048x7168_S16384x7168_1_0_0_1_n_n none (extf .f32 h bitsLt_bf16_f32) w) slices_S16384x7168_S16384x1024_0_5120

theorem seg_at (h : FVec Ideal S16384x2048 .bf16) (w : FVec Ideal S2048x7168 .f32) (r : Fin 16384) (d : Fin 1024) :
    seg h w (ix2 r d) = rowOf h (segW w 5) r d := by
  unfold rowOf segW scol
  pointwise [seg]

/-- The segment as it is. -/
def act (v : FVec Ideal S16384x1024 .f32) : FVec Ideal S16384x1024 .f32 :=
  v

theorem act_at (v : FVec Ideal S16384x1024 .f32) (r : Fin 16384) (d : Fin 1024) : act v (ix2 r d) = plain (fun x => v (ix2 r x)) d := by
  unfold plain
  pointwise [act]

theorem out_eq (h : FVec Ideal S16384x2048 .bf16) (w : FVec Ideal S2048x7168 .f32) : act (seg h w) = segArr plain h (segW w 5) := by
  funext y
  obtain ⟨r, d, rfl⟩ : ∃ (r : Fin 16384) (d : Fin 1024), y = ix2 r d := ⟨y 0, y 1, by funext a; fin_cases a <;> rfl⟩
  refine (act_at _ r d).trans ?_
  show plain _ d = plain _ d
  exact congrArg (fun p => plain p d) (funext fun x => seg_at h w r x)

/-- The segment by heads. -/
theorem heads_eq (h : FVec Ideal S16384x2048 .bf16) (w : FVec Ideal S2048x7168 .f32) :
    shapeCast S131072x128 (seg h w) shapeCasts_S16384x1024_S131072x128 = byHead 16384 (N := 131072) rfl (segArr plain h (segW w 5)) :=
  (cast_heads _ _).trans (congrArg (byHead 16384 (N := 131072) rfl) (out_eq h w))

end Cert.ValuesInRefIdeal.Value
end
-- ==== Proof.ValuesInClaims.lean ====
module

public import proofs.«01_k».proof.Defs
public import proofs.«01_k».proof.Proof.ValuesInRef
public import proofs.«01_k».proof.Proof.Gen.ValuesIn
public import Idealize.ShloMosaic.Lib.Quiescent

/-! The claims about the values' segment of the input projection. -/

@[expose] public section
set_option maxRecDepth 16384
noncomputable section
open Idealize.ShloMosaic Idealize.ShloMosaic.TcCoe Idealize.SL.Sem
namespace Cert.Proof.ValuesIn

section
variable {F : FTy → Type} [FloatOps F]

/-- The two programs run the same bodies. -/
theorem same_bodies : Cert.ValuesIn.defs₀ (F := F) = Cert.ValuesInIdeal.defs₀ (F := F) := by
  unfold Cert.ValuesIn.defs₀ Cert.ValuesInIdeal.defs₀
  congr 1
  funext a b
  match a, b with
  | 0, (t, s) => rfl

theorem same_defs : Cert.ValuesIn.defs (F := F) = Cert.ValuesInIdeal.defs (F := F) := by
  unfold Cert.ValuesIn.defs Cert.ValuesInIdeal.defs
  exact congrArg (Pipeline.defs _) same_bodies
end

theorem frame_p : Cert.quiescent_ValuesIn := by
  intro m ρ _
  rw [same_defs]
  exact Cert.ValuesInIdeal.Gen.frame m ρ
theorem frame_pi : Cert.quiescent_ValuesInIdeal := fun m ρ _ => Cert.ValuesInIdeal.Gen.frame m ρ
theorem frame_ri : Cert.quiescent_ValuesInRefIdeal := fun m ρ _ =>
  (θ_run Cert.ValuesInRefIdeal.defs _ _).mono (fun r h => ⟨fun c => (h c).2.2, sem_eq_zero_of_no_sems (by decide) r.2⟩)
    (Cert.ValuesInRefIdeal.Value.run (F := Ideal) m ρ)

theorem preserves : Cert.preserves_ValuesIn_ValuesInIdeal := trivial

theorem algebraic : Cert.algebraic_ValuesInIdeal_ValuesInRefIdeal := by
  intro m ρ m' ρ' hpre hag
  refine ⟨_, _, Cert.ValuesInIdeal.Value.run_arrays m ρ, ?_⟩
  refine (θ_run Cert.ValuesInRefIdeal.defs _ _).mono (fun _ h c => ⟨(h c).1.trans ?_, (h c).2.1.trans ?_, (h c).2.2⟩) (Cert.ValuesInRefIdeal.Value.run (F := Ideal) m' ρ')
  · rw [(hag c).1, (hag c).2.1]
    exact (Cert.ValuesInRefIdeal.Value.out_eq _ _).trans (Cert.ValuesInIdeal.Value.arr4_eq m c).symm
  · rw [(hag c).1, (hag c).2.1]
    exact (Cert.ValuesInRefIdeal.Value.heads_eq _ _).trans (Cert.ValuesInIdeal.Value.arr5_eq m c).symm

end Cert.Proof.ValuesIn
end
-- ==== Proof.QueriesInArr.lean ====
module
public import proofs.«01_k».proof.Proof.Segments
public import proofs.«01_k».proof.Proof.Gen.QueriesInIdeal.Value

/-! The queries' segment of the input projection: what each grid point keeps of the weights and writes, and the result array. -/

@[expose] public section
set_option maxRecDepth 16384
noncomputable section
open Idealize.ShloMosaic Idealize.ShloMosaic.TcCoe Idealize.SL.Sem
namespace Cert.QueriesInIdeal.Value
open Cert.QueriesInIdeal Cert.QueriesInIdeal.Gen Cert.Segments
open Cert.ConvOutIdeal.Value (whole_w canon_whole orow)

theorem stored_at (x : FVec Ideal S2048x1024 .f32) : k0_pay1 (F := Ideal) x = x := stored_id x _ _

theorem written_at (a : FVec Ideal S512x2048 .bf16) (W : FVec Ideal S2048x1024 .bf16) (r : Fin 512) (d : Fin 1024) :
    k0_pay2 (F := Ideal) a W (ix2 r d) = plain (rowOf a W r) d := by
  unfold plain rowOf
  pointwise [k0_pay2]

variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole)
    (x0 : Vec Ideal S512x2048 .bf16) (x1 : Vec Ideal S2048x1024 .f32) (x2 x3 : Vec Ideal S1x1024 .f32) (xs0 : Vec Ideal S2048x1024 .bf16)

theorem canon_stored : View.canon (kernelRun0_A.sl.HS0_1 (F := Ideal) c arg2 harg2 x1) = x1 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (stored_at _).trans (whole_w x1 _)

theorem sout_first (hc0 : cond0_0 i) : sout0_A_0 (F := Ideal) c i arg1 harg1 arg2 harg2 arg3 harg3 arg4 harg4 arg5 harg5 arg6 harg6 hc0 x0 x1 x2 x3 = x1 := by
  have hcov := scover0_A_0 (F := Ideal) c i arg1 harg1 arg2 harg2 arg3 harg3 arg4 harg4 arg5 harg5 arg6 harg6 hc0 x0 x1 x2 x3
  unfold sout0_A_0
  rw [View.read_writes_eq_canon _ _ _ hcov]
  unfold kernelRun0_A
  exact canon_stored c arg2 harg2 x1

theorem out_first (hc0 : cond0_0 i) : out0_A_4 (F := Ideal) c i arg1 harg1 arg2 harg2 arg3 harg3 arg4 harg4 arg5 harg5 arg6 harg6 hc0 x0 x1 x2 x3 = segArr plain x0 x1 := by
  unfold out0_A_4
  rw [View.read_writes_eq_canon _ _ _ (fun y => cover0_A_4 c i arg1 harg1 arg2 harg2 arg3 harg3 arg4 harg4 arg5 harg5 arg6 harg6 hc0 x0 x1 x2 x3 y)]
  unfold kernelRun0_A
  dsimp only
  refine canon_whole _ _ inb_S512x1024_S512x1024_0_0 (fun r d => ?_)
  unfold kernelRun0_A.sl.v4
  rw [View.readCov_eq_canon', canon_stored]
  simp (disch := decide) only [View.readAt_eq_ld, Memref.IsWhole.read_unread]
  rw [written_at, whole_h]
  exact congrArg (fun W => plain (rowOf x0 W r) d) (whole_s x1 _)

theorem out_later (hc0 : ¬cond0_0 i) : out0_B_4 (F := Ideal) c i arg1 harg1 arg2 harg2 arg3 harg3 arg4 harg4 arg5 harg5 arg6 harg6 hc0 x0 x1 x2 x3 xs0 = segArr plain x0 xs0 := by
  unfold out0_B_4
  rw [View.read_writes_eq_canon _ _ _ (fun y => cover0_B_4 c i arg1 harg1 arg2 harg2 arg3 harg3 arg4 harg4 arg5 harg5 arg6 harg6 hc0 x0 x1 x2 x3 xs0 y)]
  unfold kernelRun0_B
  dsimp only
  refine canon_whole _ _ inb_S512x1024_S512x1024_0_0 (fun r d => ?_)
  simp (disch := decide) only [View.readAt_eq_ld, Memref.IsWhole.read_unread]
  rw [written_at, whole_h]
  exact congrArg (fun W => plain (rowOf x0 W r) d) (whole_s xs0 _)

/-! ## The input blocks and the array -/

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 3 := by decide +kernel
theorem idx_o : ∀ t : Fin grid0.N, win0_4.index t 0 = (grid0.coords t 0 : ℕ) ∧ win0_4.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 3 := by
  funext y
  unfold segW scol
  blk_ext [iblk, V_main_arg1, idx_w t]

theorem outs4 (c : Dev nD) : ∀ t : Fin cfg0.N, (outsAt0 m c t.val t.isLt).1 = segArr plain (iblk m c 0 t) (segW (m ((c : Thread nD τ).loc main_arg1)) 3) := by
  refine outs_of (outsAt0 m c) _ (fun t W => segArr plain (iblk m c 0 t) W) (fun t h0 => ?_) (fun t L h0 hL => ?_)
  · rw [outsAt0_A m c t h0, out_first, sout_first, blk_w]
  · rw [outsAt0_B m c t h0, hL, out_later]
    rfl

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr plain (m ((c : Thread nD τ).loc main_arg0)) (segW (m ((c : Thread nD τ).loc main_arg1)) 3) := by
  refine (dats m 0 c).arrAt_eq_of_covers 4 _ (by decide +kernel) fun t _ y => ?_
  blk_simp
  rw [after0_4, outs4, emb4]
  exact segArr_blk _ _ _ _ _ (blk_h m c t) y
end

end Cert.QueriesInIdeal.Value
end
-- ==== Proof.QueriesInRef.lean ====
module
public import proofs.«01_k».proof.Proof.QueriesInArr
public import proofs.«01_k».proof.Proof.Gen.QueriesInRefIdeal.Run

/-! The queries' segment of the input projection: the reference's result. -/

@[expose] public section
set_option maxRecDepth 16384
noncomputable section
open Idealize.ShloMosaic Idealize.ShloMosaic.TcCoe Idealize.SL.Sem
namespace Cert.QueriesInRefIdeal.Value
open Cert.QueriesInRefIdeal Cert.QueriesInRefIdeal.Gen Cert.Segments

/-- The segment of the product. -/
def seg (h : FVec Ideal S16384x2048 .bf16) (w : FVec Ideal S2048x7168 .f32) : FVec Ideal S16384x1024 .f32 :=
  extractStridedSlice S16384x1024 ![0, 3072] (Host.dotGeneral dot_S16384x2048_S2048x7168_S16384x7168_1_0_0_1_n_n none (extf .f32 h bitsLt_bf16_f32) w) slices_S16384x7168_S16384x1024_0_3072

theorem seg_at (h : FVec Ideal S16384x2048 .bf16) (w : FVec Ideal S2048x7168 .f32) (r : Fin 16384) (d : Fin 1024) :
    seg h w (ix2 r d) = rowOf h (segW w 3) r d := by
  unfold rowOf segW scol
  pointwise [seg]

/-- The segment as it is. -/
def act (v : FVec Ideal S16384x1024 .f32) : FVec Ideal S16384x1024 .f32 :=
  v

theorem act_at (v : FVec Ideal S16384x1024 .f32) (r : Fin 16384) (d : Fin 1024) : act v (ix2 r d) = plain (fun x => v (ix2 r x)) d := by
  unfold plain
  pointwise [act]

theorem out_eq (h : FVec Ideal S16384x2048 .bf16) (w : FVec Ideal S2048x7168 .f32) : act (seg h w) = segArr plain h (segW w 3) := by
  funext y
  obtain ⟨r, d, rfl⟩ : ∃ (r : Fin 16384) (d : Fin 1024), y = ix2 r d := ⟨y 0, y 1, by funext a; fin_cases a <;> rfl⟩
  refine (act_at _ r d).trans ?_
  show plain _ d = plain _ d
  exact congrArg (fun p => plain p d) (funext fun x => seg_at h w r x)

end Cert.QueriesInRefIdeal.Value
end
-- ==== Proof.QueriesInClaims.lean ====
module

public import proofs.«01_k».proof.Defs
public import proofs.«01_k».proof.Proof.QueriesInRef
public import proofs.«01_k».proof.Proof.Gen.QueriesIn.Frame
public import Idealize.ShloMosaic.Lib.Quiescent

/-! The claims about the queries' segment of the input projection. -/

@[expose] public section
set_option maxRecDepth 16384
noncomputable section
open Idealize.ShloMosaic Idealize.ShloMosaic.TcCoe Idealize.SL.Sem
namespace Cert.Proof.QueriesIn

theorem frame_p : Cert.quiescent_QueriesIn := fun m ρ _ => Cert.QueriesIn.Gen.frame m ρ
theorem frame_pi : Cert.quiescent_QueriesInIdeal := fun m ρ _ => Cert.QueriesInIdeal.Gen.frame m ρ
theorem frame_ri : Cert.quiescent_QueriesInRefIdeal := fun m ρ _ =>
  (θ_run Cert.QueriesInRefIdeal.defs _ _).mono (fun r h => ⟨fun c => (h c).2, sem_eq_zero_of_no_sems (by decide) r.2⟩)
    (Cert.QueriesInRefIdeal.Value.run (F := Ideal) m ρ)

theorem preserves : Cert.preserves_QueriesIn_QueriesInIdeal := trivial

theorem algebraic : Cert.algebraic_QueriesInIdeal_QueriesInRefIdeal := by
  intro m ρ m' ρ' hpre hag
  refine ⟨_, Cert.QueriesInIdeal.Value.run_blocks (F := Ideal) m ρ, ?_⟩
  refine (θ_run Cert.QueriesInRefIdeal.defs _ _).mono (fun _ h c => ⟨(h c).1.trans ?_, (h c).2⟩) (Cert.QueriesInRefIdeal.Value.run (F := Ideal) m' ρ')
  rw [(hag c).1, (hag c).2.1]
  exact (Cert.QueriesInRefIdeal.Value.out_eq _ _).trans (Cert.QueriesInIdeal.Value.arr4_eq m c).symm

end Cert.Proof.QueriesIn
end
-- ==== Proof.GateInArr.lean ====
module
public import proofs.«01_k».proof.Proof.Segments
public import proofs.«01_k».proof.Proof.Gen.GateInIdeal.Value

/-! The gates' segment of the input projection: what each grid point keeps of the weights and writes, and the result array. -/

@[expose] public section
set_option maxRecDepth 16384
noncomputable section
open Idealize.ShloMosaic Idealize.ShloMosaic.TcCoe Idealize.SL.Sem
namespace Cert.GateInIdeal.Value
open Cert.GateInIdeal Cert.GateInIdeal.Gen Cert.Segments
open Cert.ConvOutIdeal.Value (whole_w canon_whole orow)

theorem stored_at (x : FVec Ideal S2048x1024 .f32) : k0_pay1 (F := Ideal) x = x := stored_id x _ _

theorem written_at (a : FVec Ideal S512x2048 .bf16) (W : FVec Ideal S2048x1024 .bf16) (r : Fin 512) (d : Fin 1024) :
    k0_pay2 (F := Ideal) a W (ix2 r d) = silu (rowOf a W r) d := by
  unfold silu rowOf
  pointwise [k0_pay2]

variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole)
    (x0 : Vec Ideal S512x2048 .bf16) (x1 : Vec Ideal S2048x1024 .f32) (x2 x3 : Vec Ideal S1x1024 .f32) (xs0 : Vec Ideal S2048x1024 .bf16)

theorem canon_stored : View.canon (kernelRun0_A.sl.HS0_1 (F := Ideal) c arg2 harg2 x1) = x1 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (stored_at _).trans (whole_w x1 _)

theorem sout_first (hc0 : cond0_0 i) : sout0_A_0 (F := Ideal) c i arg1 harg1 arg2 harg2 arg3 harg3 arg4 harg4 arg5 harg5 arg6 harg6 hc0 x0 x1 x2 x3 = x1 := by
  have hcov := scover0_A_0 (F := Ideal) c i arg1 harg1 arg2 harg2 arg3 harg3 arg4 harg4 arg5 harg5 arg6 harg6 hc0 x0 x1 x2 x3
  unfold sout0_A_0
  rw [View.read_writes_eq_canon _ _ _ hcov]
  unfold kernelRun0_A
  exact canon_stored c arg2 harg2 x1

theorem out_first (hc0 : cond0_0 i) : out0_A_4 (F := Ideal) c i arg1 harg1 arg2 harg2 arg3 harg3 arg4 harg4 arg5 harg5 arg6 harg6 hc0 x0 x1 x2 x3 = segArr silu x0 x1 := by
  unfold out0_A_4
  rw [View.read_writes_eq_canon _ _ _ (fun y => cover0_A_4 c i arg1 harg1 arg2 harg2 arg3 harg3 arg4 harg4 arg5 harg5 arg6 harg6 hc0 x0 x1 x2 x3 y)]
  unfold kernelRun0_A
  dsimp only
  refine canon_whole _ _ inb_S512x1024_S512x1024_0_0 (fun r d => ?_)
  unfold kernelRun0_A.sl.v4
  rw [View.readCov_eq_canon', canon_stored]
  simp (disch := decide) only [View.readAt_eq_ld, Memref.IsWhole.read_unread]
  rw [written_at, whole_h]
  exact congrArg (fun W => silu (rowOf x0 W r) d) (whole_s x1 _)

theorem out_later (hc0 : ¬cond0_0 i) : out0_B_4 (F := Ideal) c i arg1 harg1 arg2 harg2 arg3 harg3 arg4 harg4 arg5 harg5 arg6 harg6 hc0 x0 x1 x2 x3 xs0 = segArr silu x0 xs0 := by
  unfold out0_B_4
  rw [View.read_writes_eq_canon _ _ _ (fun y => cover0_B_4 c i arg1 harg1 arg2 harg2 arg3 harg3 arg4 harg4 arg5 harg5 arg6 harg6 hc0 x0 x1 x2 x3 xs0 y)]
  unfold kernelRun0_B
  dsimp only
  refine canon_whole _ _ inb_S512x1024_S512x1024_0_0 (fun r d => ?_)
  simp (disch := decide) only [View.readAt_eq_ld, Memref.IsWhole.read_unread]
  rw [written_at, whole_h]
  exact congrArg (fun W => silu (rowOf x0 W r) d) (whole_s xs0 _)

/-! ## The input blocks and the array -/

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 6 := by decide +kernel
theorem idx_o : ∀ t : Fin grid0.N, win0_4.index t 0 = (grid0.coords t 0 : ℕ) ∧ win0_4.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 6 := by
  funext y
  unfold segW scol
  blk_ext [iblk, V_main_arg1, idx_w t]

theorem outs4 (c : Dev nD) : ∀ t : Fin cfg0.N, (outsAt0 m c t.val t.isLt).1 = segArr silu (iblk m c 0 t) (segW (m ((c : Thread nD τ).loc main_arg1)) 6) := by
  refine outs_of (outsAt0 m c) _ (fun t W => segArr silu (iblk m c 0 t) W) (fun t h0 => ?_) (fun t L h0 hL => ?_)
  · rw [outsAt0_A m c t h0, out_first, sout_first, blk_w]
  · rw [outsAt0_B m c t h0, hL, out_later]
    rfl

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr silu (m ((c : Thread nD τ).loc main_arg0)) (segW (m ((c : Thread nD τ).loc main_arg1)) 6) := by
  refine (dats m 0 c).arrAt_eq_of_covers 4 _ (by decide +kernel) fun t _ y => ?_
  blk_simp
  rw [after0_4, outs4, emb4]
  exact segArr_blk _ _ _ _ _ (blk_h m c t) y
end

end Cert.GateInIdeal.Value
end
-- ==== Proof.GateInRef.lean ====
module
public import proofs.«01_k».proof.Proof.GateInArr
public import proofs.«01_k».proof.Proof.Gen.GateInRefIdeal.Run

/-! The gates' segment of the input projection: the reference's result. -/

@[expose] public section
set_option maxRecDepth 16384
noncomputable section
open Idealize.ShloMosaic Idealize.ShloMosaic.TcCoe Idealize.SL.Sem
namespace Cert.GateInRefIdeal.Value
open Cert.GateInRefIdeal Cert.GateInRefIdeal.Gen Cert.Segments

/-- The segment of the product. -/
def seg (h : FVec Ideal S16384x2048 .bf16) (w : FVec Ideal S2048x7168 .f32) : FVec Ideal S16384x1024 .f32 :=
  extractStridedSlice S16384x1024 ![0, 6144] (Host.dotGeneral dot_S16384x2048_S2048x7168_S16384x7168_1_0_0_1_n_n none (extf .f32 h bitsLt_bf16_f32) w) slices_S16384x7168_S16384x1024_0_6144

theorem seg_at (h : FVec Ideal S16384x2048 .bf16) (w : FVec Ideal S2048x7168 .f32) (r : Fin 16384) (d : Fin 1024) :
    seg h w (ix2 r d) = rowOf h (segW w 6) r d := by
  unfold rowOf segW scol
  pointwise [seg]

/-- The segment times its logistic. -/
def act (v : FVec Ideal S16384x1024 .f32) : FVec Ideal S16384x1024 .f32 :=
  mulf v (Host.divf (broadcastInDim S16384x1024 ![] bcast_S_S16384x1024 (constant S_ .f32 0x3F800000#32)) (addf (broadcastInDim S16384x1024 ![] bcast_S_S16384x1024 (constant S_ .f32 0x3F800000#32)) (Host.exp (Host.negf v))))

theorem act_at (v : FVec Ideal S16384x1024 .f32) (r : Fin 16384) (d : Fin 1024) : act v (ix2 r d) = silu (fun x => v (ix2 r x)) d := by
  unfold silu
  pointwise [act]
  rfl

theorem out_eq (h : FVec Ideal S16384x2048 .bf16) (w : FVec Ideal S2048x7168 .f32) : act (seg h w) = segArr silu h (segW w 6) := by
  funext y
  obtain ⟨r, d, rfl⟩ : ∃ (r : Fin 16384) (d : Fin 1024), y = ix2 r d := ⟨y 0, y 1, by funext a; fin_cases a <;> rfl⟩
  refine (act_at _ r d).trans ?_
  show silu _ d = silu _ d
  exact congrArg (fun p => silu p d) (funext fun x => seg_at h w r x)

end Cert.GateInRefIdeal.Value
end
-- ==== Proof.GateInClaims.lean ====
module

public import proofs.«01_k».proof.Defs
public import proofs.«01_k».proof.Proof.GateInRef
public import proofs.«01_k».proof.Proof.Gen.GateIn.Frame
public import Idealize.ShloMosaic.Lib.Quiescent

/-! The claims about the gates' segment of the input projection. -/

@[expose] public section
set_option maxRecDepth 16384
noncomputable section
open Idealize.ShloMosaic Idealize.ShloMosaic.TcCoe Idealize.SL.Sem
namespace Cert.Proof.GateIn

theorem frame_p : Cert.quiescent_GateIn := fun m ρ _ => Cert.GateIn.Gen.frame m ρ
theorem frame_pi : Cert.quiescent_GateInIdeal := fun m ρ _ => Cert.GateInIdeal.Gen.frame m ρ
theorem frame_ri : Cert.quiescent_GateInRefIdeal := fun m ρ _ =>
  (θ_run Cert.GateInRefIdeal.defs _ _).mono (fun r h => ⟨fun c => (h c).2, sem_eq_zero_of_no_sems (by decide) r.2⟩)
    (Cert.GateInRefIdeal.Value.run (F := Ideal) m ρ)

theorem preserves : Cert.preserves_GateIn_GateInIdeal := trivial

theorem algebraic : Cert.algebraic_GateInIdeal_GateInRefIdeal := by
  intro m ρ m' ρ' hpre hag
  refine ⟨_, Cert.GateInIdeal.Value.run_blocks (F := Ideal) m ρ, ?_⟩
  refine (θ_run Cert.GateInRefIdeal.defs _ _).mono (fun _ h c => ⟨(h c).1.trans ?_, (h c).2⟩) (Cert.GateInRefIdeal.Value.run (F := Ideal) m' ρ')
  rw [(hag c).1, (hag c).2.1]
  exact (Cert.GateInRefIdeal.Value.out_eq _ _).trans (Cert.GateInIdeal.Value.arr4_eq m c).symm

end Cert.Proof.GateIn
end
-- ==== Proof.MixGateInArr.lean ====
module
public import proofs.«01_k».proof.Proof.GateInArr
public import proofs.«01_k».proof.Proof.Gen.MixGateInIdeal.Value

/-! The mixer's gate segment of the input projection: the result array. What each grid point keeps and writes is as for the attention's gate. -/

@[expose] public section
set_option maxRecDepth 16384
noncomputable section
open Idealize.ShloMosaic Idealize.ShloMosaic.TcCoe Idealize.SL.Sem
namespace Cert.MixGateInIdeal.Value
open Cert.MixGateInIdeal Cert.MixGateInIdeal.Gen Cert.Segments
open Cert.ConvOutIdeal.Value (orow)

variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole)
    (x0 : Vec Ideal S512x2048 .bf16) (x1 : Vec Ideal S2048x1024 .f32) (x2 x3 : Vec Ideal S1x1024 .f32) (xs0 : Vec Ideal S2048x1024 .bf16)

/-! The body is the attention's gate's: so is what it keeps and writes. -/

theorem sout_first (hc0 : cond0_0 i) : sout0_A_0 (F := Ideal) c i arg1 harg1 arg2 harg2 arg3 harg3 arg4 harg4 arg5 harg5 arg6 harg6 hc0 x0 x1 x2 x3 = x1 :=
  Cert.GateInIdeal.Value.sout_first c i arg1 harg1 arg2 harg2 arg3 harg3 arg4 harg4 arg5 harg5 arg6 harg6 x0 x1 x2 x3 hc0

theorem out_first (hc0 : cond0_0 i) : out0_A_4 (F := Ideal) c i arg1 harg1 arg2 harg2 arg3 harg3 arg4 harg4 arg5 harg5 arg6 harg6 hc0 x0 x1 x2 x3 = segArr silu x0 x1 :=
  Cert.GateInIdeal.Value.out_first c i arg1 harg1 arg2 harg2 arg3 harg3 arg4 harg4 arg5 harg5 arg6 harg6 x0 x1 x2 x3 hc0

theorem out_later (hc0 : ¬cond0_0 i) : out0_B_4 (F := Ideal) c i arg1 harg1 arg2 harg2 arg3 harg3 arg4 harg4 arg5 harg5 arg6 harg6 hc0 x0 x1 x2 x3 xs0 = segArr silu x0 xs0 :=
  Cert.GateInIdeal.Value.out_later c i arg1 harg1 arg2 harg2 arg3 harg3 arg4 harg4 arg5 harg5 arg6 harg6 x0 x1 x2 x3 xs0 hc0

/-! ## The input blocks and the array -/

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 2 := by decide +kernel
theorem idx_o : ∀ t : Fin grid0.N, win0_4.index t 0 = (grid0.coords t 0 : ℕ) ∧ win0_4.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 2 := by
  funext y
  unfold segW scol
  blk_ext [iblk, V_main_arg1, idx_w t]

theorem outs4 (c : Dev nD) : ∀ t : Fin cfg0.N, (outsAt0 m c t.val t.isLt).1 = segArr silu (iblk m c 0 t) (segW (m ((c : Thread nD τ).loc main_arg1)) 2) := by
  refine outs_of (outsAt0 m c) _ (fun t W => segArr silu (iblk m c 0 t) W) (fun t h0 => ?_) (fun t L h0 hL => ?_)
  · rw [outsAt0_A m c t h0, out_first, sout_first, blk_w]
  · rw [outsAt0_B m c t h0, hL, out_later]
    rfl

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr silu (m ((c : Thread nD τ).loc main_arg0)) (segW (m ((c : Thread nD τ).loc main_arg1)) 2) := by
  refine (dats m 0 c).arrAt_eq_of_covers 4 _ (by decide +kernel) fun t _ y => ?_
  blk_simp
  rw [after0_4, outs4, emb4]
  exact segArr_blk _ _ _ _ _ (blk_h m c t) y
end

end Cert.MixGateInIdeal.Value
end
-- ==== Proof.MixGateInRef.lean ====
module
public import proofs.«01_k».proof.Proof.MixGateInArr
public import proofs.«01_k».proof.Proof.GateInRef
public import proofs.«01_k».proof.Proof.Gen.MixGateInRefIdeal.Run

/-! The mixer's gate segment of the input projection: the reference's result. -/

@[expose] public section
set_option maxRecDepth 16384
noncomputable section
open Idealize.ShloMosaic Idealize.ShloMosaic.TcCoe Idealize.SL.Sem
namespace Cert.MixGateInRefIdeal.Value
open Cert.MixGateInRefIdeal Cert.MixGateInRefIdeal.Gen Cert.Segments

/-- The segment of the product. -/
def seg (h : FVec Ideal S16384x2048 .bf16) (w : FVec Ideal S2048x7168 .f32) : FVec Ideal S16384x1024 .f32 :=
  extractStridedSlice S16384x1024 ![0, 2048] (Host.dotGeneral dot_S16384x2048_S2048x7168_S16384x7168_1_0_0_1_n_n none (extf .f32 h bitsLt_bf16_f32) w) slices_S16384x7168_S16384x1024_0_2048

theorem seg_at (h : FVec Ideal S16384x2048 .bf16) (w : FVec Ideal S2048x7168 .f32) (r : Fin 16384) (d : Fin 1024) :
    seg h w (ix2 r d) = rowOf h (segW w 2) r d := by
  unfold rowOf segW scol
  pointwise [seg]

/-- The segment times its logistic. -/
def act (v : FVec Ideal S16384x1024 .f32) : FVec Ideal S16384x1024 .f32 :=
  mulf v (Host.divf (broadcastInDim S16384x1024 ![] bcast_S_S16384x1024 (constant S_ .f32 0x3F800000#32)) (addf (broadcastInDim S16384x1024 ![] bcast_S_S16384x1024 (constant S_ .f32 0x3F800000#32)) (Host.exp (Host.negf v))))

theorem act_at (v : FVec Ideal S16384x1024 .f32) (r : Fin 16384) (d : Fin 1024) : act v (ix2 r d) = silu (fun x => v (ix2 r x)) d :=
  Cert.GateInRefIdeal.Value.act_at v r d

theorem out_eq (h : FVec Ideal S16384x2048 .bf16) (w : FVec Ideal S2048x7168 .f32) : act (seg h w) = segArr silu h (segW w 2) := by
  funext y
  obtain ⟨r, d, rfl⟩ : ∃ (r : Fin 16384) (d : Fin 1024), y = ix2 r d := ⟨y 0, y 1, by funext a; fin_cases a <;> rfl⟩
  refine (act_at _ r d).trans ?_
  show silu _ d = silu _ d
  exact congrArg (fun p => silu p d) (funext fun x => seg_at h w r x)

end Cert.MixGateInRefIdeal.Value
end
-- ==== Proof.MixGateInClaims.lean ====
module

public import proofs.«01_k».proof.Defs
public import proofs.«01_k».proof.Proof.MixGateInRef
public import proofs.«01_k».proof.Proof.Gen.MixGateIn.Frame
public import Idealize.ShloMosaic.Lib.Quiescent

/-! The claims about the mixer's gate segment of the input projection. -/

@[expose] public section
set_option maxRecDepth 16384
noncomputable section
open Idealize.ShloMosaic Idealize.ShloMosaic.TcCoe Idealize.SL.Sem
namespace Cert.Proof.MixGateIn

theorem frame_p : Cert.quiescent_MixGateIn := fun m ρ _ => Cert.MixGateIn.Gen.frame m ρ
theorem frame_pi : Cert.quiescent_MixGateInIdeal := fun m ρ _ => Cert.MixGateInIdeal.Gen.frame m ρ
theorem frame_ri : Cert.quiescent_MixGateInRefIdeal := fun m ρ _ =>
  (θ_run Cert.MixGateInRefIdeal.defs _ _).mono (fun r h => ⟨fun c => (h c).2, sem_eq_zero_of_no_sems (by decide) r.2⟩)
    (Cert.MixGateInRefIdeal.Value.run (F := Ideal) m ρ)

theorem preserves : Cert.preserves_MixGateIn_MixGateInIdeal := trivial

theorem algebraic : Cert.algebraic_MixGateInIdeal_MixGateInRefIdeal := by
  intro m ρ m' ρ' hpre hag
  refine ⟨_, Cert.MixGateInIdeal.Value.run_blocks (F := Ideal) m ρ, ?_⟩
  refine (θ_run Cert.MixGateInRefIdeal.defs _ _).mono (fun _ h c => ⟨(h c).1.trans ?_, (h c).2⟩) (Cert.MixGateInRefIdeal.Value.run (F := Ideal) m' ρ')
  rw [(hag c).1, (hag c).2.1]
  exact (Cert.MixGateInRefIdeal.Value.out_eq _ _).trans (Cert.MixGateInIdeal.Value.arr4_eq m c).symm

end Cert.Proof.MixGateIn
end
-- ==== Proof.GeluInArr.lean ====
module
public import proofs.«01_k».proof.Proof.Segments
public import proofs.«01_k».proof.Proof.Gen.GeluInIdeal.Value

/-! The first segment of the input projection: what each grid point keeps of the weights and writes, and the result array. -/

@[expose] public section
set_option maxRecDepth 16384
noncomputable section
open Idealize.ShloMosaic Idealize.ShloMosaic.TcCoe Idealize.SL.Sem
namespace Cert.GeluInIdeal.Value
open Cert.GeluInIdeal Cert.GeluInIdeal.Gen Cert.Segments
open Cert.ConvOutIdeal.Value (whole_w canon_whole orow)

theorem stored_at (x : FVec Ideal S2048x1024 .f32) : k0_pay1 (F := Ideal) x = x := stored_id x _ _

theorem written_at (a : FVec Ideal S512x2048 .bf16) (W : FVec Ideal S2048x1024 .bf16) (r : Fin 512) (d : Fin 1024) :
    k0_pay2 (F := Ideal) a W (ix2 r d) = gelu (rowOf a W r) d := by
  unfold gelu rowOf
  pointwise [k0_pay2]

variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole)
    (x0 : Vec Ideal S512x2048 .bf16) (x1 : Vec Ideal S2048x1024 .f32) (x2 x3 : Vec Ideal S1x1024 .f32) (xs0 : Vec Ideal S2048x1024 .bf16)

theorem canon_stored : View.canon (kernelRun0_A.sl.HS0_1 (F := Ideal) c arg2 harg2 x1) = x1 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (stored_at _).trans (whole_w x1 _)

theorem sout_first (hc0 : cond0_0 i) : sout0_A_0 (F := Ideal) c i arg1 harg1 arg2 harg2 arg3 harg3 arg4 harg4 arg5 harg5 arg6 harg6 hc0 x0 x1 x2 x3 = x1 := by
  have hcov := scover0_A_0 (F := Ideal) c i arg1 harg1 arg2 harg2 arg3 harg3 arg4 harg4 arg5 harg5 arg6 harg6 hc0 x0 x1 x2 x3
  unfold sout0_A_0
  rw [View.read_writes_eq_canon _ _ _ hcov]
  unfold kernelRun0_A
  exact canon_stored c arg2 harg2 x1

theorem out_first (hc0 : cond0_0 i) : out0_A_4 (F := Ideal) c i arg1 harg1 arg2 harg2 arg3 harg3 arg4 harg4 arg5 harg5 arg6 harg6 hc0 x0 x1 x2 x3 = segArr gelu x0 x1 := by
  unfold out0_A_4
  rw [View.read_writes_eq_canon _ _ _ (fun y => cover0_A_4 c i arg1 harg1 arg2 harg2 arg3 harg3 arg4 harg4 arg5 harg5 arg6 harg6 hc0 x0 x1 x2 x3 y)]
  unfold kernelRun0_A
  dsimp only
  refine canon_whole _ _ inb_S512x1024_S512x1024_0_0 (fun r d => ?_)
  unfold kernelRun0_A.sl.v4
  rw [View.readCov_eq_canon', canon_stored]
  simp (disch := decide) only [View.readAt_eq_ld, Memref.IsWhole.read_unread]
  rw [written_at, whole_h]
  exact congrArg (fun W => gelu (rowOf x0 W r) d) (whole_s x1 _)

theorem out_later (hc0 : ¬cond0_0 i) : out0_B_4 (F := Ideal) c i arg1 harg1 arg2 harg2 arg3 harg3 arg4 harg4 arg5 harg5 arg6 harg6 hc0 x0 x1 x2 x3 xs0 = segArr gelu x0 xs0 := by
  unfold out0_B_4
  rw [View.read_writes_eq_canon _ _ _ (fun y => cover0_B_4 c i arg1 harg1 arg2 harg2 arg3 harg3 arg4 harg4 arg5 harg5 arg6 harg6 hc0 x0 x1 x2 x3 xs0 y)]
  unfold kernelRun0_B
  dsimp only
  refine canon_whole _ _ inb_S512x1024_S512x1024_0_0 (fun r d => ?_)
  simp (disch := decide) only [View.readAt_eq_ld, Memref.IsWhole.read_unread]
  rw [written_at, whole_h]
  exact congrArg (fun W => gelu (rowOf x0 W r) d) (whole_s xs0 _)

/-! ## The input blocks and the array -/

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 0 := by decide +kernel
theorem idx_o : ∀ t : Fin grid0.N, win0_4.index t 0 = (grid0.coords t 0 : ℕ) ∧ win0_4.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 0 := by
  funext y
  unfold segW scol
  blk_ext [iblk, V_main_arg1, idx_w t]

theorem outs4 (c : Dev nD) : ∀ t : Fin cfg0.N, (outsAt0 m c t.val t.isLt).1 = segArr gelu (iblk m c 0 t) (segW (m ((c : Thread nD τ).loc main_arg1)) 0) := by
  refine outs_of (outsAt0 m c) _ (fun t W => segArr gelu (iblk m c 0 t) W) (fun t h0 => ?_) (fun t L h0 hL => ?_)
  · rw [outsAt0_A m c t h0, out_first, sout_first, blk_w]
  · rw [outsAt0_B m c t h0, hL, out_later]
    rfl

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr gelu (m ((c : Thread nD τ).loc main_arg0)) (segW (m ((c : Thread nD τ).loc main_arg1)) 0) := by
  refine (dats m 0 c).arrAt_eq_of_covers 4 _ (by decide +kernel) fun t _ y => ?_
  blk_simp
  rw [after0_4, outs4, emb4]
  exact segArr_blk _ _ _ _ _ (blk_h m c t) y
end

end Cert.GeluInIdeal.Value
end
-- ==== Proof.GeluInRef.lean ====
module
public import proofs.«01_k».proof.Proof.GeluInArr
public import proofs.«01_k».proof.Proof.Gen.GeluInRefIdeal.Run

/-! The first segment of the input projection: the reference's result. -/

@[expose] public section
set_option maxRecDepth 16384
noncomputable section
open Idealize.ShloMosaic Idealize.ShloMosaic.TcCoe Idealize.SL.Sem
namespace Cert.GeluInRefIdeal.Value
open Cert.GeluInRefIdeal Cert.GeluInRefIdeal.Gen Cert.Segments

/-- The segment of the product. -/
def seg (h : FVec Ideal S16384x2048 .bf16) (w : FVec Ideal S2048x7168 .f32) : FVec Ideal S16384x1024 .f32 :=
  extractStridedSlice S16384x1024 ![0, 0] (Host.dotGeneral dot_S16384x2048_S2048x7168_S16384x7168_1_0_0_1_n_n none (extf .f32 h bitsLt_bf16_f32) w) slices_S16384x7168_S16384x1024_0_0

theorem seg_at (h : FVec Ideal S16384x2048 .bf16) (w : FVec Ideal S2048x7168 .f32) (r : Fin 16384) (d : Fin 1024) :
    seg h w (ix2 r d) = rowOf h (segW w 0) r d := by
  unfold rowOf segW scol
  pointwise [seg]

/-- The Gaussian error unit of the segment. -/
def act (v : FVec Ideal S16384x1024 .f32) : FVec Ideal S16384x1024 .f32 :=
  mulf v (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf v (mulf (broadcastInDim S16384x1024 ![] bcast_S_S16384x1024 (constant S_ .f32 0x3D372713#32)) (mulf (mulf v v) v)))))))

theorem act_at (v : FVec Ideal S16384x1024 .f32) (r : Fin 16384) (d : Fin 1024) : act v (ix2 r d) = gelu (fun x => v (ix2 r x)) d := by
  unfold gelu
  pointwise [act]

theorem out_eq (h : FVec Ideal S16384x2048 .bf16) (w : FVec Ideal S2048x7168 .f32) : act (seg h w) = segArr gelu h (segW w 0) := by
  funext y
  obtain ⟨r, d, rfl⟩ : ∃ (r : Fin 16384) (d : Fin 1024), y = ix2 r d := ⟨y 0, y 1, by funext a; fin_cases a <;> rfl⟩
  refine (act_at _ r d).trans ?_
  show gelu _ d = gelu _ d
  exact congrArg (fun p => gelu p d) (funext fun x => seg_at h w r x)

end Cert.GeluInRefIdeal.Value
end
-- ==== Proof.GeluInClaims.lean ====
module

public import proofs.«01_k».proof.Defs
public import proofs.«01_k».proof.Proof.GeluInRef
public import proofs.«01_k».proof.Proof.Gen.GeluIn.Frame
public import Idealize.ShloMosaic.Lib.Quiescent

/-! The claims about the first segment of the input projection. -/

@[expose] public section
set_option maxRecDepth 16384
noncomputable section
open Idealize.ShloMosaic Idealize.ShloMosaic.TcCoe Idealize.SL.Sem
namespace Cert.Proof.GeluIn

theorem frame_p : Cert.quiescent_GeluIn := fun m ρ _ => Cert.GeluIn.Gen.frame m ρ
theorem frame_pi : Cert.quiescent_GeluInIdeal := fun m ρ _ => Cert.GeluInIdeal.Gen.frame m ρ
theorem frame_ri : Cert.quiescent_GeluInRefIdeal := fun m ρ _ =>
  (θ_run Cert.GeluInRefIdeal.defs _ _).mono (fun r h => ⟨fun c => (h c).2, sem_eq_zero_of_no_sems (by decide) r.2⟩)
    (Cert.GeluInRefIdeal.Value.run (F := Ideal) m ρ)

theorem preserves : Cert.preserves_GeluIn_GeluInIdeal := trivial

theorem algebraic : Cert.algebraic_GeluInIdeal_GeluInRefIdeal := by
  intro m ρ m' ρ' hpre hag
  refine ⟨_, Cert.GeluInIdeal.Value.run_blocks (F := Ideal) m ρ, ?_⟩
  refine (θ_run Cert.GeluInRefIdeal.defs _ _).mono (fun _ h c => ⟨(h c).1.trans ?_, (h c).2⟩) (Cert.GeluInRefIdeal.Value.run (F := Ideal) m' ρ')
  rw [(hag c).1, (hag c).2.1]
  exact (Cert.GeluInRefIdeal.Value.out_eq _ _).trans (Cert.GeluInIdeal.Value.arr4_eq m c).symm

end Cert.Proof.GeluIn
end
-- ==== Proof.NormInArr.lean ====
module
public import proofs.«01_k».proof.Proof.Segments
public import proofs.«01_k».proof.Proof.Gen.NormInIdeal.Value

/-! The normed segment of the input projection: what each grid point keeps of the weights and writes, and the result array. -/

@[expose] public section
set_option maxRecDepth 16384
noncomputable section
open Idealize.ShloMosaic Idealize.ShloMosaic.TcCoe Idealize.SL.Sem
namespace Cert.NormInIdeal.Value
open Cert.NormInIdeal Cert.NormInIdeal.Gen Cert.Segments
open Cert.ConvOutIdeal.Value (whole_w canon_whole orow)

theorem stored_at (x : FVec Ideal S2048x1024 .f32) : k0_pay2 (F := Ideal) x = x := stored_id x _ _

theorem centred_at (a : FVec Ideal S512x2048 .bf16) (W : FVec Ideal S2048x1024 .bf16) (r : Fin 512) (d : Fin 1024) :
    k0_pay5 (F := Ideal) a W (ix2 r d) = centred (gelu (rowOf a W r)) d := by
  unfold centred gelu rowOf
  pointwise [k0_pay5]

theorem scale_at (a : FVec Ideal S512x2048 .bf16) (W : FVec Ideal S2048x1024 .bf16) (r : Fin 512) (d : Fin 1024) :
    k0_pay6 (F := Ideal) a W (ix2 r d) = scale (centred (gelu (rowOf a W r))) := by
  unfold scale
  simp only [← centred_at]
  pointwise [k0_pay6]

theorem pay1_at (g b : FVec Ideal S1x1024 .f32) (u v : FVec Ideal S512x1024 .f32) (r : Fin 512) (d : Fin 1024) :
    k0_pay1 (F := Ideal) g b u v (ix2 r d) = u (ix2 r d) * v (ix2 r d) * g (ix2 0 d) + b (ix2 0 d) := by
  pointwise [k0_pay1]

theorem pay3_at (g : FVec Ideal S1x1024 .f32) (d : Fin 1024) : k0_pay3 (F := Ideal) g (ix2 0 d) = g (ix2 0 d) := by
  pointwise [k0_pay3]
theorem pay4_at (b : FVec Ideal S1x1024 .f32) (d : Fin 1024) : k0_pay4 (F := Ideal) b (ix2 0 d) = b (ix2 0 d) := by
  pointwise [k0_pay4]

variable (c : Dev nD) (i : grid0.Coords) (arg1 : Memref sig .tc .vmem S512x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole)
    (x0 : Vec Ideal S512x2048 .bf16) (x1 : Vec Ideal S2048x1024 .f32) (x2 x3 : Vec Ideal S1x1024 .f32) (xs0 : Vec Ideal S2048x1024 .bf16)

theorem canon_stored : View.canon (kernelRun0_A.sl.HS0_1 (F := Ideal) c arg2 harg2 x1) = x1 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (stored_at _).trans (whole_w x1 _)

theorem sout_first (hc0 : cond0_0 i) : sout0_A_0 (F := Ideal) c i arg1 harg1 arg2 harg2 arg3 harg3 arg4 harg4 arg5 harg5 arg6 harg6 hc0 x0 x1 x2 x3 = x1 := by
  have hcov := scover0_A_0 (F := Ideal) c i arg1 harg1 arg2 harg2 arg3 harg3 arg4 harg4 arg5 harg5 arg6 harg6 hc0 x0 x1 x2 x3
  unfold sout0_A_0
  rw [View.read_writes_eq_canon _ _ _ hcov]
  unfold kernelRun0_A
  exact canon_stored c arg2 harg2 x1

theorem out_first (hc0 : cond0_0 i) : out0_A_4 (F := Ideal) c i arg1 harg1 arg2 harg2 arg3 harg3 arg4 harg4 arg5 harg5 arg6 harg6 hc0 x0 x1 x2 x3 = segArr (geluNorm (asRow x2) (asRow x3)) x0 x1 := by
  unfold out0_A_4
  rw [View.read_writes_eq_canon _ _ _ (fun y => cover0_A_4 c i arg1 harg1 arg2 harg2 arg3 harg3 arg4 harg4 arg5 harg5 arg6 harg6 hc0 x0 x1 x2 x3 y)]
  unfold kernelRun0_A
  dsimp only
  refine canon_whole _ _ inb_S512x1024_S512x1024_0_0 (fun r d => ?_)
  rw [pay1_at]
  unfold kernelRun0_A.sl.r kernelRun0_A.sl.r_1 kernelRun0_A.sl.r_2 kernelRun0_A.sl.r_3 kernelRun0_A.sl.v4
  rw [View.readCov_eq_canon', canon_stored]
  simp (disch := decide) only [View.readAt_eq_ld, Memref.IsWhole.read_unread]
  rw [pay3_at, pay4_at, centred_at, scale_at, whole_h, whole_v, whole_v]
  exact congrArg (fun W => (geluNorm (asRow x2) (asRow x3)) (rowOf x0 W r) d) (whole_s x1 _)

theorem out_later (hc0 : ¬cond0_0 i) : out0_B_4 (F := Ideal) c i arg1 harg1 arg2 harg2 arg3 harg3 arg4 harg4 arg5 harg5 arg6 harg6 hc0 x0 x1 x2 x3 xs0 = segArr (geluNorm (asRow x2) (asRow x3)) x0 xs0 := by
  unfold out0_B_4
  rw [View.read_writes_eq_canon _ _ _ (fun y => cover0_B_4 c i arg1 harg1 arg2 harg2 arg3 harg3 arg4 harg4 arg5 harg5 arg6 harg6 hc0 x0 x1 x2 x3 xs0 y)]
  unfold kernelRun0_B
  dsimp only
  refine canon_whole _ _ inb_S512x1024_S512x1024_0_0 (fun r d => ?_)
  rw [pay1_at]
  unfold kernelRun0_B.sl.r kernelRun0_B.sl.r_1 kernelRun0_B.sl.r_2 kernelRun0_B.sl.r_3
  simp (disch := decide) only [View.readAt_eq_ld, Memref.IsWhole.read_unread]
  rw [pay3_at, pay4_at, centred_at, scale_at, whole_h, whole_v, whole_v]
  exact congrArg (fun W => (geluNorm (asRow x2) (asRow x3)) (rowOf x0 W r) d) (whole_s xs0 _)

/-! ## The input blocks and the array -/

section
variable (m : (ℓ : Loc nD τ sig) → Buf (Elt Ideal) ℓ)

theorem idx_h : ∀ t : Fin grid0.N, win0_0.index t 0 = (grid0.coords t 0 : ℕ) ∧ win0_0.index t 1 = 0 := by decide +kernel
theorem idx_w : ∀ t : Fin grid0.N, win0_1.index t 0 = 0 ∧ win0_1.index t 1 = 1 := by decide +kernel
theorem idx_o : ∀ t : Fin grid0.N, win0_4.index t 0 = (grid0.coords t 0 : ℕ) ∧ win0_4.index t 1 = 0 := by decide +kernel

theorem blk_h (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_h t]
theorem blk_w (c : Dev nD) (t : Fin grid0.N) : iblk m c 1 t = segW (m ((c : Thread nD τ).loc main_arg1)) 1 := by
  funext y
  unfold segW scol
  blk_ext [iblk, V_main_arg1, idx_w t]

theorem idx_g : ∀ t : Fin grid0.N, win0_2.index t 0 = 0 ∧ win0_2.index t 1 = 0 := by decide +kernel
theorem blk_g (c : Dev nD) (t : Fin grid0.N) : asRow (iblk m c 2 t) = (m ((c : Thread nD τ).loc main_arg2) : S1024.Idx → EReal) := by
  have e : V m c main_v0 = shapeCast S1x1024 (m ((c : Thread nD τ).loc main_arg2) : FVec Ideal S1024 .f32) shapeCasts_S1024_S1x1024 := by
    unfold V hostOps0
    after_results_simp
    rfl
  funext y
  obtain ⟨d, rfl⟩ : ∃ d : Fin 1024, y = ix1 d := ⟨y 0, by funext a; fin_cases a; rfl⟩
  have h : iblk m c 2 t (ix2 0 d) = V m c main_v0 (ix2 0 d) := by
    blk_ext [iblk, idx_g t]
  show iblk m c 2 t (ix2 0 d) = _
  refine h.trans ?_
  rw [e]
  pointwise []

theorem idx_b : ∀ t : Fin grid0.N, win0_3.index t 0 = 0 ∧ win0_3.index t 1 = 0 := by decide +kernel
theorem blk_b (c : Dev nD) (t : Fin grid0.N) : asRow (iblk m c 3 t) = (m ((c : Thread nD τ).loc main_arg3) : S1024.Idx → EReal) := by
  have e : V m c main_v1 = shapeCast S1x1024 (m ((c : Thread nD τ).loc main_arg3) : FVec Ideal S1024 .f32) shapeCasts_S1024_S1x1024 := by
    unfold V hostOps0
    after_results_simp
    rfl
  funext y
  obtain ⟨d, rfl⟩ : ∃ d : Fin 1024, y = ix1 d := ⟨y 0, by funext a; fin_cases a; rfl⟩
  have h : iblk m c 3 t (ix2 0 d) = V m c main_v1 (ix2 0 d) := by
    blk_ext [iblk, idx_b t]
  show iblk m c 3 t (ix2 0 d) = _
  refine h.trans ?_
  rw [e]
  pointwise []

theorem outs4 (c : Dev nD) : ∀ t : Fin cfg0.N, (outsAt0 m c t.val t.isLt).1 = segArr (geluNorm (m ((c : Thread nD τ).loc main_arg2)) (m ((c : Thread nD τ).loc main_arg3))) (iblk m c 0 t) (segW (m ((c : Thread nD τ).loc main_arg1)) 1) := by
  refine outs_of (outsAt0 m c) _ (fun t W => segArr (geluNorm (m ((c : Thread nD τ).loc main_arg2)) (m ((c : Thread nD τ).loc main_arg3))) (iblk m c 0 t) W) (fun t h0 => ?_) (fun t L h0 hL => ?_)
  · rw [outsAt0_A m c t h0, out_first, sout_first, blk_w, blk_g, blk_b]
  · rw [outsAt0_B m c t h0, hL, out_later, blk_g, blk_b]
    rfl

theorem emb4 (t : Fin grid0.N) (y : S512x1024.Idx) : (win0_4.blk t).view.emb y = (ix2 (orow (grid0.coords t 0) (y 0)) (y 1) : S16384x1024.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = segArr (geluNorm (m ((c : Thread nD τ).loc main_arg2)) (m ((c : Thread nD τ).loc main_arg3))) (m ((c : Thread nD τ).loc main_arg0)) (segW (m ((c : Thread nD τ).loc main_arg1)) 1) := by
  refine (dats m 0 c).arrAt_eq_of_covers 4 _ (by decide +kernel) fun t _ y => ?_
  blk_simp
  rw [after0_4, outs4, emb4]
  exact segArr_blk _ _ _ _ _ (blk_h m c t) y
end

end Cert.NormInIdeal.Value
end
-- ==== Proof.NormInRef.lean ====
module
public import proofs.«01_k».proof.Proof.NormInArr
public import proofs.«01_k».proof.Proof.Gen.NormInRefIdeal.Run
public import proofs.«01_k».proof.Proof.GeluInRef
/-! The normed segment of the input projection: the reference's result. -/

@[expose] public section
set_option maxRecDepth 16384
noncomputable section
open Idealize.ShloMosaic Idealize.ShloMosaic.TcCoe Idealize.SL.Sem
namespace Cert.NormInRefIdeal.Value
open Cert.NormInRefIdeal Cert.NormInRefIdeal.Gen Cert.Segments
open Cert.GeluInRefIdeal.Value (act act_at)

/-- The segment of the product. -/
def seg (h : FVec Ideal S16384x2048 .bf16) (w : FVec Ideal S2048x7168 .f32) : FVec Ideal S16384x1024 .f32 :=
  extractStridedSlice S16384x1024 ![0, 1024] (Host.dotGeneral dot_S16384x2048_S2048x7168_S16384x7168_1_0_0_1_n_n none (extf .f32 h bitsLt_bf16_f32) w) slices_S16384x7168_S16384x1024_0_1024

theorem seg_at (h : FVec Ideal S16384x2048 .bf16) (w : FVec Ideal S2048x7168 .f32) (r : Fin 16384) (d : Fin 1024) :
    seg h w (ix2 r d) = rowOf h (segW w 1) r d := by
  unfold rowOf segW scol
  pointwise [seg]

/-- Each row less its mean. -/
def centre (u : FVec Ideal S16384x1024 .f32) : FVec Ideal S16384x1024 .f32 :=
  subf u (broadcastInDim S16384x1024 ![0, 1] bcast_S16384x1_S16384x1024_0_1 (Host.divf (broadcastInDim S16384x1 ![0] bcast_S16384_S16384x1_0 (Host.reduceAdd u (constant S_ .f32 0x00000000#32) reducesTo_S16384x1024_S16384_d1 h_S_)) (broadcastInDim S16384x1 ![] bcast_S_S16384x1 (constant S_ .f32 0x44800000#32))))

theorem centre_at (u : FVec Ideal S16384x1024 .f32) (r : Fin 16384) (d : Fin 1024) : centre u (ix2 r d) = centred (fun x => u (ix2 r x)) d := by
  unfold centred
  pointwise [centre]

/-- One over the root of each row's mean square. -/
def scales (v : FVec Ideal S16384x1024 .f32) : FVec Ideal S16384x1024 .f32 :=
  (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))

theorem scales_at (v : FVec Ideal S16384x1024 .f32) (r : Fin 16384) (d : Fin 1024) : scales v (ix2 r d) = scale (fun x => v (ix2 r x)) := by
  unfold scale
  pointwise [scales]

/-- The gain and the bias. -/
def affine (v s : FVec Ideal S16384x1024 .f32) (g b : FVec Ideal S1024 .f32) : FVec Ideal S16384x1024 .f32 :=
  addf (mulf (mulf v s) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

theorem affine_at (v s : FVec Ideal S16384x1024 .f32) (g b : FVec Ideal S1024 .f32) (r : Fin 16384) (d : Fin 1024) :
    affine v s g b (ix2 r d) = v (ix2 r d) * s (ix2 r d) * g (ix1 d) + b (ix1 d) := by
  pointwise [affine]

theorem out_eq (h : FVec Ideal S16384x2048 .bf16) (w : FVec Ideal S2048x7168 .f32) (g b : FVec Ideal S1024 .f32) :
    affine (centre (act (seg h w))) (scales (centre (act (seg h w)))) g b = segArr (geluNorm g b) h (segW w 1) := by
  funext y
  obtain ⟨r, d, rfl⟩ : ∃ (r : Fin 16384) (d : Fin 1024), y = ix2 r d := ⟨y 0, y 1, by funext a; fin_cases a <;> rfl⟩
  have e : (fun x => seg h w (ix2 r x)) = rowOf h (segW w 1) r := funext fun x => seg_at h w r x
  rw [affine_at, scales_at]
  simp only [centre_at, act_at, e]
  rfl

end Cert.NormInRefIdeal.Value
end
-- ==== Proof.NormInClaims.lean ====
module

public import proofs.«01_k».proof.Defs
public import proofs.«01_k».proof.Proof.NormInRef
public import proofs.«01_k».proof.Proof.Gen.NormIn.Frame
public import Idealize.ShloMosaic.Lib.Quiescent

/-! The claims about the normed segment of the input projection. -/

@[expose] public section
set_option maxRecDepth 16384
noncomputable section
open Idealize.ShloMosaic Idealize.ShloMosaic.TcCoe Idealize.SL.Sem
namespace Cert.Proof.NormIn

theorem frame_p : Cert.quiescent_NormIn := fun m ρ _ => Cert.NormIn.Gen.frame m ρ
theorem frame_pi : Cert.quiescent_NormInIdeal := fun m ρ _ => Cert.NormInIdeal.Gen.frame m ρ
theorem frame_ri : Cert.quiescent_NormInRefIdeal := fun m ρ _ =>
  (θ_run Cert.NormInRefIdeal.defs _ _).mono (fun r h => ⟨fun c => (h c).2, sem_eq_zero_of_no_sems (by decide) r.2⟩)
    (Cert.NormInRefIdeal.Value.run (F := Ideal) m ρ)

theorem preserves : Cert.preserves_NormIn_NormInIdeal := trivial

theorem algebraic : Cert.algebraic_NormInIdeal_NormInRefIdeal := by
  intro m ρ m' ρ' hpre hag
  refine ⟨_, Cert.NormInIdeal.Value.run_blocks (F := Ideal) m ρ, ?_⟩
  refine (θ_run Cert.NormInRefIdeal.defs _ _).mono (fun _ h c => ⟨(h c).1.trans ?_, (h c).2⟩) (Cert.NormInRefIdeal.Value.run (F := Ideal) m' ρ')
  unfold Cert.NormInRefIdeal.Value.res_main_v45
  rw [(hag c).1, (hag c).2.1, (hag c).2.2.1, (hag c).2.2.2]
  exact (Cert.NormInRefIdeal.Value.out_eq _ _ _ _).trans (Cert.NormInIdeal.Value.arr4_eq m c).symm

end Cert.Proof.NormIn
end
-- ==== Proof.Norms.lean ====
module
public import proofs.«01_k».proof.Proof.Segments

/-! The norms of the residual rows: a row over the root of its mean square, and what the two norms' proofs share. -/

@[expose] public section
set_option maxRecDepth 16384
noncomputable section
open Idealize.ShloMosaic Idealize.ShloMosaic.TcCoe Idealize.SL.Sem
namespace Cert.Norms
open Cert.ConvOutIdeal.Value (orow)
open Cert.Segments (Sh512x2048 Sh16384x2048)

/-! The shapes. -/
abbrev Sh1x2048 : Shape := ⟨2, ![1, 2048]⟩
abbrev Sh1x1x2048 : Shape := ⟨3, ![1, 1, 2048]⟩
abbrev Sh24x1x2048 : Shape := ⟨3, ![24, 1, 2048]⟩
abbrev Sh2048 : Shape := ⟨1, ![2048]⟩

/-- A row of an array. -/
def rowAt {n : ℕ} (x : (⟨2, ![n, 2048]⟩ : Shape).Idx → EReal) (r : Fin n) : Fin 2048 → EReal := fun k => x (ix2 r k)

/-- A row over the root of its mean square. -/
def rms (u : Fin 2048 → EReal) (d : Fin 2048) : EReal :=
  u d * Ideal.rsqrt (Ideal.div (∑ k, u k * u k) (Ideal.ofBits FTy.f32 0x45000000#32) + Ideal.ofBits FTy.f32 0x358637BD#32)

/-- A normed row with its gain, its scale and its shift. -/
def modulated (u g sc sh : Fin 2048 → EReal) (d : Fin 2048) : EReal :=
  rms u d * g d * (1 + sc d) + sh d

/-- The row of the modulation array that a row of the result reads. -/
def modRow (w : Fin 3) (r : Fin 16384) : Fin 24 := ⟨r / 2048 * 3 + w, by omega⟩

/-- The normed array. -/
def normArr {n : ℕ} (x : (⟨2, ![n, 2048]⟩ : Shape).Idx → EReal) (g : Sh2048.Idx → EReal) : (⟨2, ![n, 2048]⟩ : Shape).Idx → EReal := fun y =>
  rms (rowAt x (y 0)) (y 1) * g (ix1 (y 1))

/-- The modulated array. -/
def modArr (x : Sh16384x2048.Idx → EReal) (g : Sh2048.Idx → EReal) (m : Sh24x1x2048.Idx → EReal) : Sh16384x2048.Idx → EReal := fun y =>
  modulated (rowAt x (y 0)) (fun k => g (ix1 k)) (fun k => m (ix3 (modRow 1 (y 0)) 0 k)) (fun k => m (ix3 (modRow 0 (y 0)) 0 k)) (y 1)

/-- A block's row reads the modulation row of the block's own sequence. -/
theorem modRow_blk (w : Fin 3) (i : Fin 32) (r : Fin 512) : modRow w (orow i r) = (⟨(i : ℕ) / 4 * 3 + w, by omega⟩ : Fin 24) := by
  apply Fin.ext
  show ((i : ℕ) * 512 + r) / 2048 * 3 + w = (i : ℕ) / 4 * 3 + w
  omega

/-- Every index of a block of rows is a row and a column. -/
theorem ix2_of {a b : ℕ} (y : (⟨2, ![a, b]⟩ : Shape).Idx) : y = ix2 (y 0) (y 1) := by
  funext k
  match k with
  | 0 => rfl
  | 1 => rfl

/-- A block read whole is the block. -/
theorem whole_rows {n : ℕ} (x : Vec Ideal ⟨2, ![n, 2048]⟩ .f32) (inb : ∀ a, (![0, 0] : Fin 2 → ℕ) a + (⟨2, ![n, 2048]⟩ : Shape).size a ≤ (⟨2, ![n, 2048]⟩ : Shape).size a) :
    View.ld (Val := Elt Ideal) x (Rect.unit (s := ⟨2, ![n, 2048]⟩) ![0, 0] (⟨2, ![n, 2048]⟩ : Shape).size inb) = x := by
  have h : (![0, 0] : Fin 2 → ℕ) = fun _ => 0 := by decide
  exact View.ld_unit_zero h inb x
theorem whole_gain (x : Vec Ideal Sh1x2048 .f32) (inb : ∀ a, (![0, 0] : Fin 2 → ℕ) a + Sh1x2048.size a ≤ Sh1x2048.size a) :
    View.ld (Val := Elt Ideal) x (Rect.unit (s := Sh1x2048) ![0, 0] Sh1x2048.size inb) = x :=
  View.ld_unit_zero (by decide) inb x
theorem whole_mod (x : Vec Ideal Sh1x1x2048 .f32) (inb : ∀ a, (![0, 0, 0] : Fin 3 → ℕ) a + Sh1x1x2048.size a ≤ Sh1x1x2048.size a) :
    View.ld (Val := Elt Ideal) x (Rect.unit (s := Sh1x1x2048) ![0, 0, 0] Sh1x1x2048.size inb) = x :=
  View.ld_unit_zero (by decide) inb x

end Cert.Norms
end
-- ==== Proof.NormModArr.lean ====
module
public import proofs.«01_k».proof.Proof.Norms
public import proofs.«01_k».proof.Proof.Gen.NormModIdeal.Value

/-! The modulated norm: what each grid point writes, and the result array. -/

@[expose] public section
set_option maxRecDepth 16384
noncomputable section
open Idealize.ShloMosaic Idealize.ShloMosaic.TcCoe Idealize.SL.Sem
namespace Cert.NormModIdeal.Value
open Cert.NormModIdeal Cert.NormModIdeal.Gen Cert.Norms
open Cert.ConvOutIdeal.Value (orow)

/-- A block's row, modulated by the block's own rows. -/
def blkAt (x : S512x2048.Idx → EReal) (g : S1x2048.Idx → EReal) (sc sh : S1x1x2048.Idx → EReal) (r : Fin 512) (d : Fin 2048) : EReal :=
  modulated (rowAt x r) (fun k => g (ix2 0 k)) (fun k => sc (ix3 0 0 k)) (fun k => sh (ix3 0 0 k)) d

theorem written_at (x : FVec Ideal S512x2048 .f32) (g : FVec Ideal S1x2048 .f32) (sc sh : FVec Ideal S1x1x2048 .f32) (r : Fin 512) (d : Fin 2048) :
    k0_pay1 (F := Ideal) x g sc sh (ix2 r d) = blkAt x g sc sh r d := by
  unfold blkAt modulated rms rowAt
  pointwise [k0_pay1]

theorem out_at (x : Vec Ideal S512x2048 .f32) (g : Vec Ideal S1x2048 .f32) (sc sh : Vec Ideal S1x1x2048 .f32) (r : Fin 512) (d : Fin 2048) :
    out0_4 (F := Ideal) x g sc sh (ix2 r d) = blkAt x g sc sh r d := by
  unfold out0_4
  refine (congrFun (View.canon_cons_unit_lit (Val := Elt Ideal) (S := S512x2048) (e := .bf16) inb_S512x2048_S512x2048_0_0 _ [] (by decide)) _).trans ?_
  rw [written_at]
  refine (congrArg₂ (fun a b => blkAt a b _ _ r d) (whole_rows x _) (whole_gain g _)).trans ?_
  exact congrArg₂ (fun a b => blkAt x g a b r d) (whole_mod sc _) (whole_mod sh _)

section
variable (m : (ℓ : Loc nD τ sig) → Buf (Elt Ideal) ℓ)

theorem idx_x : ∀ t : Fin grid0.N, win0_0.index t 0 = (grid0.coords t 0 : ℕ) ∧ win0_0.index t 1 = 0 := by decide +kernel
theorem idx_g : ∀ t : Fin grid0.N, win0_1.index t 0 = 0 ∧ win0_1.index t 1 = 0 := by decide +kernel
theorem idx_sc : ∀ t : Fin grid0.N, win0_2.index t 0 = (grid0.coords t 0 : ℕ) / 4 * 3 + 1 ∧ win0_2.index t 1 = 0 ∧ win0_2.index t 2 = 0 := by decide +kernel
theorem idx_sh : ∀ t : Fin grid0.N, win0_3.index t 0 = (grid0.coords t 0 : ℕ) / 4 * 3 + 0 ∧ win0_3.index t 1 = 0 ∧ win0_3.index t 2 = 0 := by decide +kernel
theorem idx_o : ∀ t : Fin grid0.N, win0_4.index t 0 = (grid0.coords t 0 : ℕ) ∧ win0_4.index t 1 = 0 := by decide +kernel

theorem blk_x (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_x t]
theorem blk_g (c : Dev nD) (t : Fin grid0.N) (d : Fin 2048) : iblk m c 1 t (ix2 0 d) = (m ((c : Thread nD τ).loc main_arg1) : S2048.Idx → EReal) (ix1 d) := by
  have e : V m c main_v0 = shapeCast S1x2048 (m ((c : Thread nD τ).loc main_arg1) : FVec Ideal S2048 .f32) shapeCasts_S2048_S1x2048 := by
    unfold V hostOps0
    after_results_simp
    rfl
  have h1 : iblk m c 1 t (ix2 0 d) = V m c main_v0 (ix2 0 d) := by
    blk_ext [iblk, idx_g t]
  rw [h1, e]
  pointwise []
theorem blk_sc (c : Dev nD) (t : Fin grid0.N) (r : Fin 512) (d : Fin 2048) :
    iblk m c 2 t (ix3 0 0 d) = (m ((c : Thread nD τ).loc main_arg2) : S24x1x2048.Idx → EReal) (ix3 (modRow 1 (orow (grid0.coords t 0) r)) 0 d) := by
  have h : modRow 1 (orow (grid0.coords t 0) r) = (⟨(grid0.coords t 0 : ℕ) / 4 * 3 + 1, by have := (grid0.coords t 0).isLt; have h : (grid0.coords t 0 : ℕ) < 32 := this; omega⟩ : Fin 24) := modRow_blk 1 (grid0.coords t 0) r
  rw [h]
  blk_ext [iblk, V_main_arg2, idx_sc t]
theorem blk_sh (c : Dev nD) (t : Fin grid0.N) (r : Fin 512) (d : Fin 2048) :
    iblk m c 3 t (ix3 0 0 d) = (m ((c : Thread nD τ).loc main_arg2) : S24x1x2048.Idx → EReal) (ix3 (modRow 0 (orow (grid0.coords t 0) r)) 0 d) := by
  have h : modRow 0 (orow (grid0.coords t 0) r) = (⟨(grid0.coords t 0 : ℕ) / 4 * 3 + 0, by have := (grid0.coords t 0).isLt; have h : (grid0.coords t 0 : ℕ) < 32 := this; omega⟩ : Fin 24) := modRow_blk 0 (grid0.coords t 0) r
  rw [h]
  blk_ext [iblk, V_main_arg2, idx_sh t]

theorem emb4 (t : Fin grid0.N) (y : S512x2048.Idx) : (win0_4.blk t).view.emb y = (ix2 (orow (grid0.coords t 0) (y 0)) (y 1) : S16384x2048.Idx) := by
  obtain ⟨h0, h1⟩ := idx_o t
  funext a
  apply Fin.ext
  match a with
  | 0 => unfold orow; blk_simp [h0]
  | 1 => blk_simp [h1]

theorem arr4_eq (c : Dev nD) : (dats m 0 c).arrAt 4 cfg0.N
    = modArr (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, emb4]
  refine (congrArg _ (ix2_of y)).trans ((out_at _ _ _ _ (y 0) (y 1)).trans ?_)
  unfold blkAt
  refine (congrArg₂ (fun u g => modulated u g _ _ (y 1)) (funext fun k => blk_x m c t (y 0) k) (funext fun k => blk_g m c t k)).trans ?_
  exact congrArg₂ (fun sc sh => modulated _ _ sc sh (y 1)) (funext fun k => blk_sc m c t (y 0) k) (funext fun k => blk_sh m c t (y 0) k)
end

end Cert.NormModIdeal.Value
end
-- ==== Proof.NormModRef.lean ====
module
public import proofs.«01_k».proof.Proof.NormModArr
public import proofs.«01_k».proof.Proof.Gen.NormModRefIdeal.Run

/-! The modulated norm: the reference's result. -/

@[expose] public section
set_option maxRecDepth 16384
noncomputable section
open Idealize.ShloMosaic Idealize.ShloMosaic.TcCoe Idealize.SL.Sem
namespace Cert.NormModRefIdeal.Value
open Cert.NormModRefIdeal Cert.NormModRefIdeal.Gen Cert.Norms

/-- The rows by sequences. -/
def bySeq (x : FVec Ideal S16384x2048 .f32) : FVec Ideal S8x2048x2048 .f32 := shapeCast _ x shapeCasts_S16384x2048_S8x2048x2048

/-- The row of a sequence's row. -/
def seqRow (b : Fin 8) (t : Fin 2048) : Fin 16384 := ⟨b * 2048 + t, by omega⟩

theorem bySeq_at (x : FVec Ideal S16384x2048 .f32) (b : Fin 8) (t d : Fin 2048) : bySeq x (ix3 b t d) = x (ix2 (seqRow b t) d) := by
  unfold seqRow
  pointwise [bySeq]

/-- The normed rows times the gain. -/
def normed (x : FVec Ideal S8x2048x2048 .f32) (g : FVec Ideal S2048 .f32) : FVec Ideal S8x2048x2048 .f32 :=
  mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))

theorem normed_at (x : FVec Ideal S8x2048x2048 .f32) (g : FVec Ideal S2048 .f32) (b : Fin 8) (t d : Fin 2048) :
    normed x g (ix3 b t d) = rms (fun k => x (ix3 b t k)) d * g (ix1 d) := by
  unfold rms
  pointwise [normed]

/-- A sequence's scale, plus one, and its shift. -/
def scales (m : FVec Ideal S24x1x2048 .f32) : FVec Ideal S8x1x2048 .f32 :=
  addf (broadcastInDim S8x1x2048 ![] bcast_S_S8x1x2048 (constant S_ .f32 0x3F800000#32)) (extractStridedSlice S8x1x2048 ![0, 1, 0] (shapeCast _ m shapeCasts_S24x1x2048_S8x3x2048) slices_S8x3x2048_S8x1x2048_0_1_0)
def shifts (m : FVec Ideal S24x1x2048 .f32) : FVec Ideal S8x1x2048 .f32 :=
  extractStridedSlice S8x1x2048 ![0, 0, 0] (shapeCast _ m shapeCasts_S24x1x2048_S8x3x2048) slices_S8x3x2048_S8x1x2048_0_0_0

theorem scales_at (m : FVec Ideal S24x1x2048 .f32) (b : Fin 8) (d : Fin 2048) : scales m (ix3 b 0 d) = 1 + m (ix3 (⟨b * 3 + 1, by omega⟩ : Fin 24) 0 d) := by
  pointwise [scales]
theorem shifts_at (m : FVec Ideal S24x1x2048 .f32) (b : Fin 8) (d : Fin 2048) : shifts m (ix3 b 0 d) = m (ix3 (⟨b * 3 + 0, by omega⟩ : Fin 24) 0 d) := by
  pointwise [shifts]

/-- The normed rows times the scales plus the shifts. -/
def out (n : FVec Ideal S8x2048x2048 .f32) (sc sh : FVec Ideal S8x1x2048 .f32) : FVec Ideal S16384x2048 .bf16 :=
  truncf .bf16 (shapeCast _ (addf (mulf n (broadcastInDim S8x2048x2048 ![0, 1, 2] bcast_S8x1x2048_S8x2048x2048_0_1_2 sc)) (broadcastInDim S8x2048x2048 ![0, 1, 2] bcast_S8x1x2048_S8x2048x2048_0_1_2 sh)) shapeCasts_S8x2048x2048_S16384x2048) bitsLt_bf16_f32

/-- The sequence of a row, and the row in it. -/
def seqOf (r : Fin 16384) : Fin 8 := ⟨r / 2048, by omega⟩
def posOf (r : Fin 16384) : Fin 2048 := ⟨r % 2048, by omega⟩

theorem row_of (r : Fin 16384) : seqRow (seqOf r) (posOf r) = r := by
  apply Fin.ext
  show (r : ℕ) / 2048 * 2048 + r % 2048 = r
  omega

theorem out_at (n : FVec Ideal S8x2048x2048 .f32) (sc sh : FVec Ideal S8x1x2048 .f32) (r : Fin 16384) (d : Fin 2048) :
    out n sc sh (ix2 r d) = n (ix3 (seqOf r) (posOf r) d) * sc (ix3 (seqOf r) 0 d) + sh (ix3 (seqOf r) 0 d) := by
  unfold seqOf posOf
  pointwise [out]

theorem out_eq (x : FVec Ideal S16384x2048 .f32) (g : FVec Ideal S2048 .f32) (m : FVec Ideal S24x1x2048 .f32) :
    out (normed (bySeq x) g) (scales m) (shifts m) = modArr x g m := by
  funext y
  obtain ⟨r, d, rfl⟩ : ∃ (r : Fin 16384) (d : Fin 2048), y = ix2 r d := ⟨y 0, y 1, ix2_of y⟩
  have e : (fun k => bySeq x (ix3 (seqOf r) (posOf r) k)) = rowAt x r := funext fun k => by
    rw [bySeq_at, row_of]
    rfl
  rw [out_at, normed_at, scales_at, shifts_at, e]
  rfl

end Cert.NormModRefIdeal.Value
end
-- ==== Proof.NormModClaims.lean ====
module

public import proofs.«01_k».proof.Defs
public import proofs.«01_k».proof.Proof.NormModRef
public import proofs.«01_k».proof.Proof.Gen.NormMod.Frame
public import Idealize.ShloMosaic.Lib.Quiescent

/-! The claims about the modulated norm. -/

@[expose] public section
set_option maxRecDepth 16384
noncomputable section
open Idealize.ShloMosaic Idealize.ShloMosaic.TcCoe Idealize.SL.Sem
namespace Cert.Proof.NormMod

theorem frame_p : Cert.quiescent_NormMod := fun m ρ _ => Cert.NormMod.Gen.frame m ρ
theorem frame_pi : Cert.quiescent_NormModIdeal := fun m ρ _ => Cert.NormModIdeal.Gen.frame m ρ
theorem frame_ri : Cert.quiescent_NormModRefIdeal := fun m ρ _ =>
  (θ_run Cert.NormModRefIdeal.defs _ _).mono (fun r h => ⟨fun c => (h c).2, sem_eq_zero_of_no_sems (by decide) r.2⟩)
    (Cert.NormModRefIdeal.Value.run (F := Ideal) m ρ)

theorem preserves : Cert.preserves_NormMod_NormModIdeal := trivial

theorem algebraic : Cert.algebraic_NormModIdeal_NormModRefIdeal := by
  intro m ρ m' ρ' hpre hag
  refine ⟨_, Cert.NormModIdeal.Value.run_blocks (F := Ideal) m ρ, ?_⟩
  refine (θ_run Cert.NormModRefIdeal.defs _ _).mono (fun _ h c => ⟨(h c).1.trans ?_, (h c).2⟩) (Cert.NormModRefIdeal.Value.run (F := Ideal) m' ρ')
  rw [(hag c).1, (hag c).2.1, (hag c).2.2]
  exact (Cert.NormModRefIdeal.Value.out_eq _ _ _).trans (Cert.NormModIdeal.Value.arr4_eq m c).symm

end Cert.Proof.NormMod
end
-- ==== Proof.FinalNormArr.lean ====
module
public import proofs.«01_k».proof.Proof.Norms
public import proofs.«01_k».proof.Proof.Gen.FinalNormIdeal.Value

/-! The final norm: what each grid point writes, and the result array. -/

@[expose] public section
set_option maxRecDepth 16384
noncomputable section
open Idealize.ShloMosaic Idealize.ShloMosaic.TcCoe Idealize.SL.Sem
namespace Cert.FinalNormIdeal.Value
open Cert.FinalNormIdeal Cert.FinalNormIdeal.Gen Cert.Norms
open Cert.ConvOutIdeal.Value (orow)

theorem written_at (x : FVec Ideal S512x2048 .f32) (g : FVec Ideal S1x2048 .f32) (r : Fin 512) (d : Fin 2048) :
    k0_pay1 (F := Ideal) x g (ix2 r d) = rms (rowAt x r) d * g (ix2 0 d) := by
  unfold rms rowAt
  pointwise [k0_pay1]

theorem out_at (x : Vec Ideal S512x2048 .f32) (g : Vec Ideal S1x2048 .f32) (r : Fin 512) (d : Fin 2048) :
    out0_2 (F := Ideal) x g (ix2 r d) = rms (rowAt x r) d * g (ix2 0 d) := by
  unfold out0_2
  refine (congrFun (View.canon_cons_unit_lit (Val := Elt Ideal) (S := S512x2048) (e := .f32) inb_S512x2048_S512x2048_0_0 _ [] (by decide)) _).trans ?_
  rw [written_at]
  exact congrArg₂ (fun a b => rms (rowAt a r) d * b (ix2 0 d)) (whole_rows x _) (whole_gain g _)

section
variable (m : (ℓ : Loc nD τ sig) → Buf (Elt Ideal) ℓ)

theorem idx_x : ∀ t : Fin grid0.N, win0_0.index t 0 = (grid0.coords t 0 : ℕ) ∧ win0_0.index t 1 = 0 := by decide +kernel
theorem idx_g : ∀ t : Fin grid0.N, win0_1.index t 0 = 0 ∧ win0_1.index t 1 = 0 := by decide +kernel
theorem idx_o : ∀ t : Fin grid0.N, win0_2.index t 0 = (grid0.coords t 0 : ℕ) ∧ win0_2.index t 1 = 0 := by decide +kernel

theorem blk_x (c : Dev nD) (t : Fin grid0.N) (r : Fin 512) (k : Fin 2048) :
    iblk m c 0 t (ix2 r k) = (m ((c : Thread nD τ).loc main_arg0) : S16384x2048.Idx → EReal) (ix2 (orow (grid0.coords t 0) r) k) := by
  unfold orow
  blk_ext [iblk, V_main_arg0, idx_x t]
theorem blk_g (c : Dev nD) (t : Fin grid0.N) (d : Fin 2048) : iblk m c 1 t (ix2 0 d) = (m ((c : Thread nD τ).loc main_arg1) : S2048.Idx → EReal) (ix1 d) := by
  have e : V m c main_v0 = shapeCast S1x2048 (m ((c : Thread nD τ).loc main_arg1) : FVec Ideal S2048 .f32) shapeCasts_S2048_S1x2048 := by
    unfold V hostOps0
    after_results_simp
    rfl
  have h1 : iblk m c 1 t (ix2 0 d) = V m c main_v0 (ix2 0 d) := by
    blk_ext [iblk, idx_g t]
  rw [h1, e]
  pointwise []

theorem emb2 (t : Fin grid0.N) (y : S512x2048.Idx) : (win0_2.blk t).view.emb y = (ix2 (orow (grid0.coords t 0) (y 0)) (y 1) : S16384x2048.Idx) := by
  obtain ⟨h0, h1⟩ := idx_o t
  funext a
  apply Fin.ext
  match a with
  | 0 => unfold orow; blk_simp [h0]
  | 1 => blk_simp [h1]

theorem arr2_eq (c : Dev nD) : (dats m 0 c).arrAt 2 cfg0.N
    = normArr (m ((c : Thread nD τ).loc main_arg0)) (m ((c : Thread nD τ).loc main_arg1)) := by
  refine (dats m 0 c).arrAt_eq_of_covers 2 _ (by decide +kernel) fun t _ y => ?_
  blk_simp
  rw [after0_2, emb2]
  refine (congrArg _ (ix2_of y)).trans ((out_at _ _ (y 0) (y 1)).trans ?_)
  exact congrArg₂ (fun u g => rms u (y 1) * g) (funext fun k => blk_x m c t (y 0) k) (blk_g m c t (y 1))
end

end Cert.FinalNormIdeal.Value
end
-- ==== Proof.FinalNormRef.lean ====
module
public import proofs.«01_k».proof.Proof.FinalNormArr
public import proofs.«01_k».proof.Proof.Gen.FinalNormRefIdeal.Run

/-! The final norm: the reference's result. -/

@[expose] public section
set_option maxRecDepth 16384
noncomputable section
open Idealize.ShloMosaic Idealize.ShloMosaic.TcCoe Idealize.SL.Sem
namespace Cert.FinalNormRefIdeal.Value
open Cert.FinalNormRefIdeal Cert.FinalNormRefIdeal.Gen Cert.Norms

/-- The normed rows times the gain. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem normed_at (x : FVec Ideal S16384x2048 .f32) (g : FVec Ideal S2048 .f32) (r : Fin 16384) (d : Fin 2048) :
    normed x g (ix2 r d) = rms (rowAt x r) d * g (ix1 d) := by
  unfold rms rowAt
  pointwise [normed]

theorem out_eq (x : FVec Ideal S16384x2048 .f32) (g : FVec Ideal S2048 .f32) : normed x g = normArr x g := by
  funext y
  exact (congrArg _ (ix2_of y)).trans (normed_at x g (y 0) (y 1))

end Cert.FinalNormRefIdeal.Value
end
-- ==== Proof.FinalNormClaims.lean ====
module

public import proofs.«01_k».proof.Defs
public import proofs.«01_k».proof.Proof.FinalNormRef
public import proofs.«01_k».proof.Proof.Gen.FinalNorm.Frame
public import Idealize.ShloMosaic.Lib.Quiescent

/-! The claims about the final norm. -/

@[expose] public section
set_option maxRecDepth 16384
noncomputable section
open Idealize.ShloMosaic Idealize.ShloMosaic.TcCoe Idealize.SL.Sem
namespace Cert.Proof.FinalNorm

theorem frame_p : Cert.quiescent_FinalNorm := fun m ρ _ => Cert.FinalNorm.Gen.frame m ρ
theorem frame_pi : Cert.quiescent_FinalNormIdeal := fun m ρ _ => Cert.FinalNormIdeal.Gen.frame m ρ
theorem frame_ri : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

theorem preserves : Cert.preserves_FinalNorm_FinalNormIdeal := trivial

theorem algebraic : Cert.algebraic_FinalNormIdeal_FinalNormRefIdeal := by
  intro m ρ m' ρ' hpre hag
  refine ⟨_, Cert.FinalNormIdeal.Value.run_blocks (F := Ideal) m ρ, ?_⟩
  refine (θ_run Cert.FinalNormRefIdeal.defs _ _).mono (fun _ h c => ⟨(h c).1.trans ?_, (h c).2⟩) (Cert.FinalNormRefIdeal.Value.run (F := Ideal) m' ρ')
  rw [(hag c).1, (hag c).2]
  exact (Cert.FinalNormRefIdeal.Value.out_eq _ _).trans (Cert.FinalNormIdeal.Value.arr2_eq m c).symm

end Cert.Proof.FinalNorm
end
-- ==== Proof.NormInSampleArr.lean ====
module
public import proofs.«01_k».proof.Proof.Segments
public import proofs.«01_k».proof.Proof.Gen.NormInSampleIdeal.Value

/-! The normed segment of the input projection for the sample group: what its one grid point writes, and the result array. -/

@[expose] public section
set_option maxRecDepth 16384
noncomputable section
open Idealize.ShloMosaic Idealize.ShloMosaic.TcCoe Idealize.SL.Sem
namespace Cert.NormInSampleIdeal.Value
open Cert.NormInSampleIdeal Cert.NormInSampleIdeal.Gen Cert.Segments
open Cert.ConvOutIdeal.Value (whole_w)

theorem stored_at (x : FVec Ideal S2048x1024 .f32) : k0_pay2 (F := Ideal) x = x := stored_id x _ _

theorem centred_at (a : FVec Ideal S128x2048 .bf16) (W : FVec Ideal S2048x1024 .bf16) (r : Fin 128) (d : Fin 1024) :
    k0_pay5 (F := Ideal) a W (ix2 r d) = centred (gelu (rowOf a W r)) d := by
  unfold centred gelu rowOf
  pointwise [k0_pay5]

theorem scale_at (a : FVec Ideal S128x2048 .bf16) (W : FVec Ideal S2048x1024 .bf16) (r : Fin 128) (d : Fin 1024) :
    k0_pay6 (F := Ideal) a W (ix2 r d) = scale (centred (gelu (rowOf a W r))) := by
  unfold scale
  simp only [← centred_at]
  pointwise [k0_pay6]

theorem pay1_at (g b : FVec Ideal S1x1024 .f32) (u v : FVec Ideal S128x1024 .f32) (r : Fin 128) (d : Fin 1024) :
    k0_pay1 (F := Ideal) g b u v (ix2 r d) = u (ix2 r d) * v (ix2 r d) * g (ix2 0 d) + b (ix2 0 d) := by
  pointwise [k0_pay1]

theorem pay3_at (g : FVec Ideal S1x1024 .f32) (d : Fin 1024) : k0_pay3 (F := Ideal) g (ix2 0 d) = g (ix2 0 d) := by
  pointwise [k0_pay3]
theorem pay4_at (b : FVec Ideal S1x1024 .f32) (d : Fin 1024) : k0_pay4 (F := Ideal) b (ix2 0 d) = b (ix2 0 d) := by
  pointwise [k0_pay4]

variable (c : Dev nD) (i : grid0.Coords) (arg1 : Memref sig .tc .vmem S128x2048 .bf16) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S128x1024 .f32) (harg5 : arg5.IsWhole) (arg6 : Memref sig .tc .vmem S2048x1024 .bf16) (harg6 : arg6.IsWhole)
    (x0 : Vec Ideal S128x2048 .bf16) (x1 : Vec Ideal S2048x1024 .f32) (x2 x3 : Vec Ideal S1x1024 .f32)

theorem canon_stored : View.canon (kernelRun0_A.sl.HS0_1 (F := Ideal) c arg2 harg2 x1) = x1 := by
  unfold kernelRun0_A.sl.HS0_1
  refine (View.canon_cons_unit_lit (Val := Elt Ideal) (S := S2048x1024) (e := .bf16) inb_S2048x1024_S2048x1024_0_0 _ [] (by decide)).trans ?_
  simp (disch := decide) only [View.readAt_eq_ld, Memref.IsWhole.read_unread]
  exact (stored_at _).trans (whole_w x1 _)

theorem out_first (hc0 : cond0_0 i) : out0_A_4 (F := Ideal) c i arg1 harg1 arg2 harg2 arg3 harg3 arg4 harg4 arg5 harg5 arg6 harg6 hc0 x0 x1 x2 x3 = segArr (geluNorm (asRow x2) (asRow x3)) x0 x1 := by
  unfold out0_A_4
  rw [View.read_writes_eq_canon _ _ _ (fun y => cover0_A_4 c i arg1 harg1 arg2 harg2 arg3 harg3 arg4 harg4 arg5 harg5 arg6 harg6 hc0 x0 x1 x2 x3 y)]
  unfold kernelRun0_A
  dsimp only
  refine (View.canon_cons_unit_lit (Val := Elt Ideal) (S := S128x1024) (e := .f32) inb_S128x1024_S128x1024_0_0 _ [] (by decide)).trans ?_
  funext y
  obtain ⟨r, d, rfl⟩ : ∃ (r : Fin 128) (d : Fin 1024), y = ix2 r d := ⟨y 0, y 1, by funext a; fin_cases a <;> rfl⟩
  rw [pay1_at]
  unfold kernelRun0_A.sl.r kernelRun0_A.sl.r_1 kernelRun0_A.sl.r_2 kernelRun0_A.sl.r_3 kernelRun0_A.sl.v4
  rw [View.readCov_eq_canon', canon_stored]
  simp (disch := decide) only [View.readAt_eq_ld, Memref.IsWhole.read_unread]
  rw [pay3_at, pay4_at, centred_at, scale_at, whole_v, whole_v]
  exact congrArg₂ (fun a W => (geluNorm (asRow x2) (asRow x3)) (rowOf a W r) d) (View.ld_unit_zero (by decide) _ x0) (whole_s x1 _)

/-! ## The input blocks and the array -/

section
variable (m : (ℓ : Loc nD τ sig) → Buf (Elt Ideal) ℓ)

theorem idx_h : ∀ t : Fin grid0.N, win0_0.index t 0 = 0 ∧ win0_0.index t 1 = 0 := by decide +kernel
theorem idx_w : ∀ t : Fin grid0.N, win0_1.index t 0 = 0 ∧ win0_1.index t 1 = 1 := by decide +kernel
theorem idx_o : ∀ t : Fin grid0.N, win0_4.index t 0 = 0 ∧ win0_4.index t 1 = 0 := by decide +kernel

theorem blk_h (c : Dev nD) (t : Fin grid0.N) (r : Fin 128) (k : Fin 2048) :
    iblk m c 0 t (ix2 r k) = (m ((c : Thread nD τ).loc main_arg0) : S128x2048.Idx → EReal) (ix2 r k) := by
  blk_ext [iblk, V_main_arg0, idx_h t]
theorem blk_w (c : Dev nD) (t : Fin grid0.N) : iblk m c 1 t = segW (m ((c : Thread nD τ).loc main_arg1)) 1 := by
  funext y
  unfold segW scol
  blk_ext [iblk, V_main_arg1, idx_w t]

theorem idx_g : ∀ t : Fin grid0.N, win0_2.index t 0 = 0 ∧ win0_2.index t 1 = 0 := by decide +kernel
theorem blk_g (c : Dev nD) (t : Fin grid0.N) : asRow (iblk m c 2 t) = (m ((c : Thread nD τ).loc main_arg2) : S1024.Idx → EReal) := by
  have e : V m c main_v0 = shapeCast S1x1024 (m ((c : Thread nD τ).loc main_arg2) : FVec Ideal S1024 .f32) shapeCasts_S1024_S1x1024 := by
    unfold V hostOps0
    after_results_simp
    rfl
  funext y
  obtain ⟨d, rfl⟩ : ∃ d : Fin 1024, y = ix1 d := ⟨y 0, by funext a; fin_cases a; rfl⟩
  have h : iblk m c 2 t (ix2 0 d) = V m c main_v0 (ix2 0 d) := by
    blk_ext [iblk, idx_g t]
  show iblk m c 2 t (ix2 0 d) = _
  refine h.trans ?_
  rw [e]
  pointwise []

theorem idx_b : ∀ t : Fin grid0.N, win0_3.index t 0 = 0 ∧ win0_3.index t 1 = 0 := by decide +kernel
theorem blk_b (c : Dev nD) (t : Fin grid0.N) : asRow (iblk m c 3 t) = (m ((c : Thread nD τ).loc main_arg3) : S1024.Idx → EReal) := by
  have e : V m c main_v1 = shapeCast S1x1024 (m ((c : Thread nD τ).loc main_arg3) : FVec Ideal S1024 .f32) shapeCasts_S1024_S1x1024 := by
    unfold V hostOps0
    after_results_simp
    rfl
  funext y
  obtain ⟨d, rfl⟩ : ∃ d : Fin 1024, y = ix1 d := ⟨y 0, by funext a; fin_cases a; rfl⟩
  have h : iblk m c 3 t (ix2 0 d) = V m c main_v1 (ix2 0 d) := by
    blk_ext [iblk, idx_b t]
  show iblk m c 3 t (ix2 0 d) = _
  refine h.trans ?_
  rw [e]
  pointwise []

theorem blk_a (c : Dev nD) (t : Fin grid0.N) : iblk m c 0 t = (m ((c : Thread nD τ).loc main_arg0) : S128x2048.Idx → EReal) := by
  funext y
  obtain ⟨r, k, rfl⟩ : ∃ (r : Fin 128) (k : Fin 2048), y = ix2 r k := ⟨y 0, y 1, by funext a; fin_cases a <;> rfl⟩
  exact blk_h m c t r k

theorem emb4 (t : Fin grid0.N) (y : S128x1024.Idx) : (win0_4.blk t).view.emb y = (ix2 (y 0) (y 1) : S128x1024.Idx) := by
  obtain ⟨h0, h1⟩ := idx_o t
  funext a
  apply Fin.ext
  match a with
  | 0 => blk_simp [h0]
  | 1 => blk_simp [h1]

theorem arr4_eq (c : Dev nD) : (dats m 0 c).arrAt 4 cfg0.N
    = segArr (geluNorm (m ((c : Thread nD τ).loc main_arg2)) (m ((c : Thread nD τ).loc main_arg3))) (m ((c : Thread nD τ).loc main_arg0)) (segW (m ((c : Thread nD τ).loc main_arg1)) 1) := by
  refine (dats m 0 c).arrAt_eq_of_covers 4 _ (by decide +kernel) fun t _ y => ?_
  blk_simp
  rw [after0_4, emb4]
  unfold outsAt0
  rw [out_first, blk_a, blk_w, blk_g, blk_b]
  exact congrArg _ (by funext a; fin_cases a <;> rfl)
end

end Cert.NormInSampleIdeal.Value
end
-- ==== Proof.NormInSampleRef.lean ====
module
public import proofs.«01_k».proof.Proof.NormInSampleArr
public import proofs.«01_k».proof.Proof.Gen.NormInSampleRefIdeal.Run

/-! The normed segment of the input projection for the sample group: the reference's result. -/

@[expose] public section
set_option maxRecDepth 128
noncomputable section
open Idealize.ShloMosaic Idealize.ShloMosaic.TcCoe Idealize.SL.Sem
namespace Cert.NormInSampleRefIdeal.Value
open Cert.NormInSampleRefIdeal Cert.NormInSampleRefIdeal.Gen Cert.Segments

/-- The segment of the product. -/
def seg (h : FVec Ideal S128x2048 .bf16) (w : FVec Ideal S2048x7168 .f32) : FVec Ideal S128x1024 .f32 :=
  extractStridedSlice S128x1024 ![0, 1024] (Host.dotGeneral dot_S128x2048_S2048x7168_S128x7168_1_0_0_1_n_n none (extf .f32 h bitsLt_bf16_f32) w) slices_S128x7168_S128x1024_0_1024

theorem seg_at (h : FVec Ideal S128x2048 .bf16) (w : FVec Ideal S2048x7168 .f32) (r : Fin 128) (d : Fin 1024) :
    seg h w (ix2 r d) = rowOf h (segW w 1) r d := by
  unfold rowOf segW scol
  pointwise [seg]

/-- The Gaussian error unit of the segment. -/
def act (v : FVec Ideal S128x1024 .f32) : FVec Ideal S128x1024 .f32 :=
  mulf v (mulf (broadcastInDim S128x1024 ![] bcast_S_S128x1024 (constant S_ .f32 0x3F000000#32)) (addf (broadcastInDim S128x1024 ![] bcast_S_S128x1024 (constant S_ .f32 0x3F800000#32)) (Host.tanh (mulf (broadcastInDim S128x1024 ![] bcast_S_S128x1024 (constant S_ .f32 0x3F4C422A#32)) (addf v (mulf (broadcastInDim S128x1024 ![] bcast_S_S128x1024 (constant S_ .f32 0x3D372713#32)) (mulf (mulf v v) v)))))))

theorem act_at (v : FVec Ideal S128x1024 .f32) (r : Fin 128) (d : Fin 1024) : act v (ix2 r d) = gelu (fun x => v (ix2 r x)) d := by
  unfold gelu
  pointwise [act]

/-- Each row less its mean. -/
def centre (u : FVec Ideal S128x1024 .f32) : FVec Ideal S128x1024 .f32 :=
  subf u (broadcastInDim S128x1024 ![0, 1] bcast_S128x1_S128x1024_0_1 (Host.divf (broadcastInDim S128x1 ![0] bcast_S128_S128x1_0 (Host.reduceAdd u (constant S_ .f32 0x00000000#32) reducesTo_S128x1024_S128_d1 h_S_)) (broadcastInDim S128x1 ![] bcast_S_S128x1 (constant S_ .f32 0x44800000#32))))

theorem centre_at (u : FVec Ideal S128x1024 .f32) (r : Fin 128) (d : Fin 1024) : centre u (ix2 r d) = centred (fun x => u (ix2 r x)) d := by
  unfold centred
  pointwise [centre]

/-- One over the root of each row's mean square. -/
def scales (v : FVec Ideal S128x1024 .f32) : FVec Ideal S128x1024 .f32 :=
  (broadcastInDim S128x1024 ![0, 1] bcast_S128x1_S128x1024_0_1 (Host.rsqrt (addf (Host.divf (broadcastInDim S128x1 ![0] bcast_S128_S128x1_0 (Host.reduceAdd (mulf v v) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))

theorem scales_at (v : FVec Ideal S128x1024 .f32) (r : Fin 128) (d : Fin 1024) : scales v (ix2 r d) = scale (fun x => v (ix2 r x)) := by
  unfold scale
  pointwise [scales]

/-- The gain and the bias. -/
def affine (v s : FVec Ideal S128x1024 .f32) (g b : FVec Ideal S1024 .f32) : FVec Ideal S128x1024 .f32 :=
  addf (mulf (mulf v s) (broadcastInDim S128x1024 ![0, 1] bcast_S1x1024_S128x1024_0_1 (broadcastInDim S1x1024 ![1] bcast_S1024_S1x1024_1 g))) (broadcastInDim S128x1024 ![0, 1] bcast_S1x1024_S128x1024_0_1 (broadcastInDim S1x1024 ![1] bcast_S1024_S1x1024_1 b))

theorem affine_at (v s : FVec Ideal S128x1024 .f32) (g b : FVec Ideal S1024 .f32) (r : Fin 128) (d : Fin 1024) :
    affine v s g b (ix2 r d) = v (ix2 r d) * s (ix2 r d) * g (ix1 d) + b (ix1 d) := by
  pointwise [affine]

theorem out_eq (h : FVec Ideal S128x2048 .bf16) (w : FVec Ideal S2048x7168 .f32) (g b : FVec Ideal S1024 .f32) :
    affine (centre (act (seg h w))) (scales (centre (act (seg h w)))) g b = segArr (geluNorm g b) h (segW w 1) := by
  funext y
  obtain ⟨r, d, rfl⟩ : ∃ (r : Fin 128) (d : Fin 1024), y = ix2 r d := ⟨y 0, y 1, by funext a; fin_cases a <;> rfl⟩
  have e : (fun x => seg h w (ix2 r x)) = rowOf h (segW w 1) r := funext fun x => seg_at h w r x
  rw [affine_at, scales_at]
  simp only [centre_at, act_at, e]
  rfl

end Cert.NormInSampleRefIdeal.Value
end
-- ==== Proof.NormInSampleClaims.lean ====
module

public import proofs.«01_k».proof.Defs
public import proofs.«01_k».proof.Proof.NormInSampleRef
public import proofs.«01_k».proof.Proof.Gen.NormInSample.Frame
public import Idealize.ShloMosaic.Lib.Quiescent

/-! The claims about the normed segment of the input projection for the sample group. -/

@[expose] public section
set_option maxRecDepth 16384
noncomputable section
open Idealize.ShloMosaic Idealize.ShloMosaic.TcCoe Idealize.SL.Sem
namespace Cert.Proof.NormInSample

theorem frame_p : Cert.quiescent_NormInSample := fun m ρ _ => Cert.NormInSample.Gen.frame m ρ
theorem frame_pi : Cert.quiescent_NormInSampleIdeal := fun m ρ _ => Cert.NormInSampleIdeal.Gen.frame m ρ
theorem frame_ri : Cert.quiescent_NormInSampleRefIdeal := fun m ρ _ =>
  (θ_run Cert.NormInSampleRefIdeal.defs _ _).mono (fun r h => ⟨fun c => (h c).2, sem_eq_zero_of_no_sems (by decide) r.2⟩)
    (Cert.NormInSampleRefIdeal.Value.run (F := Ideal) m ρ)

theorem preserves : Cert.preserves_NormInSample_NormInSampleIdeal := trivial

theorem algebraic : Cert.algebraic_NormInSampleIdeal_NormInSampleRefIdeal := by
  intro m ρ m' ρ' hpre hag
  refine ⟨_, Cert.NormInSampleIdeal.Value.run_blocks (F := Ideal) m ρ, ?_⟩
  refine (θ_run Cert.NormInSampleRefIdeal.defs _ _).mono (fun _ h c => ⟨(h c).1.trans ?_, (h c).2⟩) (Cert.NormInSampleRefIdeal.Value.run (F := Ideal) m' ρ')
  unfold Cert.NormInSampleRefIdeal.Value.res_main_v45
  rw [(hag c).1, (hag c).2.1, (hag c).2.2.1, (hag c).2.2.2]
  exact (Cert.NormInSampleRefIdeal.Value.out_eq _ _ _ _).trans (Cert.NormInSampleIdeal.Value.arr4_eq m c).symm

end Cert.Proof.NormInSample
end
-- ==== Proof.FinalNormSampleArr.lean ====
module
public import proofs.«01_k».proof.Proof.Norms
public import proofs.«01_k».proof.Proof.Gen.FinalNormSampleIdeal.Value

/-! The final norm of the sample group: what its one grid point writes, and the result array. -/

@[expose] public section
set_option maxRecDepth 16384
noncomputable section
open Idealize.ShloMosaic Idealize.ShloMosaic.TcCoe Idealize.SL.Sem
namespace Cert.FinalNormSampleIdeal.Value
open Cert.FinalNormSampleIdeal Cert.FinalNormSampleIdeal.Gen Cert.Norms

theorem written_at (x : FVec Ideal S128x2048 .f32) (g : FVec Ideal S1x2048 .f32) (r : Fin 128) (d : Fin 2048) :
    k0_pay1 (F := Ideal) x g (ix2 r d) = rms (rowAt x r) d * g (ix2 0 d) := by
  unfold rms rowAt
  pointwise [k0_pay1]

theorem out_at (x : Vec Ideal S128x2048 .f32) (g : Vec Ideal S1x2048 .f32) (r : Fin 128) (d : Fin 2048) :
    out0_2 (F := Ideal) x g (ix2 r d) = rms (rowAt x r) d * g (ix2 0 d) := by
  unfold out0_2
  refine (congrFun (View.canon_cons_unit_lit (Val := Elt Ideal) (S := S128x2048) (e := .f32) inb_S128x2048_S128x2048_0_0 _ [] (by decide)) _).trans ?_
  rw [written_at]
  exact congrArg₂ (fun a b => rms (rowAt a r) d * b (ix2 0 d)) (whole_rows x _) (whole_gain g _)

section
variable (m : (ℓ : Loc nD τ sig) → Buf (Elt Ideal) ℓ)

theorem idx_x : ∀ t : Fin grid0.N, win0_0.index t 0 = 0 ∧ win0_0.index t 1 = 0 := by decide +kernel
theorem idx_g : ∀ t : Fin grid0.N, win0_1.index t 0 = 0 ∧ win0_1.index t 1 = 0 := by decide +kernel
theorem idx_o : ∀ t : Fin grid0.N, win0_2.index t 0 = 0 ∧ win0_2.index t 1 = 0 := by decide +kernel

theorem blk_x (c : Dev nD) (t : Fin grid0.N) (r : Fin 128) (k : Fin 2048) :
    iblk m c 0 t (ix2 r k) = (m ((c : Thread nD τ).loc main_arg0) : S128x2048.Idx → EReal) (ix2 r k) := by
  blk_ext [iblk, V_main_arg0, idx_x t]
theorem blk_g (c : Dev nD) (t : Fin grid0.N) (d : Fin 2048) : iblk m c 1 t (ix2 0 d) = (m ((c : Thread nD τ).loc main_arg1) : S2048.Idx → EReal) (ix1 d) := by
  have e : V m c main_v0 = shapeCast S1x2048 (m ((c : Thread nD τ).loc main_arg1) : FVec Ideal S2048 .f32) shapeCasts_S2048_S1x2048 := by
    unfold V hostOps0
    after_results_simp
    rfl
  have h1 : iblk m c 1 t (ix2 0 d) = V m c main_v0 (ix2 0 d) := by
    blk_ext [iblk, idx_g t]
  rw [h1, e]
  pointwise []

theorem emb2 (t : Fin grid0.N) (y : S128x2048.Idx) : (win0_2.blk t).view.emb y = (ix2 (y 0) (y 1) : S128x2048.Idx) := by
  obtain ⟨h0, h1⟩ := idx_o t
  funext a
  apply Fin.ext
  match a with
  | 0 => blk_simp [h0]
  | 1 => blk_simp [h1]

theorem arr2_eq (c : Dev nD) : (dats m 0 c).arrAt 2 cfg0.N
    = normArr (m ((c : Thread nD τ).loc main_arg0)) (m ((c : Thread nD τ).loc main_arg1)) := by
  refine (dats m 0 c).arrAt_eq_of_covers 2 _ (by decide +kernel) fun t _ y => ?_
  blk_simp
  rw [after0_2, emb2]
  refine (congrArg _ (ix2_of y)).trans ((out_at _ _ (y 0) (y 1)).trans ?_)
  exact congrArg₂ (fun u g => rms u (y 1) * g) (funext fun k => blk_x m c t (y 0) k) (blk_g m c t (y 1))
end

end Cert.FinalNormSampleIdeal.Value
end
-- ==== Proof.FinalNormSampleRef.lean ====
module
public import proofs.«01_k».proof.Proof.FinalNormSampleArr
public import proofs.«01_k».proof.Proof.Gen.FinalNormSampleRefIdeal.Run

/-! The final norm of the sample group: the reference's result. -/

@[expose] public section
set_option maxRecDepth 128
noncomputable section
open Idealize.ShloMosaic Idealize.ShloMosaic.TcCoe Idealize.SL.Sem
namespace Cert.FinalNormSampleRefIdeal.Value
open Cert.FinalNormSampleRefIdeal Cert.FinalNormSampleRefIdeal.Gen Cert.Norms

/-- The normed rows times the gain. -/
def normed (x : FVec Ideal S128x2048 .f32) (g : FVec Ideal S2048 .f32) : FVec Ideal S128x2048 .f32 :=
  mulf (mulf x (broadcastInDim S128x2048 ![0, 1] bcast_S128x1_S128x2048_0_1 (Host.rsqrt (addf (Host.divf (broadcastInDim S128x1 ![0] bcast_S128_S128x1_0 (Host.reduceAdd (mulf x x) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 g))

theorem normed_at (x : FVec Ideal S128x2048 .f32) (g : FVec Ideal S2048 .f32) (r : Fin 128) (d : Fin 2048) :
    normed x g (ix2 r d) = rms (rowAt x r) d * g (ix1 d) := by
  unfold rms rowAt
  pointwise [normed]

theorem out_eq (x : FVec Ideal S128x2048 .f32) (g : FVec Ideal S2048 .f32) : normed x g = normArr x g := by
  funext y
  exact (congrArg _ (ix2_of y)).trans (normed_at x g (y 0) (y 1))

end Cert.FinalNormSampleRefIdeal.Value
end
-- ==== Proof.FinalNormSampleClaims.lean ====
module

public import proofs.«01_k».proof.Defs
public import proofs.«01_k».proof.Proof.FinalNormSampleRef
public import proofs.«01_k».proof.Proof.Gen.FinalNormSample.Frame
public import Idealize.ShloMosaic.Lib.Quiescent

/-! The claims about the final norm of the sample group. -/

@[expose] public section
set_option maxRecDepth 16384
noncomputable section
open Idealize.ShloMosaic Idealize.ShloMosaic.TcCoe Idealize.SL.Sem
namespace Cert.Proof.FinalNormSample

theorem frame_p : Cert.quiescent_FinalNormSample := fun m ρ _ => Cert.FinalNormSample.Gen.frame m ρ
theorem frame_pi : Cert.quiescent_FinalNormSampleIdeal := fun m ρ _ => Cert.FinalNormSampleIdeal.Gen.frame m ρ
theorem frame_ri : Cert.quiescent_FinalNormSampleRefIdeal := fun m ρ _ =>
  (θ_run Cert.FinalNormSampleRefIdeal.defs _ _).mono (fun r h => ⟨fun c => (h c).2, sem_eq_zero_of_no_sems (by decide) r.2⟩)
    (Cert.FinalNormSampleRefIdeal.Value.run (F := Ideal) m ρ)

theorem preserves : Cert.preserves_FinalNormSample_FinalNormSampleIdeal := trivial

theorem algebraic : Cert.algebraic_FinalNormSampleIdeal_FinalNormSampleRefIdeal := by
  intro m ρ m' ρ' hpre hag
  refine ⟨_, Cert.FinalNormSampleIdeal.Value.run_blocks (F := Ideal) m ρ, ?_⟩
  refine (θ_run Cert.FinalNormSampleRefIdeal.defs _ _).mono (fun _ h c => ⟨(h c).1.trans ?_, (h c).2⟩) (Cert.FinalNormSampleRefIdeal.Value.run (F := Ideal) m' ρ')
  rw [(hag c).1, (hag c).2]
  exact (Cert.FinalNormSampleRefIdeal.Value.out_eq _ _).trans (Cert.FinalNormSampleIdeal.Value.arr2_eq m c).symm

end Cert.Proof.FinalNormSample
end
-- ==== Proof.lean ====
/- The proof of the certificate's claim: each part is proved in Proof/Claims.lean. -/
module

public import proofs.«01_k».proof.Defs
public import proofs.«01_k».proof.Proof.Claims
public import proofs.«01_k».proof.Proof.ConvInClaims
public import proofs.«01_k».proof.Proof.ConvOutClaims
public import proofs.«01_k».proof.Proof.AbOutClaims
public import proofs.«01_k».proof.Proof.KeysInClaims
public import proofs.«01_k».proof.Proof.ValuesInClaims
public import proofs.«01_k».proof.Proof.QueriesInClaims
public import proofs.«01_k».proof.Proof.GateInClaims
public import proofs.«01_k».proof.Proof.MixGateInClaims
public import proofs.«01_k».proof.Proof.GeluInClaims
public import proofs.«01_k».proof.Proof.NormInClaims
public import proofs.«01_k».proof.Proof.NormModClaims
public import proofs.«01_k».proof.Proof.FinalNormClaims
public import proofs.«01_k».proof.Proof.NormInSampleClaims
public import proofs.«01_k».proof.Proof.FinalNormSampleClaims
public import proofs.«01_k».proof.Proof.Gen.ConvIn.Frame
public import proofs.«01_k».proof.Proof.Gen.ConvOut.Frame
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Gen.KeysIn
public import proofs.«01_k».proof.Proof.Gen.KeysIn.Frame
public import proofs.«01_k».proof.Proof.Gen.KeysInIdeal.Frame
public import proofs.«01_k».proof.Proof.Gen.KeysIn.Points
public import proofs.«01_k».proof.Proof.Gen.KeysInIdeal.Points
public import proofs.«01_k».proof.Proof.Gen.KeysIn.Launch
public import proofs.«01_k».proof.Proof.Gen.KeysInIdeal.Launch
public import proofs.«01_k».proof.Proof.Gen.KeysIn.Skeleton
public import proofs.«01_k».proof.Proof.Gen.KeysInIdeal.Skeleton
public import proofs.«01_k».proof.Proof.Gen.KeysInIdeal
public import proofs.«01_k».proof.Proof.Gen.KeysInRefIdeal
public import proofs.«01_k».proof.Proof.Gen.KeysInRefIdeal.Run
public import proofs.«01_k».proof.Proof.Gen.ValuesIn
public import proofs.«01_k».proof.Proof.Gen.ValuesIn.Frame
public import proofs.«01_k».proof.Proof.Gen.ValuesInIdeal.Frame
public import proofs.«01_k».proof.Proof.Gen.ValuesIn.Points
public import proofs.«01_k».proof.Proof.Gen.ValuesInIdeal.Points
public import proofs.«01_k».proof.Proof.Gen.ValuesIn.Launch
public import proofs.«01_k».proof.Proof.Gen.ValuesInIdeal.Launch
public import proofs.«01_k».proof.Proof.Gen.ValuesIn.Skeleton
public import proofs.«01_k».proof.Proof.Gen.ValuesInIdeal.Skeleton
public import proofs.«01_k».proof.Proof.Gen.ValuesInIdeal
public import proofs.«01_k».proof.Proof.Gen.ValuesInRefIdeal
public import proofs.«01_k».proof.Proof.Gen.ValuesInRefIdeal.Run
public import proofs.«01_k».proof.Proof.Gen.MixGateIn
public import proofs.«01_k».proof.Proof.Gen.MixGateInIdeal
public import proofs.«01_k».proof.Proof.Gen.MixGateInIdeal.Value
public import proofs.«01_k».proof.Proof.Gen.MixGateInRefIdeal
public import proofs.«01_k».proof.Proof.Gen.MixGateInRefIdeal.Run
public import proofs.«01_k».proof.Proof.Gen.MixGateIn.Frame
public import proofs.«01_k».proof.Proof.Gen.ConvIn
public import proofs.«01_k».proof.Proof.Gen.ConvInIdeal
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvOut
public import proofs.«01_k».proof.Proof.Gen.ConvOutIdeal
public import proofs.«01_k».proof.Proof.Gen.ConvOutIdeal.Value
public import proofs.«01_k».proof.Proof.Gen.ConvOutRefIdeal
public import proofs.«01_k».proof.Proof.Gen.ConvOutRefIdeal.Run
public import proofs.«01_k».proof.Proof.Gen.AbOut
public import proofs.«01_k».proof.Proof.Gen.AbOutIdeal
public import proofs.«01_k».proof.Proof.Gen.AbOutIdeal.Value
public import proofs.«01_k».proof.Proof.Gen.AbOutRefIdeal
public import proofs.«01_k».proof.Proof.Gen.AbOutRefIdeal.Run
public import proofs.«01_k».proof.Proof.Gen.AbOut.Frame
public import proofs.«01_k».proof.Proof.Gen.QueriesIn
public import proofs.«01_k».proof.Proof.Gen.QueriesInIdeal
public import proofs.«01_k».proof.Proof.Gen.QueriesInIdeal.Value
public import proofs.«01_k».proof.Proof.Gen.QueriesInRefIdeal
public import proofs.«01_k».proof.Proof.Gen.QueriesInRefIdeal.Run
public import proofs.«01_k».proof.Proof.Gen.QueriesIn.Frame
public import proofs.«01_k».proof.Proof.Gen.GateIn
public import proofs.«01_k».proof.Proof.Gen.GateInIdeal
public import proofs.«01_k».proof.Proof.Gen.GateInIdeal.Value
public import proofs.«01_k».proof.Proof.Gen.GateInRefIdeal
public import proofs.«01_k».proof.Proof.Gen.GateInRefIdeal.Run
public import proofs.«01_k».proof.Proof.Gen.GateIn.Frame
public import proofs.«01_k».proof.Proof.Gen.GeluIn
public import proofs.«01_k».proof.Proof.Gen.GeluInIdeal
public import proofs.«01_k».proof.Proof.Gen.GeluInIdeal.Value
public import proofs.«01_k».proof.Proof.Gen.GeluInRefIdeal
public import proofs.«01_k».proof.Proof.Gen.GeluInRefIdeal.Run
public import proofs.«01_k».proof.Proof.Gen.GeluIn.Frame
public import proofs.«01_k».proof.Proof.Gen.NormIn
public import proofs.«01_k».proof.Proof.Gen.NormInIdeal
public import proofs.«01_k».proof.Proof.Gen.NormInIdeal.Value
public import proofs.«01_k».proof.Proof.Gen.NormInRefIdeal
public import proofs.«01_k».proof.Proof.Gen.NormInRefIdeal.Run
public import proofs.«01_k».proof.Proof.Gen.NormIn.Frame
public import proofs.«01_k».proof.Proof.Gen.NormMod
public import proofs.«01_k».proof.Proof.Gen.NormModIdeal
public import proofs.«01_k».proof.Proof.Gen.NormModIdeal.Value
public import proofs.«01_k».proof.Proof.Gen.NormModRefIdeal
public import proofs.«01_k».proof.Proof.Gen.NormModRefIdeal.Run
public import proofs.«01_k».proof.Proof.Gen.NormMod.Frame
public import proofs.«01_k».proof.Proof.Gen.FinalNorm
public import proofs.«01_k».proof.Proof.Gen.FinalNormIdeal
public import proofs.«01_k».proof.Proof.Gen.FinalNormIdeal.Value
public import proofs.«01_k».proof.Proof.Gen.FinalNormRefIdeal
public import proofs.«01_k».proof.Proof.Gen.FinalNormRefIdeal.Run
public import proofs.«01_k».proof.Proof.Gen.FinalNorm.Frame
public import proofs.«01_k».proof.Proof.Gen.NormInSample
public import proofs.«01_k».proof.Proof.Gen.NormInSampleIdeal
public import proofs.«01_k».proof.Proof.Gen.NormInSampleIdeal.Value
public import proofs.«01_k».proof.Proof.Gen.NormInSampleRefIdeal
public import proofs.«01_k».proof.Proof.Gen.NormInSampleRefIdeal.Run
public import proofs.«01_k».proof.Proof.Gen.NormInSample.Frame
public import proofs.«01_k».proof.Proof.Gen.FinalNormSample
public import proofs.«01_k».proof.Proof.Gen.FinalNormSampleIdeal
public import proofs.«01_k».proof.Proof.Gen.FinalNormSampleIdeal.Value
public import proofs.«01_k».proof.Proof.Gen.FinalNormSampleRefIdeal
public import proofs.«01_k».proof.Proof.Gen.FinalNormSampleRefIdeal.Run
public import proofs.«01_k».proof.Proof.Gen.FinalNormSample.Frame

@[expose] public section

noncomputable section

namespace Cert.Proof

theorem claim : Cert.Claim :=
  ⟨Cert.Kernel.Gen.facts, Cert.KernelIdeal.Gen.facts, Cert.ReferenceIdeal.Gen.facts,
    Cert.ConvIn.Gen.facts, Cert.ConvInIdeal.Gen.facts, Cert.ConvInRefIdeal.Gen.facts,
    Cert.ConvOut.Gen.facts, Cert.ConvOutIdeal.Gen.facts, Cert.ConvOutRefIdeal.Gen.facts,
      Cert.AbOut.Gen.facts, Cert.AbOutIdeal.Gen.facts, Cert.AbOutRefIdeal.Gen.facts,
      Cert.KeysIn.Gen.facts, Cert.KeysInIdeal.Gen.facts, Cert.KeysInRefIdeal.Gen.facts,
      Cert.ValuesIn.Gen.facts, Cert.ValuesInIdeal.Gen.facts, Cert.ValuesInRefIdeal.Gen.facts,
      Cert.QueriesIn.Gen.facts, Cert.QueriesInIdeal.Gen.facts, Cert.QueriesInRefIdeal.Gen.facts,
      Cert.GateIn.Gen.facts, Cert.GateInIdeal.Gen.facts, Cert.GateInRefIdeal.Gen.facts,
      Cert.MixGateIn.Gen.facts, Cert.MixGateInIdeal.Gen.facts, Cert.MixGateInRefIdeal.Gen.facts,
      Cert.GeluIn.Gen.facts, Cert.GeluInIdeal.Gen.facts, Cert.GeluInRefIdeal.Gen.facts,
      Cert.NormIn.Gen.facts, Cert.NormInIdeal.Gen.facts, Cert.NormInRefIdeal.Gen.facts,
      Cert.NormMod.Gen.facts, Cert.NormModIdeal.Gen.facts, Cert.NormModRefIdeal.Gen.facts,
      Cert.FinalNorm.Gen.facts, Cert.FinalNormIdeal.Gen.facts, Cert.FinalNormRefIdeal.Gen.facts,
      Cert.NormInSample.Gen.facts, Cert.NormInSampleIdeal.Gen.facts, Cert.NormInSampleRefIdeal.Gen.facts,
      Cert.FinalNormSample.Gen.facts, Cert.FinalNormSampleIdeal.Gen.facts, Cert.FinalNormSampleRefIdeal.Gen.facts,
      Cert.Pre_finite_qk.Gen.facts,
    Attention.frame_p, Attention.frame_pi, Attention.frame_pi_finite, Attention.frame_ri, Attention.frame_ri_finite,
    ConvIn.frame_p, ConvIn.frame_pi, ConvIn.frame_ri, ConvOut.frame_p, ConvOut.frame_pi, ConvOut.frame_ri,
      AbOut.frame_p, AbOut.frame_pi, AbOut.frame_ri,
      KeysIn.frame_p, KeysIn.frame_pi, KeysIn.frame_ri,
      ValuesIn.frame_p, ValuesIn.frame_pi, ValuesIn.frame_ri,
      QueriesIn.frame_p, QueriesIn.frame_pi, QueriesIn.frame_ri,
      GateIn.frame_p, GateIn.frame_pi, GateIn.frame_ri,
      MixGateIn.frame_p, MixGateIn.frame_pi, MixGateIn.frame_ri,
      GeluIn.frame_p, GeluIn.frame_pi, GeluIn.frame_ri,
      NormIn.frame_p, NormIn.frame_pi, NormIn.frame_ri,
      NormMod.frame_p, NormMod.frame_pi, NormMod.frame_ri,
      FinalNorm.frame_p, FinalNorm.frame_pi, FinalNorm.frame_ri,
      NormInSample.frame_p, NormInSample.frame_pi, NormInSample.frame_ri,
      FinalNormSample.frame_p, FinalNormSample.frame_pi, FinalNormSample.frame_ri,
    Attention.preserves, Attention.algebraic, ConvIn.preserves, ConvIn.algebraic, ConvOut.preserves, ConvOut.algebraic,
      AbOut.preserves, AbOut.algebraic,
      KeysIn.preserves, KeysIn.algebraic,
      ValuesIn.preserves, ValuesIn.algebraic,
      QueriesIn.preserves, QueriesIn.algebraic,
      GateIn.preserves, GateIn.algebraic,
      MixGateIn.preserves, MixGateIn.algebraic,
      GeluIn.preserves, GeluIn.algebraic,
      NormIn.preserves, NormIn.algebraic,
      NormMod.preserves, NormMod.algebraic,
      FinalNorm.preserves, FinalNorm.algebraic,
      NormInSample.preserves, NormInSample.algebraic,
      FinalNormSample.preserves, FinalNormSample.algebraic⟩

end Cert.Proof

end
